-- ==== Defs.lean ====
def Pre_Kernel [hPre_no_carry : Cert.Pre_no_carry.Facts] (m : (ℓ : Loc Cert.Kernel.nD Cert.Kernel.τ Cert.Kernel.sig) → Buf (Elt Bits) ℓ) : Prop :=
  ∀ c : Dev Cert.Kernel.nD,
    (Cert.Pre_no_carry.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_no_carry : Cert.Pre_no_carry.Facts] (m : (ℓ : Loc Cert.KernelIdeal.nD Cert.KernelIdeal.τ Cert.KernelIdeal.sig) → Buf (Elt Ideal) ℓ) : Prop :=
  ∀ c : Dev Cert.KernelIdeal.nD,
    (Cert.Pre_no_carry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_carry [hPre_no_carry : Cert.Pre_no_carry.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_carry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitReference (m : (ℓ : Loc Cert.SplitReference.nD Cert.SplitReference.τ Cert.SplitReference.sig) → Buf (Elt Bits) ℓ) : Prop :=
  True

def Pre_SplitReferenceIdeal (m : (ℓ : Loc Cert.SplitReferenceIdeal.nD Cert.SplitReferenceIdeal.τ Cert.SplitReferenceIdeal.sig) → Buf (Elt Ideal) ℓ) : Prop :=
  True

def quiescent_Kernel [hKernel : Cert.Kernel.Facts] [hPre_no_carry : Cert.Pre_no_carry.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_no_carry : Cert.Pre_no_carry.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_carry [hReferenceIdeal : Cert.ReferenceIdeal.Facts] [hPre_no_carry : Cert.Pre_no_carry.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_carry m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ r.2.sem = fun _ => 0)

def quiescent_SplitReference [hSplitReference : Cert.SplitReference.Facts] : Prop :=
  ∀ (m : (ℓ : Loc Cert.SplitReference.nD Cert.SplitReference.τ Cert.SplitReference.sig) → Buf (Elt Bits) ℓ) (g : Dev Cert.SplitReference.nD → PrngReg), Pre_SplitReference m →
    θ_run (Cert.SplitReference.defs (F := Bits)) (onTc (τ := Cert.SplitReference.τ) (Cert.SplitReference.main (F := Bits))) ⟨m, fun _ => 0, g⟩ (fun r => (∀ c : Dev Cert.SplitReference.nD,
      r.2.mem ((c.tc : Thread Cert.SplitReference.nD Cert.SplitReference.τ).loc Cert.SplitReference.main_arg0) = m ((c.tc : Thread Cert.SplitReference.nD Cert.SplitReference.τ).loc Cert.SplitReference.main_arg0))
      ∧ r.2.sem = fun _ => 0)

def quiescent_SplitReferenceIdeal [hSplitReferenceIdeal : Cert.SplitReferenceIdeal.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_carry : Cert.Pre_no_carry.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Split_SplitIdeal : Prop :=
  True

def bitexact_Split_SplitReference [hSplit : Cert.Split.Facts] [hSplitReference : Cert.SplitReference.Facts] : Prop :=
  ∀ (m : (ℓ : Loc Cert.Split.nD Cert.Split.τ Cert.Split.sig) → Buf (Elt Bits) ℓ) (g : Dev Cert.Split.nD → PrngReg)
    (m' : (ℓ : Loc Cert.SplitReference.nD Cert.SplitReference.τ Cert.SplitReference.sig) → Buf (Elt Bits) ℓ) (g' : Dev Cert.SplitReference.nD → PrngReg), Pre_Split m →
    (∀ c : Dev Cert.Split.nD,
      m' ((c.tc : Thread Cert.SplitReference.nD Cert.SplitReference.τ).loc Cert.SplitReference.main_arg0) = m ((c.tc : Thread Cert.Split.nD Cert.Split.τ).loc Cert.Split.main_arg0)) →
    ∃ (v0 : (c : Dev Cert.Split.nD) → Buf (Elt Bits) ((c.tc : Thread Cert.Split.nD Cert.Split.τ).loc Cert.Split.main_v0)),
      θ_run (Cert.Split.defs (F := Bits)) (onTc (τ := Cert.Split.τ) (Cert.Split.main (F := Bits))) ⟨m, fun _ => 0, g⟩ (fun r => ∀ c : Dev Cert.Split.nD,
          r.2.mem ((c.tc : Thread Cert.Split.nD Cert.Split.τ).loc Cert.Split.main_v0) = v0 c
          ∧ r.2.mem ((c.tc : Thread Cert.Split.nD Cert.Split.τ).loc Cert.Split.main_arg0) = m ((c.tc : Thread Cert.Split.nD Cert.Split.τ).loc Cert.Split.main_arg0))
      ∧ θ_run (Cert.SplitReference.defs (F := Bits)) (onTc (τ := Cert.SplitReference.τ) (Cert.SplitReference.main (F := Bits))) ⟨m', fun _ => 0, g'⟩ (fun r => ∀ c : Dev Cert.SplitReference.nD,
          r.2.mem ((c.tc : Thread Cert.SplitReference.nD Cert.SplitReference.τ).loc Cert.SplitReference.main_v10) = v0 c
          ∧ r.2.mem ((c.tc : Thread Cert.SplitReference.nD Cert.SplitReference.τ).loc Cert.SplitReference.main_arg0) = m' ((c.tc : Thread Cert.SplitReference.nD Cert.SplitReference.τ).loc Cert.SplitReference.main_arg0))

def algebraic_SplitIdeal_SplitReferenceIdeal [hSplitIdeal : Cert.SplitIdeal.Facts] [hSplitReferenceIdeal : Cert.SplitReferenceIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitReferenceIdeal.nD Cert.SplitReferenceIdeal.τ Cert.SplitReferenceIdeal.sig) → Buf (Elt Ideal) ℓ) (g' : Dev Cert.SplitReferenceIdeal.nD → PrngReg), Pre_SplitIdeal m →
    (∀ c : Dev Cert.SplitIdeal.nD,
      m' ((c.tc : Thread Cert.SplitReferenceIdeal.nD Cert.SplitReferenceIdeal.τ).loc Cert.SplitReferenceIdeal.main_arg0) = m ((c.tc : Thread Cert.SplitIdeal.nD Cert.SplitIdeal.τ).loc Cert.SplitIdeal.main_arg0)) →
    ∃ (v0 : (c : Dev Cert.SplitIdeal.nD) → Buf (Elt Ideal) ((c.tc : Thread Cert.SplitIdeal.nD Cert.SplitIdeal.τ).loc Cert.SplitIdeal.main_v0)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v0) = v0 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ θ_run (Cert.SplitReferenceIdeal.defs (F := Ideal)) (onTc (τ := Cert.SplitReferenceIdeal.τ) (Cert.SplitReferenceIdeal.main (F := Ideal))) ⟨m', fun _ => 0, g'⟩ (fun r => ∀ c : Dev Cert.SplitReferenceIdeal.nD,
          r.2.mem ((c.tc : Thread Cert.SplitReferenceIdeal.nD Cert.SplitReferenceIdeal.τ).loc Cert.SplitReferenceIdeal.main_v10) = v0 c
          ∧ r.2.mem ((c.tc : Thread Cert.SplitReferenceIdeal.nD Cert.SplitReferenceIdeal.τ).loc Cert.SplitReferenceIdeal.main_arg0) = m' ((c.tc : Thread Cert.SplitReferenceIdeal.nD Cert.SplitReferenceIdeal.τ).loc Cert.SplitReferenceIdeal.main_arg0))

def Claim : Prop :=
  ∃ (hKernel : Cert.Kernel.Facts) (hKernelIdeal : Cert.KernelIdeal.Facts) (hReferenceIdeal : Cert.ReferenceIdeal.Facts) (hSplit : Cert.Split.Facts) (hSplitIdeal : Cert.SplitIdeal.Facts) (hSplitReference : Cert.SplitReference.Facts) (hSplitReferenceIdeal : Cert.SplitReferenceIdeal.Facts) (hPre_no_carry : Cert.Pre_no_carry.Facts),
    quiescent_Kernel (hKernel := hKernel) (hPre_no_carry := hPre_no_carry)
    ∧ quiescent_KernelIdeal (hKernelIdeal := hKernelIdeal) (hPre_no_carry := hPre_no_carry)
    ∧ quiescent_ReferenceIdeal (hReferenceIdeal := hReferenceIdeal)
    ∧ quiescent_ReferenceIdeal_pre_no_carry (hReferenceIdeal := hReferenceIdeal) (hPre_no_carry := hPre_no_carry)
    ∧ quiescent_Split (hSplit := hSplit)
    ∧ quiescent_SplitIdeal (hSplitIdeal := hSplitIdeal)
    ∧ quiescent_SplitReference (hSplitReference := hSplitReference)
    ∧ quiescent_SplitReferenceIdeal (hSplitReferenceIdeal := hSplitReferenceIdeal)
    ∧ preserves_Kernel_KernelIdeal
    ∧ algebraic_KernelIdeal_ReferenceIdeal (hKernelIdeal := hKernelIdeal) (hReferenceIdeal := hReferenceIdeal) (hPre_no_carry := hPre_no_carry)
    ∧ preserves_Split_SplitIdeal
    ∧ bitexact_Split_SplitReference (hSplit := hSplit) (hSplitReference := hSplitReference)
    ∧ algebraic_SplitIdeal_SplitReferenceIdeal (hSplitIdeal := hSplitIdeal) (hSplitReferenceIdeal := hSplitReferenceIdeal)
-- ==== Pre_no_carry.lean ====
abbrev S4096 : Shape := ⟨1, ![4096]⟩
abbrev S56x51200 : Shape := ⟨2, ![56, 51200]⟩
abbrev S384x224 : Shape := ⟨2, ![384, 224]⟩
abbrev S12800x128 : Shape := ⟨2, ![12800, 128]⟩
abbrev S400x128 : Shape := ⟨2, ![400, 128]⟩
abbrev S51200x128 : Shape := ⟨2, ![51200, 128]⟩
abbrev S32x128 : Shape := ⟨2, ![32, 128]⟩
abbrev S32x1 : Shape := ⟨2, ![32, 1]⟩
abbrev S32 : Shape := ⟨1, ![32]⟩
abbrev S_ : Shape := ⟨0, ![]⟩

class Facts : Prop where
  shapeCasts_S4096_S32x128 : S4096.ShapeCasts S32x128
  slices_S32x128_S32x1_0_127 : S32x128.Slices ![0, 127] S32x1
  shapeCasts_S32x1_S32 : S32x1.ShapeCasts S32
  bcast_S_S32 : S_.BroadcastsInDim S32 (![] : Fin 0 → Fin S32.rank)

variable [Facts]

def fn {F : FTy → Type} [FloatOps F] (main_arg0 : IVec S4096 32) (main_arg1 : IVec S56x51200 32) (main_arg2 : FVec F S384x224 .bf16) (main_arg3 : IVec S12800x128 32) (main_arg4 : IVec S400x128 32) (main_arg5 : FVec F S400x128 .f32) (main_arg6 : IVec S51200x128 32) : IVec S32 1 :=
  let main_v0 : IVec S32x128 32 := shapeCast S32x128 main_arg0 shapeCasts_S4096_S32x128
  let main_v1 : IVec S32x1 32 := (extractStridedSlice S32x1 ![0, 127] · slices_S32x128_S32x1_0_127) main_v0
  let main_v2 : IVec S32 32 := shapeCast S32 main_v1 shapeCasts_S32x1_S32
  let main_c : IVec S_ 32 := constantI S_ 32 0#32
  let main_v3 : IVec S32 32 := broadcastInDim S32 ![] bcast_S_S32 main_c
  let main_v4 : IVec S32 1 := cmpi .eq main_v2 main_v3
  main_v4
-- ==== Kernel.lean ====
abbrev S4096 : Shape := ⟨1, ![4096]⟩
abbrev S56x51200 : Shape := ⟨2, ![56, 51200]⟩
abbrev S384x224 : Shape := ⟨2, ![384, 224]⟩
abbrev S12800x128 : Shape := ⟨2, ![12800, 128]⟩
abbrev S400x128 : Shape := ⟨2, ![400, 128]⟩
abbrev S51200x128 : Shape := ⟨2, ![51200, 128]⟩
abbrev S56x2560 : Shape := ⟨2, ![56, 2560]⟩
abbrev S640x128 : Shape := ⟨2, ![640, 128]⟩
abbrev S2560x128 : Shape := ⟨2, ![2560, 128]⟩
abbrev S1 : Shape := ⟨1, ![1]⟩
abbrev S56x256 : Shape := ⟨2, ![56, 256]⟩
abbrev S224x256 : Shape := ⟨2, ![224, 256]⟩
abbrev S128x224 : Shape := ⟨2, ![128, 224]⟩
abbrev S128x256 : Shape := ⟨2, ![128, 256]⟩
abbrev S128x128 : Shape := ⟨2, ![128, 128]⟩
abbrev S128 : Shape := ⟨1, ![128]⟩
abbrev S1x128 : Shape := ⟨2, ![1, 128]⟩
abbrev S4x128 : Shape := ⟨2, ![4, 128]⟩
abbrev S512x128 : Shape := ⟨2, ![512, 128]⟩
abbrev S1x2560 : Shape := ⟨2, ![1, 2560]⟩

abbrev nBuf : Space → Nat
  | .hbm => 11
  | .vmem => 16
  | .smem => 1
  | _ => 0

abbrev bufTy : (tb : Table) → Fin (tcTables nBuf tb) → BufTy
  | .hbm, ⟨0, _⟩ => ⟨S4096, .i32⟩
  | .hbm, ⟨1, _⟩ => ⟨S56x51200, .i32⟩
  | .hbm, ⟨2, _⟩ => ⟨S384x224, .bf16⟩
  | .hbm, ⟨3, _⟩ => ⟨S12800x128, .i32⟩
  | .hbm, ⟨4, _⟩ => ⟨S400x128, .i32⟩
  | .hbm, ⟨5, _⟩ => ⟨S400x128, .f32⟩
  | .hbm, ⟨6, _⟩ => ⟨S51200x128, .i32⟩
  | .hbm, ⟨7, _⟩ => ⟨S51200x128, .i8⟩
  | .hbm, ⟨8, _⟩ => ⟨S400x128, .f32⟩
  | .hbm, ⟨9, _⟩ => ⟨S400x128, .f32⟩
  | .hbm, ⟨10, _⟩ => ⟨S400x128, .f32⟩
  | .local _ .vmem, ⟨0, _⟩ => ⟨S56x2560, .i32⟩
  | .local _ .vmem, ⟨1, _⟩ => ⟨S56x2560, .i32⟩
  | .local _ .vmem, ⟨2, _⟩ => ⟨S384x224, .bf16⟩
  | .local _ .vmem, ⟨3, _⟩ => ⟨S640x128, .i32⟩
  | .local _ .vmem, ⟨4, _⟩ => ⟨S640x128, .i32⟩
  | .local _ .vmem, ⟨5, _⟩ => ⟨S400x128, .i32⟩
  | .local _ .vmem, ⟨6, _⟩ => ⟨S400x128, .f32⟩
  | .local _ .vmem, ⟨7, _⟩ => ⟨S2560x128, .i32⟩
  | .local _ .vmem, ⟨8, _⟩ => ⟨S2560x128, .i32⟩
  | .local _ .vmem, ⟨9, _⟩ => ⟨S2560x128, .i8⟩
  | .local _ .vmem, ⟨10, _⟩ => ⟨S2560x128, .i8⟩
  | .local _ .vmem, ⟨11, _⟩ => ⟨S400x128, .f32⟩
  | .local _ .vmem, ⟨12, _⟩ => ⟨S400x128, .f32⟩
  | .local _ .vmem, ⟨13, _⟩ => ⟨S400x128, .f32⟩
  | .local _ .vmem, ⟨14, _⟩ => ⟨S2560x128, .f32⟩
  | .local _ .vmem, ⟨15, _⟩ => ⟨S56x2560, .i32⟩
  | .local _ .smem, ⟨0, _⟩ => ⟨S4096, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![20], ![false]⟩

def k0_off1 (i : grid0.Coords) (c0_i32_34 : BitVec 32) (c0_i32_35 : BitVec 32) : Fin 2 → Nat :=
  let arg0 : BitVec 32 := BitVec.ofNat 32 (i 0).val
  let c5_i32 : BitVec 32 := 5#32
  let v123 : BitVec 32 := Scalar.muli arg0 c5_i32
  let v124 : BitVec 32 := Scalar.addi c0_i32_34 v123
  let v125 : BitVec 32 := Scalar.addi v124 c0_i32_35
  let v126 : Index := Scalar.indexCast v125
  let c0_36 : Index := 0#32
  ![v126.toNat, 0]
@[reducible] def k0_t1_loop : Scf.Loop 32 :=
  let c0_i32_5 : BitVec 32 := 0#32
  let c32_i32 : BitVec 32 := 32#32
  let v74 : BitVec 32 := Scalar.addi c0_i32_5 c32_i32
  let c1_i32 : BitVec 32 := 1#32
  ⟨c0_i32_5, v74, c1_i32⟩
def k0_off2 (k0_t1 : Fin k0_t1_loop.trips) : Fin 1 → Nat :=
  let c0_i32_1164 : BitVec 32 := 0#32
  let c0_i32_5 : BitVec 32 := 0#32
  let c1_i32 : BitVec 32 := 1#32
  let arg14 : BitVec 32 := Scf.iv c0_i32_5 c1_i32 k0_t1
  let c1_i32_1163 : BitVec 32 := 1#32
  let v2405 : BitVec 32 := Scalar.muli arg14 c1_i32_1163
  let v2406 : BitVec 32 := Scalar.addi c0_i32_1164 v2405
  let c1_i32_1165 : BitVec 32 := 1#32
  let v2407 : BitVec 32 := Scalar.addi v2406 c1_i32_1165
  let c128_i32 : BitVec 32 := 128#32
  let v2408 : BitVec 32 := Scalar.muli v2407 c128_i32
  let c1_i32_1166 : BitVec 32 := 1#32
  let v2409 : BitVec 32 := Scalar.subi v2408 c1_i32_1166
  let v2410 : Index := Scalar.indexCast v2409
  ![v2410.toNat]
@[reducible] def k0_t2_loop (v2411 : BitVec 32) : Scf.Loop 32 :=
  let c0_i32_1173 : BitVec 32 := 0#32
  let c0_i32_1167 : BitVec 32 := 0#32
  let v2412 : BitVec 32 := Scalar.subi v2411 c0_i32_1167
  let c1_i32_1168 : BitVec 32 := 1#32
  let c1_i32_1169 : BitVec 32 := 1#32
  let v2413 : BitVec 32 := Scalar.subi c1_i32_1168 c1_i32_1169
  let v2414 : BitVec 32 := Scalar.addi v2412 v2413
  let c1_i32_1170 : BitVec 32 := 1#32
  let v2415 : BitVec 32 := Scalar.divsi v2414 c1_i32_1170
  let v2416 : BitVec 32 := Scalar.subi v2415 c0_i32_1173
  let c1_i32_1174 : BitVec 32 := 1#32
  let v2418 : BitVec 32 := Scalar.divsi v2416 c1_i32_1174
  let v2419 : BitVec 32 := Scalar.muli v2418 c1_i32_1174
  let v2420 : BitVec 32 := Scalar.addi c0_i32_1173 v2419
  let c1_i32_1175 : BitVec 32 := 1#32
  ⟨c0_i32_1173, v2420, c1_i32_1175⟩
def k0_cond2 (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) : BitVec 1 :=
  let v2 : BitVec 32 := Scalar.addi v0 v1
  let v4 : BitVec 32 := Scalar.addi v2 v3
  let v6 : BitVec 32 := Scalar.addi v4 v5
  let v8 : BitVec 32 := Scalar.addi v6 v7
  let v10 : BitVec 32 := Scalar.addi v8 v9
  let v12 : BitVec 32 := Scalar.addi v10 v11
  let v14 : BitVec 32 := Scalar.addi v12 v13
  let v16 : BitVec 32 := Scalar.addi v14 v15
  let v18 : BitVec 32 := Scalar.addi v16 v17
  let v20 : BitVec 32 := Scalar.addi v18 v19
  let v22 : BitVec 32 := Scalar.addi v20 v21
  let v24 : BitVec 32 := Scalar.addi v22 v23
  let v26 : BitVec 32 := Scalar.addi v24 v25
  let v28 : BitVec 32 := Scalar.addi v26 v27
  let v30 : BitVec 32 := Scalar.addi v28 v29
  let v32 : BitVec 32 := Scalar.addi v30 v31
  let v34 : BitVec 32 := Scalar.addi v32 v33
  let v36 : BitVec 32 := Scalar.addi v34 v35
  let v38 : BitVec 32 := Scalar.addi v36 v37
  let v40 : BitVec 32 := Scalar.addi v38 v39
  let v42 : BitVec 32 := Scalar.addi v40 v41
  let v44 : BitVec 32 := Scalar.addi v42 v43
  let v46 : BitVec 32 := Scalar.addi v44 v45
  let v48 : BitVec 32 := Scalar.addi v46 v47
  let v50 : BitVec 32 := Scalar.addi v48 v49
  let v52 : BitVec 32 := Scalar.addi v50 v51
  let v54 : BitVec 32 := Scalar.addi v52 v53
  let v56 : BitVec 32 := Scalar.addi v54 v55
  let v58 : BitVec 32 := Scalar.addi v56 v57
  let v60 : BitVec 32 := Scalar.addi v58 v59
  let v62 : BitVec 32 := Scalar.addi v60 v61
  let c0_i32_1 : BitVec 32 := 0#32
  let v66 : BitVec 1 := Scalar.cmpi .sgt v62 c0_i32_1
  let v67 : BitVec 32 := Scalar.extui v66
  let c0_i32_2 : BitVec 32 := 0#32
  let v68 : BitVec 1 := Scalar.cmpi .ne v67 c0_i32_2
  v68

def k0_off3 (k0_t1 : Fin k0_t1_loop.trips) (v2411 : BitVec 32) (k0_t2 : Fin (k0_t2_loop v2411).trips) : Fin 1 → Nat :=
  let c0_i32_1164 : BitVec 32 := 0#32
  let c0_i32_5 : BitVec 32 := 0#32
  let c1_i32 : BitVec 32 := 1#32
  let arg14 : BitVec 32 := Scf.iv c0_i32_5 c1_i32 k0_t1
  let c1_i32_1163 : BitVec 32 := 1#32
  let v2405 : BitVec 32 := Scalar.muli arg14 c1_i32_1163
  let v2406 : BitVec 32 := Scalar.addi c0_i32_1164 v2405
  let c128_i32_1177 : BitVec 32 := 128#32
  let v2423 : BitVec 32 := Scalar.muli v2406 c128_i32_1177
  let c0_i32_1172 : BitVec 32 := 0#32
  let c0_i32_1173 : BitVec 32 := 0#32
  let c1_i32_1175 : BitVec 32 := 1#32
  let arg15 : BitVec 32 := Scf.iv c0_i32_1173 c1_i32_1175 k0_t2
  let c1_i32_1171 : BitVec 32 := 1#32
  let v2421 : BitVec 32 := Scalar.muli arg15 c1_i32_1171
  let v2422 : BitVec 32 := Scalar.addi c0_i32_1172 v2421
  let v2424 : BitVec 32 := Scalar.addi v2423 v2422
  let v2425 : Index := Scalar.indexCast v2424
  ![v2425.toNat]
def k0_off4 (v2426 : BitVec 32) : Fin 2 → Nat :=
  let c255_i32_1179 : BitVec 32 := 255#32
  let v2430 : BitVec 32 := Scalar.andi v2426 c255_i32_1179
  let c2_i32_1180 : BitVec 32 := 2#32
  let v2431 : BitVec 32 := Scalar.shrsi v2430 c2_i32_1180
  let v2435 : Index := Scalar.indexCast v2431
  let c0_1184 : Index := 0#32
  ![v2435.toNat, 0]

def k0_chk2 (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (v2426 : BitVec 32) : Prop :=
  (∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off4 v2426) a + S1x2560.size a ≤ S56x2560.size a)
theorem k0_off4_inb : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (v2426 : BitVec 32) (k0_hw2 : k0_chk2 v0 v1 v3 v5 v7 v9 v11 v13 v15 v17 v19 v21 v23 v25 v27 v29 v31 v33 v35 v37 v39 v41 v43 v45 v47 v49 v51 v53 v55 v57 v59 v61 v2426), ∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off4 v2426) a + S1x2560.size a ≤ S56x2560.size a := fun v0 v1 v3 v5 v7 v9 v11 v13 v15 v17 v19 v21 v23 v25 v27 v29 v31 v33 v35 v37 v39 v41 v43 v45 v47 v49 v51 v53 v55 v57 v59 v61 v2426 k0_hw2 k0_h2 => k0_hw2 k0_h2

@[reducible] def k0_t3_loop (v2411 : BitVec 32) : Scf.Loop 32 :=
  let c0_i32_1173 : BitVec 32 := 0#32
  let c0_i32_1167 : BitVec 32 := 0#32
  let v2412 : BitVec 32 := Scalar.subi v2411 c0_i32_1167
  let c1_i32_1168 : BitVec 32 := 1#32
  let c1_i32_1169 : BitVec 32 := 1#32
  let v2413 : BitVec 32 := Scalar.subi c1_i32_1168 c1_i32_1169
  let v2414 : BitVec 32 := Scalar.addi v2412 v2413
  let c1_i32_1170 : BitVec 32 := 1#32
  let v2415 : BitVec 32 := Scalar.divsi v2414 c1_i32_1170
  let v2416 : BitVec 32 := Scalar.subi v2415 c0_i32_1173
  let c1_i32_1174 : BitVec 32 := 1#32
  let v2418 : BitVec 32 := Scalar.divsi v2416 c1_i32_1174
  let v2419 : BitVec 32 := Scalar.muli v2418 c1_i32_1174
  let v2420 : BitVec 32 := Scalar.addi c0_i32_1173 v2419
  let v2417 : BitVec 32 := Scalar.addi c0_i32_1173 v2416
  let c1_i32_1176 : BitVec 32 := 1#32
  ⟨v2420, v2417, c1_i32_1176⟩
def k0_off5 (k0_t1 : Fin k0_t1_loop.trips) (v2411 : BitVec 32) (k0_t3 : Fin (k0_t3_loop v2411).trips) : Fin 1 → Nat :=
  let c0_i32_1164 : BitVec 32 := 0#32
  let c0_i32_5 : BitVec 32 := 0#32
  let c1_i32 : BitVec 32 := 1#32
  let arg14 : BitVec 32 := Scf.iv c0_i32_5 c1_i32 k0_t1
  let c1_i32_1163 : BitVec 32 := 1#32
  let v2405 : BitVec 32 := Scalar.muli arg14 c1_i32_1163
  let v2406 : BitVec 32 := Scalar.addi c0_i32_1164 v2405
  let c128_i32_1177 : BitVec 32 := 128#32
  let v2423 : BitVec 32 := Scalar.muli v2406 c128_i32_1177
  let c0_i32_1172 : BitVec 32 := 0#32
  let c0_i32_1173 : BitVec 32 := 0#32
  let c0_i32_1167 : BitVec 32 := 0#32
  let v2412 : BitVec 32 := Scalar.subi v2411 c0_i32_1167
  let c1_i32_1168 : BitVec 32 := 1#32
  let c1_i32_1169 : BitVec 32 := 1#32
  let v2413 : BitVec 32 := Scalar.subi c1_i32_1168 c1_i32_1169
  let v2414 : BitVec 32 := Scalar.addi v2412 v2413
  let c1_i32_1170 : BitVec 32 := 1#32
  let v2415 : BitVec 32 := Scalar.divsi v2414 c1_i32_1170
  let v2416 : BitVec 32 := Scalar.subi v2415 c0_i32_1173
  let c1_i32_1174 : BitVec 32 := 1#32
  let v2418 : BitVec 32 := Scalar.divsi v2416 c1_i32_1174
  let v2419 : BitVec 32 := Scalar.muli v2418 c1_i32_1174
  let v2420 : BitVec 32 := Scalar.addi c0_i32_1173 v2419
  let c1_i32_1176 : BitVec 32 := 1#32
  let arg15 : BitVec 32 := Scf.iv v2420 c1_i32_1176 k0_t3
  let c1_i32_1171 : BitVec 32 := 1#32
  let v2421 : BitVec 32 := Scalar.muli arg15 c1_i32_1171
  let v2422 : BitVec 32 := Scalar.addi c0_i32_1172 v2421
  let v2424 : BitVec 32 := Scalar.addi v2423 v2422
  let v2425 : Index := Scalar.indexCast v2424
  ![v2425.toNat]

def k0_chk1 (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (k0_t1 : Fin k0_t1_loop.trips) (v2411 : BitVec 32) : Prop :=
  (∀ (k0_h2 : k0_cond2 v0 v1 v3 v5 v7 v9 v11 v13 v15 v17 v19 v21 v23 v25 v27 v29 v31 v33 v35 v37 v39 v41 v43 v45 v47 v49 v51 v53 v55 v57 v59 v61 = 1#1), (k0_t2_loop v2411).OK) ∧
  (∀ k0_t2 : Fin (k0_t2_loop v2411).trips, ∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off3 k0_t1 v2411 k0_t2) a + S1.size a ≤ S4096.size a) ∧
  (∀ (k0_h2 : k0_cond2 v0 v1 v3 v5 v7 v9 v11 v13 v15 v17 v19 v21 v23 v25 v27 v29 v31 v33 v35 v37 v39 v41 v43 v45 v47 v49 v51 v53 v55 v57 v59 v61 = 1#1), (k0_t3_loop v2411).OK) ∧
  (∀ k0_t3 : Fin (k0_t3_loop v2411).trips, ∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off5 k0_t1 v2411 k0_t3) a + S1.size a ≤ S4096.size a)
theorem k0_t2_ok : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (k0_t1 : Fin k0_t1_loop.trips) (v2411 : BitVec 32) (k0_hw1 : k0_chk1 v0 v1 v3 v5 v7 v9 v11 v13 v15 v17 v19 v21 v23 v25 v27 v29 v31 v33 v35 v37 v39 v41 v43 v45 v47 v49 v51 v53 v55 v57 v59 v61 k0_t1 v2411), ∀ (k0_h2 : k0_cond2 v0 v1 v3 v5 v7 v9 v11 v13 v15 v17 v19 v21 v23 v25 v27 v29 v31 v33 v35 v37 v39 v41 v43 v45 v47 v49 v51 v53 v55 v57 v59 v61 = 1#1), (k0_t2_loop v2411).OK := fun v0 v1 v3 v5 v7 v9 v11 v13 v15 v17 v19 v21 v23 v25 v27 v29 v31 v33 v35 v37 v39 v41 v43 v45 v47 v49 v51 v53 v55 v57 v59 v61 k0_t1 v2411 k0_hw1 k0_h2 => k0_hw1.1 k0_h2
theorem k0_off3_inb : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (k0_t1 : Fin k0_t1_loop.trips) (v2411 : BitVec 32) (k0_hw1 : k0_chk1 v0 v1 v3 v5 v7 v9 v11 v13 v15 v17 v19 v21 v23 v25 v27 v29 v31 v33 v35 v37 v39 v41 v43 v45 v47 v49 v51 v53 v55 v57 v59 v61 k0_t1 v2411) (k0_t2 : Fin (k0_t2_loop v2411).trips), ∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off3 k0_t1 v2411 k0_t2) a + S1.size a ≤ S4096.size a := fun v0 v1 v3 v5 v7 v9 v11 v13 v15 v17 v19 v21 v23 v25 v27 v29 v31 v33 v35 v37 v39 v41 v43 v45 v47 v49 v51 v53 v55 v57 v59 v61 k0_t1 v2411 k0_hw1 k0_t2 k0_h2 => k0_hw1.2.1 k0_t2 k0_h2
theorem k0_t3_ok : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (k0_t1 : Fin k0_t1_loop.trips) (v2411 : BitVec 32) (k0_hw1 : k0_chk1 v0 v1 v3 v5 v7 v9 v11 v13 v15 v17 v19 v21 v23 v25 v27 v29 v31 v33 v35 v37 v39 v41 v43 v45 v47 v49 v51 v53 v55 v57 v59 v61 k0_t1 v2411), ∀ (k0_h2 : k0_cond2 v0 v1 v3 v5 v7 v9 v11 v13 v15 v17 v19 v21 v23 v25 v27 v29 v31 v33 v35 v37 v39 v41 v43 v45 v47 v49 v51 v53 v55 v57 v59 v61 = 1#1), (k0_t3_loop v2411).OK := fun v0 v1 v3 v5 v7 v9 v11 v13 v15 v17 v19 v21 v23 v25 v27 v29 v31 v33 v35 v37 v39 v41 v43 v45 v47 v49 v51 v53 v55 v57 v59 v61 k0_t1 v2411 k0_hw1 k0_h2 => k0_hw1.2.2.1 k0_h2
theorem k0_off5_inb : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (k0_t1 : Fin k0_t1_loop.trips) (v2411 : BitVec 32) (k0_hw1 : k0_chk1 v0 v1 v3 v5 v7 v9 v11 v13 v15 v17 v19 v21 v23 v25 v27 v29 v31 v33 v35 v37 v39 v41 v43 v45 v47 v49 v51 v53 v55 v57 v59 v61 k0_t1 v2411) (k0_t3 : Fin (k0_t3_loop v2411).trips), ∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off5 k0_t1 v2411 k0_t3) a + S1.size a ≤ S4096.size a := fun v0 v1 v3 v5 v7 v9 v11 v13 v15 v17 v19 v21 v23 v25 v27 v29 v31 v33 v35 v37 v39 v41 v43 v45 v47 v49 v51 v53 v55 v57 v59 v61 k0_t1 v2411 k0_hw1 k0_t3 k0_h2 => k0_hw1.2.2.2 k0_t3 k0_h2

def k0_off6 (v2426 : BitVec 32) : Fin 2 → Nat :=
  let c255_i32_1179 : BitVec 32 := 255#32
  let v2430 : BitVec 32 := Scalar.andi v2426 c255_i32_1179
  let c2_i32_1180 : BitVec 32 := 2#32
  let v2431 : BitVec 32 := Scalar.shrsi v2430 c2_i32_1180
  let v2435 : Index := Scalar.indexCast v2431
  let c0_1184 : Index := 0#32
  ![v2435.toNat, 0]

def k0_chk3 (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (v2426 : BitVec 32) : Prop :=
  (∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off6 v2426) a + S1x2560.size a ≤ S56x2560.size a)
theorem k0_off6_inb : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (v61 : BitVec 32) (v2426 : BitVec 32) (k0_hw3 : k0_chk3 v0 v1 v3 v5 v7 v9 v11 v13 v15 v17 v19 v21 v23 v25 v27 v29 v31 v33 v35 v37 v39 v41 v43 v45 v47 v49 v51 v53 v55 v57 v59 v61 v2426), ∀ (k0_h2 : k0_cond2 v0 v1 v3 v5 v7 v9 v11 v13 v15 v17 v19 v21 v23 v25 v27 v29 v31 v33 v35 v37 v39 v41 v43 v45 v47 v49 v51 v53 v55 v57 v59 v61 = 1#1), ∀ a, (k0_off6 v2426) a + S1x2560.size a ≤ S56x2560.size a := fun v0 v1 v3 v5 v7 v9 v11 v13 v15 v17 v19 v21 v23 v25 v27 v29 v31 v33 v35 v37 v39 v41 v43 v45 v47 v49 v51 v53 v55 v57 v59 v61 v2426 k0_hw3 k0_h2 => k0_hw3 k0_h2

def k0_off7 (i : grid0.Coords) (c0_i32_65 : BitVec 32) (c0_i32_66 : BitVec 32) : Fin 2 → Nat :=
  let arg0 : BitVec 32 := BitVec.ofNat 32 (i 0).val
  let c5_i32 : BitVec 32 := 5#32
  let v161 : BitVec 32 := Scalar.muli arg0 c5_i32
  let v162 : BitVec 32 := Scalar.addi c0_i32_65 v161
  let v163 : BitVec 32 := Scalar.addi v162 c0_i32_66
  let v164 : Index := Scalar.indexCast v163
  let c0_67 : Index := 0#32
  ![v164.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S56x2560 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S400x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S400x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2560x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2560x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S400x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S400x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096 : Shape := ⟨1, ![4096]⟩
abbrev S56x51200 : Shape := ⟨2, ![56, 51200]⟩
abbrev S384x224 : Shape := ⟨2, ![384, 224]⟩
abbrev S12800x128 : Shape := ⟨2, ![12800, 128]⟩
abbrev S400x128 : Shape := ⟨2, ![400, 128]⟩
abbrev S51200x128 : Shape := ⟨2, ![51200, 128]⟩
abbrev S56x100x4x128 : Shape := ⟨4, ![56, 100, 4, 128]⟩
abbrev S56x100x128x4 : Shape := ⟨4, ![56, 100, 128, 4]⟩
abbrev S_ : Shape := ⟨0, ![]⟩
abbrev S56x1x51200 : Shape := ⟨3, ![56, 1, 51200]⟩
abbrev S56x4x51200 : Shape := ⟨3, ![56, 4, 51200]⟩
abbrev S224x51200 : Shape := ⟨2, ![224, 51200]⟩
abbrev S384x51200 : Shape := ⟨2, ![384, 51200]⟩
abbrev S128x51200 : Shape := ⟨2, ![128, 51200]⟩
abbrev S12800x1x128 : Shape := ⟨3, ![12800, 1, 128]⟩
abbrev S12800x4x128 : Shape := ⟨3, ![12800, 4, 128]⟩
abbrev S4x100x128 : Shape := ⟨3, ![4, 100, 128]⟩
abbrev S100x128x4 : Shape := ⟨3, ![100, 128, 4]⟩
abbrev S51200 : Shape := ⟨1, ![51200]⟩
abbrev S51200x1 : Shape := ⟨2, ![51200, 1]⟩

abbrev nBuf : Space → Nat
  | .hbm => 278
  | .vmem => 0
  | .smem => 0
  | _ => 0

abbrev hbmTy0_0 (i : Nat) : BufTy := match i % 128 with
  | 0 => ⟨S4096, .i32⟩
  | 1 => ⟨S56x51200, .i32⟩
  | 2 => ⟨S384x224, .bf16⟩
  | 3 => ⟨S12800x128, .i32⟩
  | 4 => ⟨S400x128, .i32⟩
  | 5 => ⟨S400x128, .f32⟩
  | 6 => ⟨S51200x128, .i32⟩
  | 7 => ⟨S56x100x4x128, .i32⟩
  | 8 => ⟨S56x100x128x4, .i32⟩
  | 9 => ⟨S56x51200, .i32⟩
  | 10 => ⟨S_, .i32⟩
  | 11 => ⟨S56x51200, .i32⟩
  | 12 => ⟨S56x51200, .i32⟩
  | 13 => ⟨S_, .i32⟩
  | 14 => ⟨S56x51200, .i32⟩
  | 15 => ⟨S56x51200, .i32⟩
  | 16 => ⟨S_, .i32⟩
  | 17 => ⟨S56x51200, .i32⟩
  | 18 => ⟨S56x51200, .i32⟩
  | 19 => ⟨S_, .i32⟩
  | 20 => ⟨S56x51200, .i32⟩
  | 21 => ⟨S56x51200, .i32⟩
  | 22 => ⟨S_, .i32⟩
  | 23 => ⟨S56x51200, .i32⟩
  | 24 => ⟨S56x51200, .i32⟩
  | 25 => ⟨S_, .i32⟩
  | 26 => ⟨S56x51200, .i32⟩
  | 27 => ⟨S56x51200, .i32⟩
  | 28 => ⟨S_, .i32⟩
  | 29 => ⟨S56x51200, .i32⟩
  | 30 => ⟨S56x51200, .i32⟩
  | 31 => ⟨S_, .i32⟩
  | 32 => ⟨S56x51200, .i32⟩
  | 33 => ⟨S56x51200, .i32⟩
  | 34 => ⟨S56x1x51200, .i32⟩
  | 35 => ⟨S56x1x51200, .i32⟩
  | 36 => ⟨S56x1x51200, .i32⟩
  | 37 => ⟨S56x1x51200, .i32⟩
  | 38 => ⟨S56x4x51200, .i32⟩
  | 39 => ⟨S224x51200, .i32⟩
  | 40 => ⟨S384x224, .f32⟩
  | 41 => ⟨S224x51200, .f32⟩
  | 42 => ⟨S384x51200, .f32⟩
  | 43 => ⟨S128x51200, .f32⟩
  | 44 => ⟨S128x51200, .f32⟩
  | 45 => ⟨S128x51200, .f32⟩
  | 46 => ⟨S128x51200, .f32⟩
  | 47 => ⟨S128x51200, .f32⟩
  | 48 => ⟨S51200x128, .f32⟩
  | 49 => ⟨S_, .i32⟩
  | 50 => ⟨S12800x128, .i32⟩
  | 51 => ⟨S12800x128, .i32⟩
  | 52 => ⟨S_, .i32⟩
  | 53 => ⟨S12800x128, .i32⟩
  | 54 => ⟨S12800x128, .i32⟩
  | 55 => ⟨S_, .i32⟩
  | 56 => ⟨S12800x128, .i32⟩
  | 57 => ⟨S12800x128, .i32⟩
  | 58 => ⟨S_, .i32⟩
  | 59 => ⟨S12800x128, .i32⟩
  | 60 => ⟨S12800x128, .i32⟩
  | 61 => ⟨S_, .i32⟩
  | 62 => ⟨S12800x128, .i32⟩
  | 63 => ⟨S12800x128, .i32⟩
  | 64 => ⟨S_, .i32⟩
  | 65 => ⟨S12800x128, .i32⟩
  | 66 => ⟨S12800x128, .i32⟩
  | 67 => ⟨S_, .i32⟩
  | 68 => ⟨S12800x128, .i32⟩
  | 69 => ⟨S12800x128, .i32⟩
  | 70 => ⟨S_, .i32⟩
  | 71 => ⟨S12800x128, .i32⟩
  | 72 => ⟨S12800x128, .i32⟩
  | 73 => ⟨S12800x1x128, .i32⟩
  | 74 => ⟨S12800x1x128, .i32⟩
  | 75 => ⟨S12800x1x128, .i32⟩
  | 76 => ⟨S12800x1x128, .i32⟩
  | 77 => ⟨S12800x4x128, .i32⟩
  | 78 => ⟨S51200x128, .i32⟩
  | 79 => ⟨S4x100x128, .i32⟩
  | 80 => ⟨S100x128x4, .i32⟩
  | 81 => ⟨S51200, .i32⟩
  | 82 => ⟨S_, .i32⟩
  | 83 => ⟨S51200, .i32⟩
  | 84 => ⟨S51200, .i32⟩
  | 85 => ⟨S_, .i32⟩
  | 86 => ⟨S51200, .i32⟩
  | 87 => ⟨S51200, .i32⟩
  | 88 => ⟨S_, .i32⟩
  | 89 => ⟨S51200, .i32⟩
  | 90 => ⟨S51200, .i32⟩
  | 91 => ⟨S_, .i32⟩
  | 92 => ⟨S51200, .i32⟩
  | 93 => ⟨S51200, .i32⟩
  | 94 => ⟨S_, .i32⟩
  | 95 => ⟨S51200, .i32⟩
  | 96 => ⟨S51200, .i32⟩
  | 97 => ⟨S51200, .f32⟩
  | 98 => ⟨S_, .f32⟩
  | 99 => ⟨S51200, .f32⟩
  | 100 => ⟨S51200, .f32⟩
  | 101 => ⟨S_, .f32⟩
  | 102 => ⟨S51200, .f32⟩
  | 103 => ⟨S51200, .f32⟩
  | 104 => ⟨S_, .i32⟩
  | 105 => ⟨S51200, .i32⟩
  | 106 => ⟨S51200, .i32⟩
  | 107 => ⟨S_, .i32⟩
  | 108 => ⟨S51200, .i32⟩
  | 109 => ⟨S51200, .i32⟩
  | 110 => ⟨S51200, .f32⟩
  | 111 => ⟨S51200, .f32⟩
  | 112 => ⟨S_, .f32⟩
  | 113 => ⟨S51200, .f32⟩
  | 114 => ⟨S51200, .f32⟩
  | 115 => ⟨S_, .i32⟩
  | 116 => ⟨S51200, .i32⟩
  | 117 => ⟨S51200, .i32⟩
  | 118 => ⟨S_, .i32⟩
  | 119 => ⟨S51200, .i32⟩
  | 120 => ⟨S51200, .i1⟩
  | 121 => ⟨S_, .f32⟩
  | 122 => ⟨S_, .f32⟩
  | 123 => ⟨S51200, .f32⟩
  | 124 => ⟨S51200, .f32⟩
  | 125 => ⟨S51200, .f32⟩
  | 126 => ⟨S_, .i32⟩
  | 127 => ⟨S51200, .i32⟩
  | _ => ⟨S4096, .i32⟩

abbrev hbmTy0_1 (i : Nat) : BufTy := match i % 128 with
  | 0 => ⟨S51200, .i1⟩
  | 1 => ⟨S_, .i32⟩
  | 2 => ⟨S51200, .i32⟩
  | 3 => ⟨S51200, .i1⟩
  | 4 => ⟨S51200, .f32⟩
  | 5 => ⟨S51200, .f32⟩
  | 6 => ⟨S51200, .f32⟩
  | 7 => ⟨S_, .i32⟩
  | 8 => ⟨S51200, .i32⟩
  | 9 => ⟨S51200, .i1⟩
  | 10 => ⟨S51200, .f32⟩
  | 11 => ⟨S51200, .f32⟩
  | 12 => ⟨S_, .i32⟩
  | 13 => ⟨S51200, .i32⟩
  | 14 => ⟨S51200, .i32⟩
  | 15 => ⟨S_, .i32⟩
  | 16 => ⟨S51200, .i32⟩
  | 17 => ⟨S51200, .i32⟩
  | 18 => ⟨S_, .i32⟩
  | 19 => ⟨S51200, .i32⟩
  | 20 => ⟨S51200, .i32⟩
  | 21 => ⟨S_, .i32⟩
  | 22 => ⟨S51200, .i32⟩
  | 23 => ⟨S51200, .i32⟩
  | 24 => ⟨S_, .i32⟩
  | 25 => ⟨S51200, .i32⟩
  | 26 => ⟨S51200, .i32⟩
  | 27 => ⟨S_, .i32⟩
  | 28 => ⟨S51200, .i32⟩
  | 29 => ⟨S51200, .i32⟩
  | 30 => ⟨S51200, .f32⟩
  | 31 => ⟨S_, .f32⟩
  | 32 => ⟨S51200, .f32⟩
  | 33 => ⟨S51200, .f32⟩
  | 34 => ⟨S_, .f32⟩
  | 35 => ⟨S51200, .f32⟩
  | 36 => ⟨S51200, .f32⟩
  | 37 => ⟨S_, .i32⟩
  | 38 => ⟨S51200, .i32⟩
  | 39 => ⟨S51200, .i32⟩
  | 40 => ⟨S_, .i32⟩
  | 41 => ⟨S51200, .i32⟩
  | 42 => ⟨S51200, .i32⟩
  | 43 => ⟨S51200, .f32⟩
  | 44 => ⟨S51200, .f32⟩
  | 45 => ⟨S_, .f32⟩
  | 46 => ⟨S51200, .f32⟩
  | 47 => ⟨S51200, .f32⟩
  | 48 => ⟨S_, .i32⟩
  | 49 => ⟨S51200, .i32⟩
  | 50 => ⟨S51200, .i32⟩
  | 51 => ⟨S_, .i32⟩
  | 52 => ⟨S51200, .i32⟩
  | 53 => ⟨S51200, .i1⟩
  | 54 => ⟨S_, .f32⟩
  | 55 => ⟨S_, .f32⟩
  | 56 => ⟨S51200, .f32⟩
  | 57 => ⟨S51200, .f32⟩
  | 58 => ⟨S51200, .f32⟩
  | 59 => ⟨S_, .i32⟩
  | 60 => ⟨S51200, .i32⟩
  | 61 => ⟨S51200, .i1⟩
  | 62 => ⟨S_, .i32⟩
  | 63 => ⟨S51200, .i32⟩
  | 64 => ⟨S51200, .i1⟩
  | 65 => ⟨S51200, .f32⟩
  | 66 => ⟨S51200, .f32⟩
  | 67 => ⟨S51200, .f32⟩
  | 68 => ⟨S_, .i32⟩
  | 69 => ⟨S51200, .i32⟩
  | 70 => ⟨S51200, .i1⟩
  | 71 => ⟨S51200, .f32⟩
  | 72 => ⟨S51200, .f32⟩
  | 73 => ⟨S51200x128, .f32⟩
  | 74 => ⟨S51200x1, .f32⟩
  | 75 => ⟨S51200x128, .f32⟩
  | 76 => ⟨S51200x128, .f32⟩
  | 77 => ⟨S51200x1, .f32⟩
  | 78 => ⟨S51200x128, .f32⟩
  | 79 => ⟨S51200x128, .f32⟩
  | 80 => ⟨S4x100x128, .f32⟩
  | 81 => ⟨S100x128x4, .f32⟩
  | 82 => ⟨S51200, .f32⟩
  | 83 => ⟨S51200x128, .f32⟩
  | 84 => ⟨S_, .f32⟩
  | 85 => ⟨S51200, .f32⟩
  | 86 => ⟨S_, .f32⟩
  | 87 => ⟨S51200, .f32⟩
  | 88 => ⟨S51200, .f32⟩
  | 89 => ⟨S51200, .f32⟩
  | 90 => ⟨S51200, .f32⟩
  | 91 => ⟨S_, .f32⟩
  | 92 => ⟨S51200, .f32⟩
  | 93 => ⟨S51200, .f32⟩
  | 94 => ⟨S_, .f32⟩
  | 95 => ⟨S51200, .f32⟩
  | 96 => ⟨S51200, .f32⟩
  | 97 => ⟨S51200x1, .f32⟩
  | 98 => ⟨S51200x128, .f32⟩
  | 99 => ⟨S51200x128, .f32⟩
  | 100 => ⟨S51200x128, .f32⟩
  | 101 => ⟨S_, .f32⟩
  | 102 => ⟨S51200, .f32⟩
  | 103 => ⟨S_, .f32⟩
  | 104 => ⟨S51200, .f32⟩
  | 105 => ⟨S51200, .f32⟩
  | 106 => ⟨S_, .f32⟩
  | 107 => ⟨S51200, .f32⟩
  | 108 => ⟨S51200, .f32⟩
  | 109 => ⟨S_, .f32⟩
  | 110 => ⟨S51200, .f32⟩
  | 111 => ⟨S51200, .f32⟩
  | 112 => ⟨S_, .f32⟩
  | 113 => ⟨S51200, .f32⟩
  | 114 => ⟨S51200, .f32⟩
  | 115 => ⟨S51200x1, .f32⟩
  | 116 => ⟨S51200x128, .f32⟩
  | 117 => ⟨S51200x128, .f32⟩
  | 118 => ⟨S51200x1, .f32⟩
  | 119 => ⟨S51200x128, .f32⟩
  | 120 => ⟨S51200x128, .f32⟩
  | 121 => ⟨S_, .i32⟩
  | 122 => ⟨S51200x128, .i32⟩
  | 123 => ⟨S51200x128, .i32⟩
  | 124 => ⟨S51200x128, .i32⟩
  | 125 => ⟨S51200x128, .f32⟩
  | 126 => ⟨S_, .f32⟩
  | 127 => ⟨S51200x128, .f32⟩
  | _ => ⟨S4096, .i32⟩

abbrev hbmTy0_2 (i : Nat) : BufTy := match i % 128 with
  | 0 => ⟨S51200x128, .f32⟩
  | 1 => ⟨S51200x128, .f32⟩
  | 2 => ⟨S51200x128, .f32⟩
  | 3 => ⟨S_, .f32⟩
  | 4 => ⟨S_, .f32⟩
  | 5 => ⟨S_, .f32⟩
  | 6 => ⟨S51200x128, .f32⟩
  | 7 => ⟨S51200x128, .f32⟩
  | 8 => ⟨S_, .f32⟩
  | 9 => ⟨S51200x128, .f32⟩
  | 10 => ⟨S51200x128, .f32⟩
  | 11 => ⟨S51200x128, .i32⟩
  | 12 => ⟨S51200x128, .i8⟩
  | 13 => ⟨S100x128x4, .f32⟩
  | 14 => ⟨S4x100x128, .f32⟩
  | 15 => ⟨S400x128, .f32⟩
  | 16 => ⟨S100x128x4, .f32⟩
  | 17 => ⟨S4x100x128, .f32⟩
  | 18 => ⟨S400x128, .f32⟩
  | 19 => ⟨S100x128x4, .f32⟩
  | 20 => ⟨S4x100x128, .f32⟩
  | 21 => ⟨S400x128, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_c_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_15 : Ref sig .tc := ⟨.hbm, 82, rfl⟩
abbrev main_v59 : Ref sig .tc := ⟨.hbm, 83, rfl⟩
abbrev main_v60 : Ref sig .tc := ⟨.hbm, 84, rfl⟩
abbrev main_c_16 : Ref sig .tc := ⟨.hbm, 85, rfl⟩
abbrev main_v61 : Ref sig .tc := ⟨.hbm, 86, rfl⟩
abbrev main_v62 : Ref sig .tc := ⟨.hbm, 87, rfl⟩
abbrev main_c_17 : Ref sig .tc := ⟨.hbm, 88, rfl⟩
abbrev main_v63 : Ref sig .tc := ⟨.hbm, 89, rfl⟩
abbrev main_v64 : Ref sig .tc := ⟨.hbm, 90, rfl⟩
abbrev main_c_18 : Ref sig .tc := ⟨.hbm, 91, rfl⟩
abbrev main_v65 : Ref sig .tc := ⟨.hbm, 92, rfl⟩
abbrev main_v66 : Ref sig .tc := ⟨.hbm, 93, rfl⟩
abbrev main_c_19 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_c_21 : Ref sig .tc := ⟨.hbm, 104, rfl⟩
abbrev main_v74 : Ref sig .tc := ⟨.hbm, 105, rfl⟩
abbrev main_v75 : Ref sig .tc := ⟨.hbm, 106, rfl⟩
abbrev main_c_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_c_24 : Ref sig .tc := ⟨.hbm, 115, rfl⟩
abbrev main_v82 : Ref sig .tc := ⟨.hbm, 116, rfl⟩
abbrev main_v83 : Ref sig .tc := ⟨.hbm, 117, rfl⟩
abbrev main_c_25 : Ref sig .tc := ⟨.hbm, 118, rfl⟩
abbrev main_v84 : Ref sig .tc := ⟨.hbm, 119, rfl⟩
abbrev main_v85 : Ref sig .tc := ⟨.hbm, 120, rfl⟩
abbrev main_cst_26 : Ref sig .tc := ⟨.hbm, 121, rfl⟩
abbrev main_cst_27 : Ref sig .tc := ⟨.hbm, 122, rfl⟩
abbrev main_call0_v0 : Ref sig .tc := ⟨.hbm, 123, rfl⟩
abbrev main_call0_v1 : Ref sig .tc := ⟨.hbm, 124, rfl⟩
abbrev main_v86 : Ref sig .tc := ⟨.hbm, 125, rfl⟩
abbrev main_c_28 : Ref sig .tc := ⟨.hbm, 126, rfl⟩
abbrev main_v87 : Ref sig .tc := ⟨.hbm, 127, rfl⟩
abbrev main_v88 : Ref sig .tc := ⟨.hbm, 128, rfl⟩
abbrev main_c_29 : Ref sig .tc := ⟨.hbm, 129, rfl⟩
abbrev main_v89 : Ref sig .tc := ⟨.hbm, 130, rfl⟩
abbrev main_v90 : Ref sig .tc := ⟨.hbm, 131, rfl⟩
abbrev main_call1_v0 : Ref sig .tc := ⟨.hbm, 132, rfl⟩
abbrev main_v91 : Ref sig .tc := ⟨.hbm, 133, rfl⟩
abbrev main_v92 : Ref sig .tc := ⟨.hbm, 134, rfl⟩
abbrev main_c_30 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_31 : Ref sig .tc := ⟨.hbm, 140, rfl⟩
abbrev main_v97 : Ref sig .tc := ⟨.hbm, 141, rfl⟩
abbrev main_v98 : Ref sig .tc := ⟨.hbm, 142, rfl⟩
abbrev main_c_32 : Ref sig .tc := ⟨.hbm, 143, rfl⟩
abbrev main_v99 : Ref sig .tc := ⟨.hbm, 144, rfl⟩
abbrev main_v100 : Ref sig .tc := ⟨.hbm, 145, rfl⟩
abbrev main_c_33 : Ref sig .tc := ⟨.hbm, 146, rfl⟩
abbrev main_v101 : Ref sig .tc := ⟨.hbm, 147, rfl⟩
abbrev main_v102 : Ref sig .tc := ⟨.hbm, 148, rfl⟩
abbrev main_c_34 : Ref sig .tc := ⟨.hbm, 149, rfl⟩
abbrev main_v103 : Ref sig .tc := ⟨.hbm, 150, rfl⟩
abbrev main_v104 : Ref sig .tc := ⟨.hbm, 151, rfl⟩
abbrev main_c_35 : Ref sig .tc := ⟨.hbm, 152, rfl⟩
abbrev main_v105 : Ref sig .tc := ⟨.hbm, 153, rfl⟩
abbrev main_v106 : Ref sig .tc := ⟨.hbm, 154, rfl⟩
abbrev main_c_36 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_37 : Ref sig .tc := ⟨.hbm, 159, rfl⟩
abbrev main_v110 : Ref sig .tc := ⟨.hbm, 160, rfl⟩
abbrev main_v111 : Ref sig .tc := ⟨.hbm, 161, rfl⟩
abbrev main_cst_38 : Ref sig .tc := ⟨.hbm, 162, rfl⟩
abbrev main_v112 : Ref sig .tc := ⟨.hbm, 163, rfl⟩
abbrev main_v113 : Ref sig .tc := ⟨.hbm, 164, rfl⟩
abbrev main_c_39 : Ref sig .tc := ⟨.hbm, 165, rfl⟩
abbrev main_v114 : Ref sig .tc := ⟨.hbm, 166, rfl⟩
abbrev main_v115 : Ref sig .tc := ⟨.hbm, 167, rfl⟩
abbrev main_c_40 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_41 : Ref sig .tc := ⟨.hbm, 173, rfl⟩
abbrev main_v120 : Ref sig .tc := ⟨.hbm, 174, rfl⟩
abbrev main_v121 : Ref sig .tc := ⟨.hbm, 175, rfl⟩
abbrev main_c_42 : Ref sig .tc := ⟨.hbm, 176, rfl⟩
abbrev main_v122 : Ref sig .tc := ⟨.hbm, 177, rfl⟩
abbrev main_v123 : Ref sig .tc := ⟨.hbm, 178, rfl⟩
abbrev main_c_43 : Ref sig .tc := ⟨.hbm, 179, rfl⟩
abbrev main_v124 : Ref sig .tc := ⟨.hbm, 180, rfl⟩
abbrev main_v125 : Ref sig .tc := ⟨.hbm, 181, rfl⟩
abbrev main_cst_44 : Ref sig .tc := ⟨.hbm, 182, rfl⟩
abbrev main_cst_45 : Ref sig .tc := ⟨.hbm, 183, rfl⟩
abbrev main_call4_v0 : Ref sig .tc := ⟨.hbm, 184, rfl⟩
abbrev main_call4_v1 : Ref sig .tc := ⟨.hbm, 185, rfl⟩
abbrev main_v126 : Ref sig .tc := ⟨.hbm, 186, rfl⟩
abbrev main_c_46 : Ref sig .tc := ⟨.hbm, 187, rfl⟩
abbrev main_v127 : Ref sig .tc := ⟨.hbm, 188, rfl⟩
abbrev main_v128 : Ref sig .tc := ⟨.hbm, 189, rfl⟩
abbrev main_c_47 : Ref sig .tc := ⟨.hbm, 190, rfl⟩
abbrev main_v129 : Ref sig .tc := ⟨.hbm, 191, rfl⟩
abbrev main_v130 : Ref sig .tc := ⟨.hbm, 192, rfl⟩
abbrev main_call5_v0 : Ref sig .tc := ⟨.hbm, 193, rfl⟩
abbrev main_v131 : Ref sig .tc := ⟨.hbm, 194, rfl⟩
abbrev main_v132 : Ref sig .tc := ⟨.hbm, 195, rfl⟩
abbrev main_c_48 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_49 : Ref sig .tc := ⟨.hbm, 212, rfl⟩
abbrev main_v148 : Ref sig .tc := ⟨.hbm, 213, rfl⟩
abbrev main_cst_50 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_cst_51 : Ref sig .tc := ⟨.hbm, 219, rfl⟩
abbrev main_v153 : Ref sig .tc := ⟨.hbm, 220, rfl⟩
abbrev main_v154 : Ref sig .tc := ⟨.hbm, 221, rfl⟩
abbrev main_cst_52 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_53 : Ref sig .tc := ⟨.hbm, 229, rfl⟩
abbrev main_v161 : Ref sig .tc := ⟨.hbm, 230, rfl⟩
abbrev main_cst_54 : Ref sig .tc := ⟨.hbm, 231, rfl⟩
abbrev main_v162 : Ref sig .tc := ⟨.hbm, 232, rfl⟩
abbrev main_v163 : Ref sig .tc := ⟨.hbm, 233, rfl⟩
abbrev main_cst_55 : Ref sig .tc := ⟨.hbm, 234, rfl⟩
abbrev main_v164 : Ref sig .tc := ⟨.hbm, 235, rfl⟩
abbrev main_v165 : Ref sig .tc := ⟨.hbm, 236, rfl⟩
abbrev main_cst_56 : Ref sig .tc := ⟨.hbm, 237, rfl⟩
abbrev main_v166 : Ref sig .tc := ⟨.hbm, 238, rfl⟩
abbrev main_v167 : Ref sig .tc := ⟨.hbm, 239, rfl⟩
abbrev main_cst_57 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_c_58 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_cst_59 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_cst_60 : Ref sig .tc := ⟨.hbm, 259, rfl⟩
abbrev main_cst_61 : Ref sig .tc := ⟨.hbm, 260, rfl⟩
abbrev main_call8_v0 : Ref sig .tc := ⟨.hbm, 261, rfl⟩
abbrev main_call8_v1 : Ref sig .tc := ⟨.hbm, 262, rfl⟩
abbrev main_call8_v2 : Ref sig .tc := ⟨.hbm, 263, rfl⟩
abbrev main_call8_v3 : Ref sig .tc := ⟨.hbm, 264, rfl⟩
abbrev main_call8_v4 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩

abbrev nD : Nat := 1
abbrev τ : Topo := Topo.v7x

variable {F : FTy → Type} [FloatOps F]
-- ==== Split.lean ====
abbrev S200x128 : Shape := ⟨2, ![200, 128]⟩
abbrev S384x224 : Shape := ⟨2, ![384, 224]⟩
abbrev S224x128 : Shape := ⟨2, ![224, 128]⟩
abbrev S128x224 : Shape := ⟨2, ![128, 224]⟩

abbrev nBuf : Space → Nat
  | .hbm => 2
  | .vmem => 3
  | .smem => 0
  | _ => 0

abbrev bufTy : (tb : Table) → Fin (tcTables nBuf tb) → BufTy
  | .hbm, ⟨0, _⟩ => ⟨S200x128, .f32⟩
  | .hbm, ⟨1, _⟩ => ⟨S384x224, .bf16⟩
  | .local _ .vmem, ⟨0, _⟩ => ⟨S200x128, .f32⟩
  | .local _ .vmem, ⟨1, _⟩ => ⟨S384x224, .bf16⟩
  | .local _ .vmem, ⟨2, _⟩ => ⟨S224x128, .f32⟩
  | _, _ => ⟨S200x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SplitReference.lean ====
abbrev S200x128 : Shape := ⟨2, ![200, 128]⟩
abbrev S128x200 : Shape := ⟨2, ![128, 200]⟩
abbrev S_ : Shape := ⟨0, ![]⟩
abbrev S128x24 : Shape := ⟨2, ![128, 24]⟩
abbrev S128x224 : Shape := ⟨2, ![128, 224]⟩
abbrev S384x224 : Shape := ⟨2, ![384, 224]⟩

abbrev nBuf : Space → Nat
  | .hbm => 13
  | .vmem => 0
  | .smem => 0
  | _ => 0

abbrev bufTy : (tb : Table) → Fin (tcTables nBuf tb) → BufTy
  | .hbm, ⟨0, _⟩ => ⟨S200x128, .f32⟩
  | .hbm, ⟨1, _⟩ => ⟨S128x200, .f32⟩
  | .hbm, ⟨2, _⟩ => ⟨S_, .f32⟩
  | .hbm, ⟨3, _⟩ => ⟨S128x24, .f32⟩
  | .hbm, ⟨4, _⟩ => ⟨S128x224, .f32⟩
  | .hbm, ⟨5, _⟩ => ⟨S128x224, .bf16⟩
  | .hbm, ⟨6, _⟩ => ⟨S128x224, .f32⟩
  | .hbm, ⟨7, _⟩ => ⟨S128x224, .f32⟩
  | .hbm, ⟨8, _⟩ => ⟨S128x224, .bf16⟩
  | .hbm, ⟨9, _⟩ => ⟨S128x224, .f32⟩
  | .hbm, ⟨10, _⟩ => ⟨S128x224, .f32⟩
  | .hbm, ⟨11, _⟩ => ⟨S128x224, .bf16⟩
  | .hbm, ⟨12, _⟩ => ⟨S384x224, .bf16⟩
  | _, _ => ⟨S200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.FrameBits.lean ====
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lists hold nothing: every length, the last of 128 words, is zero. -/
def NoCarry (x0 : Vec F S4096 .i32) : Prop := ∀ y : S4096.Idx, (y 0).val % 128 = 127 → x0 y = 0#32

/-- A word of the lists at a position that is 127 modulo 128, a list's length, is zero. -/
theorem length_zero (arg1 : Memref sig .tc .smem S4096 .i32) (harg1 : arg1.IsWhole) (x0 : Vec F S4096 .i32)
    (hx : NoCarry x0) (n : ℕ)
    (h : ∀ a, (![n] : Fin 1 → ℕ) a + S1.size a ≤ S4096.size a) (hn : n % 128 = 127)
    (hf : 0 < S1.numel) :
    View.readAt (Elt F) arg1.view (Rect.unit (s := S4096) ![n] S1.size h).toLoadRect (harg1.unread x0) (Shape.Idx.first hf) = 0#32 := by
  rw [View.readAt_apply, harg1.read_unread]
  exact hx _ (show (n + 1 * 0) % 128 = 127 by omega)

/-- Where the lists hold nothing the branch without them is taken … -/
theorem taken_of {v0 v1 v3 v5 v7 v9 v11 v13 v15 v17 v19 v21 v23 v25 v27 v29 v31 v33 v35 v37 v39 v41 v43 v45 v47 v49 v51 v53 v55 v57 v59 v61 : BitVec 32} (hv0 : v0 = 0#32) (hv1 : v1 = 0#32) (hv3 : v3 = 0#32) (hv5 : v5 = 0#32) (hv7 : v7 = 0#32) (hv9 : v9 = 0#32) (hv11 : v11 = 0#32) (hv13 : v13 = 0#32) (hv15 : v15 = 0#32) (hv17 : v17 = 0#32) (hv19 : v19 = 0#32) (hv21 : v21 = 0#32) (hv23 : v23 = 0#32) (hv25 : v25 = 0#32) (hv27 : v27 = 0#32) (hv29 : v29 = 0#32) (hv31 : v31 = 0#32) (hv33 : v33 = 0#32) (hv35 : v35 = 0#32) (hv37 : v37 = 0#32) (hv39 : v39 = 0#32) (hv41 : v41 = 0#32) (hv43 : v43 = 0#32) (hv45 : v45 = 0#32) (hv47 : v47 = 0#32) (hv49 : v49 = 0#32) (hv51 : v51 = 0#32) (hv53 : v53 = 0#32) (hv55 : v55 = 0#32) (hv57 : v57 = 0#32) (hv59 : v59 = 0#32) (hv61 : v61 = 0#32) :
    Scalar.cmpi CmpIPredicate.ne (Scalar.extui (Scalar.cmpi CmpIPredicate.eq ((Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi v0 v1) v3) v5) v7) v9) v11) v13) v15) v17) v19) v21) v23) v25) v27) v29) v31) v33) v35) v37) v39) v41) v43) v45) v47) v49) v51) v53) v55) v57) v59) v61)) 0#32) : BitVec 32) 0#32 = 1#1 := by
  subst_vars; decide

/-- … and the other one is not. -/
theorem not_taken_of {v0 v1 v3 v5 v7 v9 v11 v13 v15 v17 v19 v21 v23 v25 v27 v29 v31 v33 v35 v37 v39 v41 v43 v45 v47 v49 v51 v53 v55 v57 v59 v61 : BitVec 32} (hv0 : v0 = 0#32) (hv1 : v1 = 0#32) (hv3 : v3 = 0#32) (hv5 : v5 = 0#32) (hv7 : v7 = 0#32) (hv9 : v9 = 0#32) (hv11 : v11 = 0#32) (hv13 : v13 = 0#32) (hv15 : v15 = 0#32) (hv17 : v17 = 0#32) (hv19 : v19 = 0#32) (hv21 : v21 = 0#32) (hv23 : v23 = 0#32) (hv25 : v25 = 0#32) (hv27 : v27 = 0#32) (hv29 : v29 = 0#32) (hv31 : v31 = 0#32) (hv33 : v33 = 0#32) (hv35 : v35 = 0#32) (hv37 : v37 = 0#32) (hv39 : v39 = 0#32) (hv41 : v41 = 0#32) (hv43 : v43 = 0#32) (hv45 : v45 = 0#32) (hv47 : v47 = 0#32) (hv49 : v49 = 0#32) (hv51 : v51 = 0#32) (hv53 : v53 = 0#32) (hv55 : v55 = 0#32) (hv57 : v57 = 0#32) (hv59 : v59 = 0#32) (hv61 : v61 = 0#32) :
    ¬ k0_cond2 v0 v1 v3 v5 v7 v9 v11 v13 v15 v17 v19 v21 v23 v25 v27 v29 v31 v33 v35 v37 v39 v41 v43 v45 v47 v49 v51 v53 v55 v57 v59 v61 = 1#1 := by
  subst_vars; decide

/-- The other branch's condition, named so that it is told from the first by its head alone. -/
theorem other_of {v0 v1 v3 v5 v7 v9 v11 v13 v15 v17 v19 v21 v23 v25 v27 v29 v31 v33 v35 v37 v39 v41 v43 v45 v47 v49 v51 v53 v55 v57 v59 v61 : BitVec 32} (h : k0_cond2 v0 v1 v3 v5 v7 v9 v11 v13 v15 v17 v19 v21 v23 v25 v27 v29 v31 v33 v35 v37 v39 v41 v43 v45 v47 v49 v51 v53 v55 v57 v59 v61 = 1#1) : k0_cond2 v0 v1 v3 v5 v7 v9 v11 v13 v15 v17 v19 v21 v23 v25 v27 v29 v31 v33 v35 v37 v39 v41 v43 v45 v47 v49 v51 v53 v55 v57 v59 v61 = 1#1 := h

set_option maxHeartbeats 4000000 in
/-- The body, the lists holding nothing: the branch without carries runs, the other does not. -/
theorem kernelRun0_A (c : Dev nD) (i : grid0.Coords) (arg1 : Memref sig .tc .smem S4096 .i32) (harg1 : arg1.IsWhole) (arg2 : Memref sig .tc .vmem S56x2560 .i32) (harg2 : arg2.IsWhole) (arg3 : Memref sig .tc .vmem S384x224 .bf16) (harg3 : arg3.IsWhole) (arg4 : Memref sig .tc .vmem S640x128 .i32) (harg4 : arg4.IsWhole) (arg5 : Memref sig .tc .vmem S400x128 .i32) (harg5 : arg5.IsWhole) (arg6 : Memref sig .tc .vmem S400x128 .f32) (harg6 : arg6.IsWhole) (arg7 : Memref sig .tc .vmem S2560x128 .i32) (harg7 : arg7.IsWhole) (arg8 : Memref sig .tc .vmem S2560x128 .i8) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S2560x128 .f32) (harg12 : arg12.IsWhole) (arg13 : Memref sig .tc .vmem S56x2560 .i32) (harg13 : arg13.IsWhole)
    (x0 : Vec F S4096 .i32) (x1 : Vec F S56x2560 .i32) (x2 : Vec F S384x224 .bf16) (x3 : Vec F S640x128 .i32) (x4 : Vec F S400x128 .i32) (x5 : Vec F S400x128 .f32) (x6 : Vec F S2560x128 .i32) (hx : NoCarry x0) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_update i arg1 harg1 arg2 harg2 arg3 harg3 arg4 harg4 arg5 harg5 arg6 harg6 arg7 harg7 arg8 harg8 arg9 harg9 arg10 harg10 arg11 harg11 arg12 harg12 arg13 harg13) K := by
    intro E K
    simp only [cc0_update_eq_skeleton]; unfold cc0_update_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first
      | (with_reducible refine not_taken_of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
         all_goals exact length_zero arg1 harg1 x0 hx _ _ (by decide) _)
      | (fail_if_success (with_reducible refine other_of ?_)
         refine taken_of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
         all_goals exact length_zero arg1 harg1 x0 hx _ _ (by decide) _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

/-- The arguments are unchanged where the pipeline's run ends as its proof data say. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S56x2560 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x224 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2560x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2560x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S400x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2560x128 .f32 := Memref.whole cc0_scratch0
abbrev scM0_1 : Memref sig .tc .vmem S56x2560 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hpre : ∀ (c : Dev nD) (t : Fin cfg0.N), NoCarry (iblk m c 0 t)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (hpre c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hpre : ∀ (c : Dev nD) (t : Fin cfg0.N), NoCarry (iblk m c 0 t)) (c : Dev nD) : BodyObligation (dats (F := F) m 0 c) (defs₀ (F := F)) Variants.none () Set.univ forgets0 := fun t => by
  rw [bigSep_W0, bigSep_W0, defs₀_row]
  exact triple_restated (sound_body m hpre c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hpre : ∀ (c : Dev nD) (t : Fin cfg0.N), NoCarry (iblk m c 0 t)) : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m hpre c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePost` over the proof data with those windows
    forgotten, Dat.lean `Dat.toRForget`), and every other unscoped buffer at its region-entry contents. -/
theorem run_main (hpre : ∀ (c : Dev nD) (t : Fin cfg0.N), NoCarry (iblk m c 0 t)) : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ hpre)

/-- `frame` without the counters: the argument arrays end unchanged. -/
theorem unchanged (hpre : ∀ (c : Dev nD) (t : Fin cfg0.N), NoCarry (iblk m c 0 t)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ hpre)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame (hpre : ∀ (c : Dev nD) (t : Fin cfg0.N), NoCarry (iblk m c 0 t)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hpre) ((θ_run defs _ _).mono (fun _ h => h.2) (run_main_quiescent m ρ hpre))

end Cert.Kernel.Hand

end
-- ==== Proof.Group.lean ====
module

public import proofs.«01_k».proof.Proof.Gen.KernelIdeal.Skeleton
public import Idealize.ShloMosaic.Lib.Pipeline.FrameBody
public import Idealize.ShloMosaic.Lib.Pointwise

@[expose] public section

set_option maxRecDepth 16384

noncomputable section

namespace Cert.KernelIdeal.Hand

open Cert.KernelIdeal.Gen
open Idealize.ShloMosaic Idealize.ShloMosaic.TcCoe

variable {F : FTy → Type} [FloatOps F]

/-! # One group of 512 slots, as the body computes it

The body does the same to each of its five groups. Here it is once, over what a group loads. -/

/-- The gradients of 256 slots: the three terms' products with the counts, added up. -/
def pairGrad (w : Vec F S56x256 .i32) (a0 a1 a2 : Vec F S128x224 .bf16) : FVec F S128x256 .f32 :=
  have c : FVec F S224x256 .bf16 := sitofp .bf16 (bitcast S224x256 8 w bitcasts_S56x256_w32_S224x256_w8 : IVec S224x256 8)
  have dot := fun (a : Vec F S128x224 .bf16) => matmul dot_S128x224_S224x256_S128x256_1_0_0_1_n_n none a c (constant S128x256 .f32 0x00000000#32)
  addf (addf (addf (broadcast S128x256 (Scalar.ofBits .f32 0x00000000#32)) (dot a0)) (dot a1)) (dot a2)

/-- The left and the right half of such a pair of tiles. -/
def leftTile (p : FVec F S128x256 .f32) : FVec F S128x128 .f32 := extractStridedSlice S128x128 ![0, 0] p slices_S128x256_o0_0_S128x128
def rightTile (p : FVec F S128x256 .f32) : FVec F S128x128 .f32 := extractStridedSlice S128x128 ![0, 128] p slices_S128x256_o0_128_S128x128

/-- Each slot's sum of squares. -/
def sumSq (g : FVec F S128x128 .f32) : FVec F S1x128 .f32 :=
  shapeCast S1x128 (multiReduction .add [0] S128 (mulf g g) 0x00000000#32 reduces_S128x128_S128 (.inl rfl) rfl : FVec F S128 .f32) shapeCasts_S128_S1x128

/-- Four rows over one another. -/
def rows4 {e : EltTy} (x0 x1 x2 x3 : Vec F S1x128 e) : Vec F S4x128 e :=
  concatenate S4x128 0 [⟨S1x128, x0⟩, ⟨S1x128, x1⟩, ⟨S1x128, x2⟩, ⟨S1x128, x3⟩] concatenates_S1x128_S1x128_S1x128_S1x128_S4x128_d0

/-- The number a half is, from its bits. -/
def halfVal (h : IVec S4x128 32) : FVec F S4x128 .f32 :=
  have mag := andi h (broadcast S4x128 32767#32)
  have man := andi h (broadcast S4x128 1023#32)
  have bits := addi (shli mag (broadcast S4x128 13#32))
    (select (cmpi .sge mag (broadcast S4x128 31744#32)) (broadcast S4x128 1879048192#32) (broadcast S4x128 939524096#32))
  have val : FVec F S4x128 .f32 := select (cmpi .slt mag (broadcast S4x128 1024#32))
    (mulf (sitofp .f32 man) (broadcast S4x128 (Scalar.ofBits .f32 0x33800000#32))) (bitcastToFloat .f32 bits)
  select (cmpi .ne (andi h (broadcast S4x128 32768#32)) (broadcast S4x128 0#32))
    (subf (broadcast S4x128 (Scalar.ofBits .f32 0x00000000#32)) val) val

/-- The optimizer's state with the mean square added, -/
def newState (m s : FVec F S4x128 .f32) : FVec F S4x128 .f32 :=
  addf m (mulf s (broadcast S4x128 (Scalar.ofBits .f32 0x3C000000#32)))

/-- and the step it gives. -/
def stepOf (st : FVec F S4x128 .f32) : FVec F S4x128 .f32 :=
  divf (broadcast S4x128 (Scalar.ofBits .f32 0x3CA3D70A#32)) (addf (sqrt st) (broadcast S4x128 (Scalar.ofBits .f32 0x322BCC77#32)))

/-- Row `j` of four. -/
def row0 (x : FVec F S4x128 .f32) : FVec F S1x128 .f32 := extractStridedSlice S1x128 ![0, 0] x slices_S4x128_o0_0_S1x128
def row1 (x : FVec F S4x128 .f32) : FVec F S1x128 .f32 := extractStridedSlice S1x128 ![1, 0] x slices_S4x128_o1_0_S1x128
def row2 (x : FVec F S4x128 .f32) : FVec F S1x128 .f32 := extractStridedSlice S1x128 ![2, 0] x slices_S4x128_o2_0_S1x128
def row3 (x : FVec F S4x128 .f32) : FVec F S1x128 .f32 := extractStridedSlice S1x128 ![3, 0] x slices_S4x128_o3_0_S1x128

/-- A row over a whole tile. -/
def over (x : FVec F S1x128 .f32) : FVec F S128x128 .f32 := broadcastTo S128x128 x broadcasts_S1x128_S128x128

/-- The updated row of each of 128 slots: the code in byte `sh / 8`, dequantised, less the step. -/
def newRow (c : Vec F S128x128 .i32) (sh : BitVec 32) (scale bias mult : FVec F S1x128 .f32) (g : FVec F S128x128 .f32) : FVec F S128x128 .f32 :=
  have code : IVec S128x128 32 := andi (shrui (transpose S128x128 [1, 0] c transposes_S128x128_p1_0_S128x128) (broadcast S128x128 sh)) (broadcast S128x128 255#32)
  subf (addf (mulf (sitofp .f32 code) (over scale)) (over bias)) (mulf (over mult) g)

/-- Each slot's least and greatest value. -/
def lowOf (w : FVec F S128x128 .f32) : FVec F S1x128 .f32 :=
  shapeCast S1x128 (multiReduction .minimumf [0] S128 w 0x7F800000#32 reduces_S128x128_S128 (.inl rfl) rfl : FVec F S128 .f32) shapeCasts_S128_S1x128
def highOf (w : FVec F S128x128 .f32) : FVec F S1x128 .f32 :=
  shapeCast S1x128 (multiReduction .maximumf [0] S128 w 0xFF800000#32 reduces_S128x128_S128 (.inl rfl) rfl : FVec F S128 .f32) shapeCasts_S128_S1x128

/-- Rounded to a half and widened again. -/
def throughHalf (x : FVec F S4x128 .f32) : FVec F S4x128 .f32 := extf .f32 (truncf .f16 x bitsLt_f16_f32) bitsLt_f16_f32

/-- The inverse of the new scale. -/
def invOf (s : FVec F S4x128 .f32) : FVec F S4x128 .f32 :=
  divf (broadcast S4x128 (Scalar.ofBits .f32 0x3F800000#32)) (addf s (broadcast S4x128 (Scalar.ofBits .f32 0x322BCC77#32)))

/-- The new codes of 128 slots, stochastically rounded. -/
def quant (r : Vec F S128x128 .i32) (base inv : FVec F S1x128 .f32) (w : FVec F S128x128 .f32) : IVec S128x128 32 :=
  have u : FVec F S128x128 .f32 := mulf (sitofp .f32 (shrui (transpose S128x128 [1, 0] r transposes_S128x128_p1_0_S128x128) (broadcast S128x128 8#32) : IVec S128x128 32))
    (broadcast S128x128 (Scalar.ofBits .f32 0x33800000#32))
  fptosi 32 (minimumf (broadcast S128x128 (Scalar.ofBits .f32 0x437F0000#32)) (maximumf (broadcast S128x128 (Scalar.ofBits .f32 0x00000000#32))
    (floor (addf (mulf (subf w (over base)) (over inv)) u))))

/-- The codes of four tiles as bytes, one slot a row. -/
def packOf (c0 c1 c2 c3 : IVec S128x128 32) : IVec S512x128 8 :=
  bitcast S512x128 8 (transpose S128x128 [1, 0]
    (ori (ori (ori c0 (shli c1 (broadcast S128x128 8#32))) (shli c2 (broadcast S128x128 16#32))) (shli c3 (broadcast S128x128 24#32)))
    transposes_S128x128_p1_0_S128x128) bitcasts_S128x128_w32_S512x128_w8

/-- What a group loads: two pairs of tiles' counts, the three terms, the codes, and by tile the packed qparams, the
    state and the random bits. -/
structure Loads (F : FTy → Type) where
  w0 : Vec F S56x256 .i32
  w1 : Vec F S56x256 .i32
  a0 : Vec F S128x224 .bf16
  a1 : Vec F S128x224 .bf16
  a2 : Vec F S128x224 .bf16
  code : Vec F S128x128 .i32
  q0 : Vec F S1x128 .i32
  q1 : Vec F S1x128 .i32
  q2 : Vec F S1x128 .i32
  q3 : Vec F S1x128 .i32
  m0 : Vec F S1x128 .f32
  m1 : Vec F S1x128 .f32
  m2 : Vec F S1x128 .f32
  m3 : Vec F S1x128 .f32
  r0 : Vec F S128x128 .i32
  r1 : Vec F S128x128 .i32
  r2 : Vec F S128x128 .i32
  r3 : Vec F S128x128 .i32

namespace Loads

variable (L : Loads F)

def grad0 : FVec F S128x128 .f32 := leftTile (pairGrad L.w0 L.a0 L.a1 L.a2)
def grad1 : FVec F S128x128 .f32 := rightTile (pairGrad L.w0 L.a0 L.a1 L.a2)
def grad2 : FVec F S128x128 .f32 := leftTile (pairGrad L.w1 L.a0 L.a1 L.a2)
def grad3 : FVec F S128x128 .f32 := rightTile (pairGrad L.w1 L.a0 L.a1 L.a2)

def qparam : IVec S4x128 32 := rows4 (F := F) (e := .i32) L.q0 L.q1 L.q2 L.q3
def scale : FVec F S4x128 .f32 := halfVal L.qparam
def bias : FVec F S4x128 .f32 := halfVal (shrui L.qparam (broadcast S4x128 16#32))
def state : FVec F S4x128 .f32 :=
  newState (rows4 (e := .f32) L.m0 L.m1 L.m2 L.m3) (rows4 (e := .f32) (sumSq L.grad0) (sumSq L.grad1) (sumSq L.grad2) (sumSq L.grad3))
def mult : FVec F S4x128 .f32 := stepOf L.state

def new0 : FVec F S128x128 .f32 := newRow L.code 0#32 (row0 L.scale) (row0 L.bias) (row0 L.mult) L.grad0
def new1 : FVec F S128x128 .f32 := newRow L.code 8#32 (row1 L.scale) (row1 L.bias) (row1 L.mult) L.grad1
def new2 : FVec F S128x128 .f32 := newRow L.code 16#32 (row2 L.scale) (row2 L.bias) (row2 L.mult) L.grad2
def new3 : FVec F S128x128 .f32 := newRow L.code 24#32 (row3 L.scale) (row3 L.bias) (row3 L.mult) L.grad3

def low : FVec F S4x128 .f32 := rows4 (e := .f32) (lowOf L.new0) (lowOf L.new1) (lowOf L.new2) (lowOf L.new3)
def high : FVec F S4x128 .f32 := rows4 (e := .f32) (highOf L.new0) (highOf L.new1) (highOf L.new2) (highOf L.new3)
def newScale : FVec F S4x128 .f32 :=
  throughHalf (divf (subf L.high L.low) (broadcast S4x128 (Scalar.ofBits .f32 0x437F0000#32)))
def newBias : FVec F S4x128 .f32 := throughHalf L.low
def inv : FVec F S4x128 .f32 := invOf L.newScale

def out : IVec S512x128 8 := packOf (quant L.r0 (row0 L.newBias) (row0 L.inv) L.new0) (quant L.r1 (row1 L.newBias) (row1 L.inv) L.new1)
  (quant L.r2 (row2 L.newBias) (row2 L.inv) L.new2) (quant L.r3 (row3 L.newBias) (row3 L.inv) L.new3)

end Loads

/-- Loads: the indices of a 56x256 block of counts, of a term, of a tile of codes, of one row, of a tile of random words. -/
def cntRect (o : ℕ) (h : o ≤ 2304) : Rect S56x2560 := Rect.unit ![0, o] S56x256.size (by intro a; fin_cases a <;> simp <;> omega)
def codeRect (g : Fin 5) : Rect S640x128 := Rect.unit ![128 * g.val, 0] S128x128.size (by intro a; have := g.isLt; fin_cases a <;> simp <;> omega)
def rowRect (i : grid0.Coords) (j : Fin 4) (g : Fin 5) : Rect S400x128 :=
  Rect.unit (k0_off1 i (BitVec.ofNat 32 (100 * j.val)) (BitVec.ofNat 32 g.val)) S1x128.size (k0_off1_inb i j g)
def randRect (g : Fin 5) (j : Fin 4) : LoadRect S2560x128 :=
  ⟨![512 * g.val + j.val, 0], S128x128.size, ![4, 1], by intro a; have := g.isLt; have := j.isLt; fin_cases a <;> simp <;> omega⟩

/-- What group `g` of step `i` loads from the blocks. -/
def loads (i : grid0.Coords) (x1 : Vec F S56x2560 .i32) (x2 : Vec F S384x224 .bf16) (x3 : Vec F S640x128 .i32) (x4 : Vec F S400x128 .i32)
    (x5 : Vec F S400x128 .f32) (x6 : Vec F S2560x128 .i32) (g : Fin 5) : Loads F where
  w0 := fun y => x1 ((cntRect (512 * g.val) (by have := g.isLt; omega)).toLoadRect.idx y)
  w1 := fun y => x1 ((cntRect (512 * g.val + 256) (by have := g.isLt; omega)).toLoadRect.idx y)
  a0 := fun y => x2 ((Rect.unit (s := S384x224) ![0, 0] S128x224.size inb_S384x224_S128x224_0_0).toLoadRect.idx y)
  a1 := fun y => x2 ((Rect.unit (s := S384x224) ![128, 0] S128x224.size inb_S384x224_S128x224_128_0).toLoadRect.idx y)
  a2 := fun y => x2 ((Rect.unit (s := S384x224) ![256, 0] S128x224.size inb_S384x224_S128x224_256_0).toLoadRect.idx y)
  code := fun y => x3 ((codeRect g).toLoadRect.idx y)
  q0 := fun y => x4 ((rowRect i 0 g).toLoadRect.idx y)
  q1 := fun y => x4 ((rowRect i 1 g).toLoadRect.idx y)
  q2 := fun y => x4 ((rowRect i 2 g).toLoadRect.idx y)
  q3 := fun y => x4 ((rowRect i 3 g).toLoadRect.idx y)
  m0 := fun y => x5 ((rowRect i 0 g).toLoadRect.idx y)
  m1 := fun y => x5 ((rowRect i 1 g).toLoadRect.idx y)
  m2 := fun y => x5 ((rowRect i 2 g).toLoadRect.idx y)
  m3 := fun y => x5 ((rowRect i 3 g).toLoadRect.idx y)
  r0 := fun y => x6 ((randRect g 0).idx y)
  r1 := fun y => x6 ((randRect g 1).idx y)
  r2 := fun y => x6 ((randRect g 2).idx y)
  r3 := fun y => x6 ((randRect g 3).idx y)

/-- The step's four blocks of results: the codes, and one row of scales, biases or states of each tile of each group, the other
    rows staying as they were. -/
def codesOf (L : Fin 5 → Loads F) : Vec F S2560x128 .i8 := fun y =>
  (L ⟨(y 0).val / 512, by have := (y 0).isLt; change (y 0).val < 2560 at this; omega⟩).out
    (ix2 ⟨(y 0).val % 512, Nat.mod_lt _ (by norm_num)⟩ (y 1))
def rowsOf (i : grid0.Coords) (f : Fin 5 → FVec F S4x128 .f32) (Y : Vec F S400x128 .f32) : Vec F S400x128 .f32 := fun y =>
  if h : 5 * (i 0).val ≤ (y 0).val % 100 ∧ (y 0).val % 100 < 5 * (i 0).val + 5 then
    f ⟨(y 0).val % 100 - 5 * (i 0).val, by omega⟩
      (ix2 ⟨(y 0).val / 100, by have := (y 0).isLt; change (y 0).val < 400 at this; omega⟩ (y 1))
  else Y y

end Cert.KernelIdeal.Hand

end
-- ==== Proof.Run.lean ====
module

public import proofs.«01_k».proof.Proof.Gen.KernelIdeal.Frame
public import proofs.«01_k».proof.Proof.Gen.KernelIdeal.Skeleton
public import Idealize.ShloMosaic.Lib.Claim
public import proofs.«01_k».proof.Proof.Group

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lists hold nothing: every length, the last of 128 words, is zero. -/
def NoCarry (x0 : Vec F S4096 .i32) : Prop := ∀ y : S4096.Idx, (y 0).val % 128 = 127 → x0 y = 0#32

/-- A word of the lists at a position that is 127 modulo 128, a list's length, is zero. -/
theorem length_zero (arg1 : Memref sig .tc .smem S4096 .i32) (harg1 : arg1.IsWhole) (x0 : Vec F S4096 .i32)
    (hx : NoCarry x0) (n : ℕ)
    (h : ∀ a, (![n] : Fin 1 → ℕ) a + S1.size a ≤ S4096.size a) (hn : n % 128 = 127)
    (hf : 0 < S1.numel) :
    View.readAt (Elt F) arg1.view (Rect.unit (s := S4096) ![n] S1.size h).toLoadRect (harg1.unread x0) (Shape.Idx.first hf) = 0#32 := by
  rw [View.readAt_apply, harg1.read_unread]
  exact hx _ (show (n + 1 * 0) % 128 = 127 by omega)

/-- Where the lists hold nothing the branch without them is taken … -/
theorem taken_of {v0 v1 v3 v5 v7 v9 v11 v13 v15 v17 v19 v21 v23 v25 v27 v29 v31 v33 v35 v37 v39 v41 v43 v45 v47 v49 v51 v53 v55 v57 v59 v61 : BitVec 32} (hv0 : v0 = 0#32) (hv1 : v1 = 0#32) (hv3 : v3 = 0#32) (hv5 : v5 = 0#32) (hv7 : v7 = 0#32) (hv9 : v9 = 0#32) (hv11 : v11 = 0#32) (hv13 : v13 = 0#32) (hv15 : v15 = 0#32) (hv17 : v17 = 0#32) (hv19 : v19 = 0#32) (hv21 : v21 = 0#32) (hv23 : v23 = 0#32) (hv25 : v25 = 0#32) (hv27 : v27 = 0#32) (hv29 : v29 = 0#32) (hv31 : v31 = 0#32) (hv33 : v33 = 0#32) (hv35 : v35 = 0#32) (hv37 : v37 = 0#32) (hv39 : v39 = 0#32) (hv41 : v41 = 0#32) (hv43 : v43 = 0#32) (hv45 : v45 = 0#32) (hv47 : v47 = 0#32) (hv49 : v49 = 0#32) (hv51 : v51 = 0#32) (hv53 : v53 = 0#32) (hv55 : v55 = 0#32) (hv57 : v57 = 0#32) (hv59 : v59 = 0#32) (hv61 : v61 = 0#32) :
    Scalar.cmpi CmpIPredicate.ne (Scalar.extui (Scalar.cmpi CmpIPredicate.eq ((Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi v0 v1) v3) v5) v7) v9) v11) v13) v15) v17) v19) v21) v23) v25) v27) v29) v31) v33) v35) v37) v39) v41) v43) v45) v47) v49) v51) v53) v55) v57) v59) v61)) 0#32) : BitVec 32) 0#32 = 1#1 := by
  subst_vars; decide

/-- … and the other one is not. -/
theorem not_taken_of {v0 v1 v3 v5 v7 v9 v11 v13 v15 v17 v19 v21 v23 v25 v27 v29 v31 v33 v35 v37 v39 v41 v43 v45 v47 v49 v51 v53 v55 v57 v59 v61 : BitVec 32} (hv0 : v0 = 0#32) (hv1 : v1 = 0#32) (hv3 : v3 = 0#32) (hv5 : v5 = 0#32) (hv7 : v7 = 0#32) (hv9 : v9 = 0#32) (hv11 : v11 = 0#32) (hv13 : v13 = 0#32) (hv15 : v15 = 0#32) (hv17 : v17 = 0#32) (hv19 : v19 = 0#32) (hv21 : v21 = 0#32) (hv23 : v23 = 0#32) (hv25 : v25 = 0#32) (hv27 : v27 = 0#32) (hv29 : v29 = 0#32) (hv31 : v31 = 0#32) (hv33 : v33 = 0#32) (hv35 : v35 = 0#32) (hv37 : v37 = 0#32) (hv39 : v39 = 0#32) (hv41 : v41 = 0#32) (hv43 : v43 = 0#32) (hv45 : v45 = 0#32) (hv47 : v47 = 0#32) (hv49 : v49 = 0#32) (hv51 : v51 = 0#32) (hv53 : v53 = 0#32) (hv55 : v55 = 0#32) (hv57 : v57 = 0#32) (hv59 : v59 = 0#32) (hv61 : v61 = 0#32) :
    ¬ k0_cond2 v0 v1 v3 v5 v7 v9 v11 v13 v15 v17 v19 v21 v23 v25 v27 v29 v31 v33 v35 v37 v39 v41 v43 v45 v47 v49 v51 v53 v55 v57 v59 v61 = 1#1 := by
  subst_vars; decide

/-- The other branch's condition, named so that it is told from the first by its head alone. -/
theorem other_of {v0 v1 v3 v5 v7 v9 v11 v13 v15 v17 v19 v21 v23 v25 v27 v29 v31 v33 v35 v37 v39 v41 v43 v45 v47 v49 v51 v53 v55 v57 v59 v61 : BitVec 32} (h : k0_cond2 v0 v1 v3 v5 v7 v9 v11 v13 v15 v17 v19 v21 v23 v25 v27 v29 v31 v33 v35 v37 v39 v41 v43 v45 v47 v49 v51 v53 v55 v57 v59 v61 = 1#1) : k0_cond2 v0 v1 v3 v5 v7 v9 v11 v13 v15 v17 v19 v21 v23 v25 v27 v29 v31 v33 v35 v37 v39 v41 v43 v45 v47 v49 v51 v53 v55 v57 v59 v61 = 1#1 := h

set_option maxHeartbeats 4000000 in
/-- The body, the lists holding nothing: the branch without carries runs, the other does not. The pieces it writes over the four
    blocks of results, and that it does. -/
def bodyRun (c : Dev nD) (i : grid0.Coords) (arg1 : Memref sig .tc .smem S4096 .i32) (harg1 : arg1.IsWhole) (arg2 : Memref sig .tc .vmem S56x2560 .i32) (harg2 : arg2.IsWhole) (arg3 : Memref sig .tc .vmem S384x224 .bf16) (harg3 : arg3.IsWhole) (arg4 : Memref sig .tc .vmem S640x128 .i32) (harg4 : arg4.IsWhole) (arg5 : Memref sig .tc .vmem S400x128 .i32) (harg5 : arg5.IsWhole) (arg6 : Memref sig .tc .vmem S400x128 .f32) (harg6 : arg6.IsWhole) (arg7 : Memref sig .tc .vmem S2560x128 .i32) (harg7 : arg7.IsWhole) (arg8 : Memref sig .tc .vmem S2560x128 .i8) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S2560x128 .f32) (harg12 : arg12.IsWhole) (arg13 : Memref sig .tc .vmem S56x2560 .i32) (harg13 : arg13.IsWhole)
    (x0 : Vec F S4096 .i32) (x1 : Vec F S56x2560 .i32) (x2 : Vec F S384x224 .bf16) (x3 : Vec F S640x128 .i32) (x4 : Vec F S400x128 .i32) (x5 : Vec F S400x128 .f32) (x6 : Vec F S2560x128 .i32) (hx : NoCarry x0)
    (y7 : Vec F S2560x128 .i8) (y8 y9 y10 : Vec F S400x128 .f32) :
    Σ' (L7 : List (View.Piece (Elt F) S2560x128 .i8)) (L8 : List (View.Piece (Elt F) S400x128 .f32)) (L9 : List (View.Piece (Elt F) S400x128 .f32)), { L10 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread y7) L7)) ∗ owns (c : Thread nD τ) arg9 fullShare (arg9.view.read (Elt F) (arg9.view.writes (Elt F) (harg9.unread y8) L8)) ∗ owns (c : Thread nD τ) arg10 fullShare (arg10.view.read (Elt F) (arg10.view.writes (Elt F) (harg10.unread y9) L9)) ∗ owns (c : Thread nD τ) arg11 fullShare (arg11.view.read (Elt F) (arg11.view.writes (Elt F) (harg11.unread y10) L10)) ∗ (∃ d, owns (c : Thread nD τ) arg12 fullShare d) ∗ (∃ d, owns (c : Thread nD τ) arg13 fullShare d)) -∗ K ⟨⟩))
          ⊢ wp frame (wpE (defs₀ (F := F)) Variants.none c none) E (cc0_update i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_update_eq_skeleton]; unfold cc0_update_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first
      | (with_reducible refine not_taken_of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
         all_goals exact length_zero arg1 harg1 x0 hx _ _ (by decide) _)
      | (fail_if_success (with_reducible refine other_of ?_)
         refine taken_of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
         all_goals exact length_zero arg1 harg1 x0 hx _ _ (by decide) _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [HS0]
    · iexists _, _; isplitr; swap; · iexact HS0
      ipureintro; rfl
    iexists _, _; isplitr; swap; · iexact HS1
    ipureintro; rfl

end Cert.KernelIdeal.Hand

end
-- ==== Proof.Grads.lean ====
module

public import proofs.«01_k».proof.Proof.Run
public import Idealize.ShloMosaic.Lib.Pipeline.ReadBack
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (c : Dev nD) (i : grid0.Coords) (arg1 : Memref sig .tc .smem S4096 .i32) (harg1 : arg1.IsWhole) (arg2 : Memref sig .tc .vmem S56x2560 .i32) (harg2 : arg2.IsWhole) (arg3 : Memref sig .tc .vmem S384x224 .bf16) (harg3 : arg3.IsWhole) (arg4 : Memref sig .tc .vmem S640x128 .i32) (harg4 : arg4.IsWhole) (arg5 : Memref sig .tc .vmem S400x128 .i32) (harg5 : arg5.IsWhole) (arg6 : Memref sig .tc .vmem S400x128 .f32) (harg6 : arg6.IsWhole) (arg7 : Memref sig .tc .vmem S2560x128 .i32) (harg7 : arg7.IsWhole) (arg8 : Memref sig .tc .vmem S2560x128 .i8) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S2560x128 .f32) (harg12 : arg12.IsWhole) (arg13 : Memref sig .tc .vmem S56x2560 .i32) (harg13 : arg13.IsWhole)
  (x0 : Vec F S4096 .i32) (x1 : Vec F S56x2560 .i32) (x2 : Vec F S384x224 .bf16) (x3 : Vec F S640x128 .i32) (x4 : Vec F S400x128 .i32) (x5 : Vec F S400x128 .f32) (x6 : Vec F S2560x128 .i32) (hx : NoCarry x0) (y7 : Vec F S2560x128 .i8) (y8 y9 y10 : Vec F S400x128 .f32)

/-- A load of a whole buffer's contents. -/
theorem readAt_unread_fun {sp : Space} {S : Shape} {e : EltTy} {a : Memref sig .tc sp S e} (h : a.IsWhole) (X : S.Idx → Elt F e) (B : LoadRect S) :
    a.view.readAt (Elt F) B (h.unread X) = fun y => X (B.idx y) := funext fun y => by rw [View.readAt_apply, h.read_unread]

/-- What the body reads back of the gradients it has stored, tile by tile. -/
theorem grads :
    bodyRun.sl.v242 (F := F)  c arg2 harg2 arg3 harg3 arg12 x1 x2 = (loads i x1 x2 x3 x4 x5 x6 0).grad0
    ∧ bodyRun.sl.v265 (F := F)  c i arg2 harg2 arg3 harg3 arg4 harg4 arg5 harg5 arg6 harg6 arg12 x1 x2 x3 x4 x5 = (loads i x1 x2 x3 x4 x5 x6 0).grad1
    ∧ bodyRun.sl.v288 (F := F)  c i arg2 harg2 arg3 harg3 arg4 harg4 arg5 harg5 arg6 harg6 arg12 x1 x2 x3 x4 x5 = (loads i x1 x2 x3 x4 x5 x6 0).grad2
    ∧ bodyRun.sl.v311 (F := F)  c i arg2 harg2 arg3 harg3 arg4 harg4 arg5 harg5 arg6 harg6 arg12 x1 x2 x3 x4 x5 = (loads i x1 x2 x3 x4 x5 x6 0).grad3
    ∧ bodyRun.sl.v676 (F := F)  c i arg2 harg2 arg3 harg3 arg4 harg4 arg5 harg5 arg6 harg6 arg12 x1 x2 x3 x4 x5 = (loads i x1 x2 x3 x4 x5 x6 1).grad0
    ∧ bodyRun.sl.v699 (F := F)  c i arg2 harg2 arg3 harg3 arg4 harg4 arg5 harg5 arg6 harg6 arg12 x1 x2 x3 x4 x5 = (loads i x1 x2 x3 x4 x5 x6 1).grad1
    ∧ bodyRun.sl.v722 (F := F)  c i arg2 harg2 arg3 harg3 arg4 harg4 arg5 harg5 arg6 harg6 arg12 x1 x2 x3 x4 x5 = (loads i x1 x2 x3 x4 x5 x6 1).grad2
    ∧ bodyRun.sl.v745 (F := F)  c i arg2 harg2 arg3 harg3 arg4 harg4 arg5 harg5 arg6 harg6 arg12 x1 x2 x3 x4 x5 = (loads i x1 x2 x3 x4 x5 x6 1).grad3
    ∧ bodyRun.sl.v1110 (F := F)  c i arg2 harg2 arg3 harg3 arg4 harg4 arg5 harg5 arg6 harg6 arg12 x1 x2 x3 x4 x5 = (loads i x1 x2 x3 x4 x5 x6 2).grad0
    ∧ bodyRun.sl.v1133 (F := F)  c i arg2 harg2 arg3 harg3 arg4 harg4 arg5 harg5 arg6 harg6 arg12 x1 x2 x3 x4 x5 = (loads i x1 x2 x3 x4 x5 x6 2).grad1
    ∧ bodyRun.sl.v1156 (F := F)  c i arg2 harg2 arg3 harg3 arg4 harg4 arg5 harg5 arg6 harg6 arg12 x1 x2 x3 x4 x5 = (loads i x1 x2 x3 x4 x5 x6 2).grad2
    ∧ bodyRun.sl.v1179 (F := F)  c i arg2 harg2 arg3 harg3 arg4 harg4 arg5 harg5 arg6 harg6 arg12 x1 x2 x3 x4 x5 = (loads i x1 x2 x3 x4 x5 x6 2).grad3
    ∧ bodyRun.sl.v1544 (F := F)  c i arg2 harg2 arg3 harg3 arg4 harg4 arg5 harg5 arg6 harg6 arg12 x1 x2 x3 x4 x5 = (loads i x1 x2 x3 x4 x5 x6 3).grad0
    ∧ bodyRun.sl.v1567 (F := F)  c i arg2 harg2 arg3 harg3 arg4 harg4 arg5 harg5 arg6 harg6 arg12 x1 x2 x3 x4 x5 = (loads i x1 x2 x3 x4 x5 x6 3).grad1
    ∧ bodyRun.sl.v1590 (F := F)  c i arg2 harg2 arg3 harg3 arg4 harg4 arg5 harg5 arg6 harg6 arg12 x1 x2 x3 x4 x5 = (loads i x1 x2 x3 x4 x5 x6 3).grad2
    ∧ bodyRun.sl.v1613 (F := F)  c i arg2 harg2 arg3 harg3 arg4 harg4 arg5 harg5 arg6 harg6 arg12 x1 x2 x3 x4 x5 = (loads i x1 x2 x3 x4 x5 x6 3).grad3
    ∧ bodyRun.sl.v1978 (F := F)  c i arg2 harg2 arg3 harg3 arg4 harg4 arg5 harg5 arg6 harg6 arg12 x1 x2 x3 x4 x5 = (loads i x1 x2 x3 x4 x5 x6 4).grad0
    ∧ bodyRun.sl.v2001 (F := F)  c i arg2 harg2 arg3 harg3 arg4 harg4 arg5 harg5 arg6 harg6 arg12 x1 x2 x3 x4 x5 = (loads i x1 x2 x3 x4 x5 x6 4).grad1
    ∧ bodyRun.sl.v2024 (F := F)  c i arg2 harg2 arg3 harg3 arg4 harg4 arg5 harg5 arg6 harg6 arg12 x1 x2 x3 x4 x5 = (loads i x1 x2 x3 x4 x5 x6 4).grad2
    ∧ bodyRun.sl.v2047 (F := F)  c i arg2 harg2 arg3 harg3 arg4 harg4 arg5 harg5 arg6 harg6 arg12 x1 x2 x3 x4 x5 = (loads i x1 x2 x3 x4 x5 x6 4).grad3 := by
  refine ⟨?_, ?_, ?_, ?_, ?_, ?_, ?_, ?_, ?_, ?_, ?_, ?_, ?_, ?_, ?_, ?_, ?_, ?_, ?_, ?_⟩ <;>
  (simp (disch := decide) only [bodyRun.sl.HS0_4, bodyRun.sl.HS0_5, bodyRun.sl.HS0_6, bodyRun.sl.HS0_7, bodyRun.sl.HS0_8, bodyRun.sl.HS0_12, bodyRun.sl.HS0_13, bodyRun.sl.HS0_14, bodyRun.sl.HS0_15, bodyRun.sl.HS0_16, bodyRun.sl.HS0_20, bodyRun.sl.HS0_21, bodyRun.sl.HS0_22, bodyRun.sl.HS0_23, bodyRun.sl.HS0_24, bodyRun.sl.HS0_28, bodyRun.sl.HS0_29, bodyRun.sl.HS0_30, bodyRun.sl.HS0_31, bodyRun.sl.HS0_32, bodyRun.sl.HS0_36, bodyRun.sl.HS0_37, bodyRun.sl.HS0_38, bodyRun.sl.HS0_39, bodyRun.sl.HS0_40, bodyRun.sl.v242, bodyRun.sl.v265, bodyRun.sl.v288, bodyRun.sl.v311, bodyRun.sl.v676, bodyRun.sl.v699, bodyRun.sl.v722, bodyRun.sl.v745, bodyRun.sl.v1110, bodyRun.sl.v1133, bodyRun.sl.v1156, bodyRun.sl.v1179, bodyRun.sl.v1544, bodyRun.sl.v1567, bodyRun.sl.v1590, bodyRun.sl.v1613, bodyRun.sl.v1978, bodyRun.sl.v2001, bodyRun.sl.v2024, bodyRun.sl.v2047, ↓ View.readCov_skip, ↓ View.readCov_cons_toLoadRect]
   simp only [bodyRun.sl.cst_382, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, readAt_unread_fun, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, shapeCast_self]
   rfl)

end Cert.KernelIdeal.Hand

end
-- ==== Proof.News.lean ====
module

public import proofs.«01_k».proof.Proof.Grads
public import Idealize.ShloMosaic.Lib.Pipeline.ReadBack
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (c : Dev nD) (i : grid0.Coords) (arg1 : Memref sig .tc .smem S4096 .i32) (harg1 : arg1.IsWhole) (arg2 : Memref sig .tc .vmem S56x2560 .i32) (harg2 : arg2.IsWhole) (arg3 : Memref sig .tc .vmem S384x224 .bf16) (harg3 : arg3.IsWhole) (arg4 : Memref sig .tc .vmem S640x128 .i32) (harg4 : arg4.IsWhole) (arg5 : Memref sig .tc .vmem S400x128 .i32) (harg5 : arg5.IsWhole) (arg6 : Memref sig .tc .vmem S400x128 .f32) (harg6 : arg6.IsWhole) (arg7 : Memref sig .tc .vmem S2560x128 .i32) (harg7 : arg7.IsWhole) (arg8 : Memref sig .tc .vmem S2560x128 .i8) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S2560x128 .f32) (harg12 : arg12.IsWhole) (arg13 : Memref sig .tc .vmem S56x2560 .i32) (harg13 : arg13.IsWhole)
  (x0 : Vec F S4096 .i32) (x1 : Vec F S56x2560 .i32) (x2 : Vec F S384x224 .bf16) (x3 : Vec F S640x128 .i32) (x4 : Vec F S400x128 .i32) (x5 : Vec F S400x128 .f32) (x6 : Vec F S2560x128 .i32) (hx : NoCarry x0) (y7 : Vec F S2560x128 .i8) (y8 y9 y10 : Vec F S400x128 .f32)

set_option maxHeartbeats 4000000 in
/-- What the body reads back of the updated rows it has stored, tile by tile. -/
theorem news :
    bodyRun.sl.v414 (F := F)  c i arg2 harg2 arg3 harg3 arg4 harg4 arg5 harg5 arg6 harg6 arg12 x1 x2 x3 x4 x5 = (loads i x1 x2 x3 x4 x5 x6 0).new0
    ∧ bodyRun.sl.v435 (F := F)  c i arg2 harg2 arg3 harg3 arg4 harg4 arg5 harg5 arg6 harg6 arg12 x1 x2 x3 x4 x5 = (loads i x1 x2 x3 x4 x5 x6 0).new1
    ∧ bodyRun.sl.v459 (F := F)  c i arg2 harg2 arg3 harg3 arg4 harg4 arg5 harg5 arg6 harg6 arg12 x1 x2 x3 x4 x5 = (loads i x1 x2 x3 x4 x5 x6 0).new2
    ∧ bodyRun.sl.v483 (F := F)  c i arg2 harg2 arg3 harg3 arg4 harg4 arg5 harg5 arg6 harg6 arg12 x1 x2 x3 x4 x5 = (loads i x1 x2 x3 x4 x5 x6 0).new3
    ∧ bodyRun.sl.v848 (F := F)  c i arg2 harg2 arg3 harg3 arg4 harg4 arg5 harg5 arg6 harg6 arg12 x1 x2 x3 x4 x5 = (loads i x1 x2 x3 x4 x5 x6 1).new0
    ∧ bodyRun.sl.v869 (F := F)  c i arg2 harg2 arg3 harg3 arg4 harg4 arg5 harg5 arg6 harg6 arg12 x1 x2 x3 x4 x5 = (loads i x1 x2 x3 x4 x5 x6 1).new1
    ∧ bodyRun.sl.v893 (F := F)  c i arg2 harg2 arg3 harg3 arg4 harg4 arg5 harg5 arg6 harg6 arg12 x1 x2 x3 x4 x5 = (loads i x1 x2 x3 x4 x5 x6 1).new2
    ∧ bodyRun.sl.v917 (F := F)  c i arg2 harg2 arg3 harg3 arg4 harg4 arg5 harg5 arg6 harg6 arg12 x1 x2 x3 x4 x5 = (loads i x1 x2 x3 x4 x5 x6 1).new3
    ∧ bodyRun.sl.v1282 (F := F)  c i arg2 harg2 arg3 harg3 arg4 harg4 arg5 harg5 arg6 harg6 arg12 x1 x2 x3 x4 x5 = (loads i x1 x2 x3 x4 x5 x6 2).new0
    ∧ bodyRun.sl.v1303 (F := F)  c i arg2 harg2 arg3 harg3 arg4 harg4 arg5 harg5 arg6 harg6 arg12 x1 x2 x3 x4 x5 = (loads i x1 x2 x3 x4 x5 x6 2).new1
    ∧ bodyRun.sl.v1327 (F := F)  c i arg2 harg2 arg3 harg3 arg4 harg4 arg5 harg5 arg6 harg6 arg12 x1 x2 x3 x4 x5 = (loads i x1 x2 x3 x4 x5 x6 2).new2
    ∧ bodyRun.sl.v1351 (F := F)  c i arg2 harg2 arg3 harg3 arg4 harg4 arg5 harg5 arg6 harg6 arg12 x1 x2 x3 x4 x5 = (loads i x1 x2 x3 x4 x5 x6 2).new3
    ∧ bodyRun.sl.v1716 (F := F)  c i arg2 harg2 arg3 harg3 arg4 harg4 arg5 harg5 arg6 harg6 arg12 x1 x2 x3 x4 x5 = (loads i x1 x2 x3 x4 x5 x6 3).new0
    ∧ bodyRun.sl.v1737 (F := F)  c i arg2 harg2 arg3 harg3 arg4 harg4 arg5 harg5 arg6 harg6 arg12 x1 x2 x3 x4 x5 = (loads i x1 x2 x3 x4 x5 x6 3).new1
    ∧ bodyRun.sl.v1761 (F := F)  c i arg2 harg2 arg3 harg3 arg4 harg4 arg5 harg5 arg6 harg6 arg12 x1 x2 x3 x4 x5 = (loads i x1 x2 x3 x4 x5 x6 3).new2
    ∧ bodyRun.sl.v1785 (F := F)  c i arg2 harg2 arg3 harg3 arg4 harg4 arg5 harg5 arg6 harg6 arg12 x1 x2 x3 x4 x5 = (loads i x1 x2 x3 x4 x5 x6 3).new3
    ∧ bodyRun.sl.v2150 (F := F)  c i arg2 harg2 arg3 harg3 arg4 harg4 arg5 harg5 arg6 harg6 arg12 x1 x2 x3 x4 x5 = (loads i x1 x2 x3 x4 x5 x6 4).new0
    ∧ bodyRun.sl.v2171 (F := F)  c i arg2 harg2 arg3 harg3 arg4 harg4 arg5 harg5 arg6 harg6 arg12 x1 x2 x3 x4 x5 = (loads i x1 x2 x3 x4 x5 x6 4).new1
    ∧ bodyRun.sl.v2195 (F := F)  c i arg2 harg2 arg3 harg3 arg4 harg4 arg5 harg5 arg6 harg6 arg12 x1 x2 x3 x4 x5 = (loads i x1 x2 x3 x4 x5 x6 4).new2
    ∧ bodyRun.sl.v2219 (F := F)  c i arg2 harg2 arg3 harg3 arg4 harg4 arg5 harg5 arg6 harg6 arg12 x1 x2 x3 x4 x5 = (loads i x1 x2 x3 x4 x5 x6 4).new3 := by
  refine ⟨?_, ?_, ?_, ?_, ?_, ?_, ?_, ?_, ?_, ?_, ?_, ?_, ?_, ?_, ?_, ?_, ?_, ?_, ?_, ?_⟩ <;>
  (have hg := grads c i arg2 harg2 arg3 harg3 arg4 harg4 arg5 harg5 arg6 harg6 arg12 x1 x2 x3 x4 x5 x6
   simp (disch := decide) only [bodyRun.sl.HS0_4, bodyRun.sl.HS0_5, bodyRun.sl.HS0_6, bodyRun.sl.HS0_7, bodyRun.sl.HS0_8, bodyRun.sl.HS0_12, bodyRun.sl.HS0_13, bodyRun.sl.HS0_14, bodyRun.sl.HS0_15, bodyRun.sl.HS0_16, bodyRun.sl.HS0_20, bodyRun.sl.HS0_21, bodyRun.sl.HS0_22, bodyRun.sl.HS0_23, bodyRun.sl.HS0_24, bodyRun.sl.HS0_28, bodyRun.sl.HS0_29, bodyRun.sl.HS0_30, bodyRun.sl.HS0_31, bodyRun.sl.HS0_32, bodyRun.sl.HS0_36, bodyRun.sl.HS0_37, bodyRun.sl.HS0_38, bodyRun.sl.HS0_39, bodyRun.sl.HS0_40, bodyRun.sl.v414, bodyRun.sl.v435, bodyRun.sl.v459, bodyRun.sl.v483, bodyRun.sl.v848, bodyRun.sl.v869, bodyRun.sl.v893, bodyRun.sl.v917, bodyRun.sl.v1282, bodyRun.sl.v1303, bodyRun.sl.v1327, bodyRun.sl.v1351, bodyRun.sl.v1716, bodyRun.sl.v1737, bodyRun.sl.v1761, bodyRun.sl.v1785, bodyRun.sl.v2150, bodyRun.sl.v2171, bodyRun.sl.v2195, bodyRun.sl.v2219, ↓ View.readCov_skip, ↓ View.readCov_cons_toLoadRect]
   simp only [hg, bodyRun.sl.cst_382, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, readAt_unread_fun]
   simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, shapeCast_self]
   simp only [loads, Loads.grad0, Loads.grad1, Loads.grad2, Loads.grad3, Loads.qparam, Loads.scale, Loads.bias, Loads.state, Loads.mult, Loads.new0, Loads.new1, Loads.new2, Loads.new3, pairGrad, leftTile, rightTile, sumSq, rows4, halfVal, newState, stepOf, row0, row1, row2, row3, over, newRow, lowOf, highOf]
   rfl)

end Cert.KernelIdeal.Hand

end
-- ==== Proof.Pieces.lean ====
module

public import proofs.«01_k».proof.Proof.News
public import Idealize.ShloMosaic.Lib.Pipeline.ReadBack
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (c : Dev nD) (i : grid0.Coords) (arg1 : Memref sig .tc .smem S4096 .i32) (harg1 : arg1.IsWhole) (arg2 : Memref sig .tc .vmem S56x2560 .i32) (harg2 : arg2.IsWhole) (arg3 : Memref sig .tc .vmem S384x224 .bf16) (harg3 : arg3.IsWhole) (arg4 : Memref sig .tc .vmem S640x128 .i32) (harg4 : arg4.IsWhole) (arg5 : Memref sig .tc .vmem S400x128 .i32) (harg5 : arg5.IsWhole) (arg6 : Memref sig .tc .vmem S400x128 .f32) (harg6 : arg6.IsWhole) (arg7 : Memref sig .tc .vmem S2560x128 .i32) (harg7 : arg7.IsWhole) (arg8 : Memref sig .tc .vmem S2560x128 .i8) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S2560x128 .f32) (harg12 : arg12.IsWhole) (arg13 : Memref sig .tc .vmem S56x2560 .i32) (harg13 : arg13.IsWhole)
  (x0 : Vec F S4096 .i32) (x1 : Vec F S56x2560 .i32) (x2 : Vec F S384x224 .bf16) (x3 : Vec F S640x128 .i32) (x4 : Vec F S400x128 .i32) (x5 : Vec F S400x128 .f32) (x6 : Vec F S2560x128 .i32) (hx : NoCarry x0) (y7 : Vec F S2560x128 .i8) (y8 y9 y10 : Vec F S400x128 .f32)

/-- The codes the body writes, -/
theorem run_codes : (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10).1 =
    [⟨Rect.unit (s := S2560x128) ![2048, 0] S512x128.size inb_S2560x128_S512x128_2048_0, (loads i x1 x2 x3 x4 x5 x6 4).out⟩, ⟨Rect.unit (s := S2560x128) ![1536, 0] S512x128.size inb_S2560x128_S512x128_1536_0, (loads i x1 x2 x3 x4 x5 x6 3).out⟩, ⟨Rect.unit (s := S2560x128) ![1024, 0] S512x128.size inb_S2560x128_S512x128_1024_0, (loads i x1 x2 x3 x4 x5 x6 2).out⟩, ⟨Rect.unit (s := S2560x128) ![512, 0] S512x128.size inb_S2560x128_S512x128_512_0, (loads i x1 x2 x3 x4 x5 x6 1).out⟩, ⟨Rect.unit (s := S2560x128) ![0, 0] S512x128.size inb_S2560x128_S512x128_0_0, (loads i x1 x2 x3 x4 x5 x6 0).out⟩] := by
  have hg := grads c i arg2 harg2 arg3 harg3 arg4 harg4 arg5 harg5 arg6 harg6 arg12 x1 x2 x3 x4 x5 x6
  have hn := news c i arg2 harg2 arg3 harg3 arg4 harg4 arg5 harg5 arg6 harg6 arg12 x1 x2 x3 x4 x5 x6
  unfold bodyRun
  dsimp only
  simp only [hg, hn, bodyRun.sl.cst_382, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.v2, bodyRun.sl.v4, bodyRun.sl.v6, bodyRun.sl.v8, bodyRun.sl.v10, bodyRun.sl.v12, bodyRun.sl.v14, bodyRun.sl.v16, bodyRun.sl.v18, bodyRun.sl.v20, bodyRun.sl.v22, bodyRun.sl.v24, bodyRun.sl.v26, bodyRun.sl.v28, bodyRun.sl.v30, bodyRun.sl.v32, bodyRun.sl.v34, bodyRun.sl.v36, bodyRun.sl.v38, bodyRun.sl.v40, bodyRun.sl.v42, bodyRun.sl.v44, bodyRun.sl.v46, bodyRun.sl.v48, bodyRun.sl.v50, bodyRun.sl.v52, bodyRun.sl.v54, bodyRun.sl.v56, bodyRun.sl.v58, bodyRun.sl.v60, bodyRun.sl.v62, bodyRun.sl.v63, bodyRun.sl.v64, bodyRun.sl.v65, bodyRun.sl.v213, bodyRun.sl.v214, bodyRun.sl.v343, bodyRun.sl.v344, bodyRun.sl.v345, bodyRun.sl.v347, bodyRun.sl.v353, bodyRun.sl.v355, bodyRun.sl.v356, bodyRun.sl.v357, bodyRun.sl.v359, bodyRun.sl.v365, bodyRun.sl.v371, bodyRun.sl.v373, bodyRun.sl.v374, bodyRun.sl.v375, bodyRun.sl.v377, bodyRun.sl.v383, bodyRun.sl.v389, bodyRun.sl.v392, bodyRun.sl.v393, bodyRun.sl.v395, bodyRun.sl.v401, bodyRun.sl.v564, bodyRun.sl.v772, bodyRun.sl.v773, bodyRun.sl.v775, bodyRun.sl.v781, bodyRun.sl.v787, bodyRun.sl.v791, bodyRun.sl.v793, bodyRun.sl.v799, bodyRun.sl.v805, bodyRun.sl.v808, bodyRun.sl.v809, bodyRun.sl.v811, bodyRun.sl.v817, bodyRun.sl.v823, bodyRun.sl.v826, bodyRun.sl.v827, bodyRun.sl.v829, bodyRun.sl.v835, bodyRun.sl.v1233, bodyRun.sl.v1236, bodyRun.sl.v1237, bodyRun.sl.v1239, bodyRun.sl.v1242, bodyRun.sl.v1243, bodyRun.sl.v1245, bodyRun.sl.v1251, bodyRun.sl.v1257, bodyRun.sl.v1260, bodyRun.sl.v1261, bodyRun.sl.v1263, bodyRun.sl.v1419, bodyRun.sl.v1661, bodyRun.sl.v1664, bodyRun.sl.v1665, bodyRun.sl.v1667, bodyRun.sl.v1673, bodyRun.sl.v1676, bodyRun.sl.v1677, bodyRun.sl.v1679, bodyRun.sl.v1685, bodyRun.sl.v1691, bodyRun.sl.v1846, bodyRun.sl.v2089, bodyRun.sl.v2092, bodyRun.sl.v2093, bodyRun.sl.v2095, bodyRun.sl.v2101, bodyRun.sl.v2107, bodyRun.sl.v2110, bodyRun.sl.v2111, bodyRun.sl.v2113, bodyRun.sl.v2119, readAt_unread_fun]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, shapeCast_self]
  simp only [loads, Loads.grad0, Loads.grad1, Loads.grad2, Loads.grad3, Loads.qparam, Loads.scale, Loads.bias, Loads.state, Loads.mult, pairGrad, leftTile, rightTile, sumSq, rows4, halfVal, newState, stepOf, row0, row1, row2, row3, over, newRow, lowOf, highOf, Loads.low, Loads.high, Loads.newScale, Loads.newBias, Loads.inv, Loads.out, throughHalf, invOf, quant, packOf]
  rfl

/-- the scales, -/
theorem run_scales : (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10).2.1 =
    [⟨rowRect i 3 4, row3 (loads i x1 x2 x3 x4 x5 x6 4).newScale⟩, ⟨rowRect i 2 4, row2 (loads i x1 x2 x3 x4 x5 x6 4).newScale⟩, ⟨rowRect i 1 4, row1 (loads i x1 x2 x3 x4 x5 x6 4).newScale⟩, ⟨rowRect i 0 4, row0 (loads i x1 x2 x3 x4 x5 x6 4).newScale⟩, ⟨rowRect i 3 3, row3 (loads i x1 x2 x3 x4 x5 x6 3).newScale⟩, ⟨rowRect i 2 3, row2 (loads i x1 x2 x3 x4 x5 x6 3).newScale⟩, ⟨rowRect i 1 3, row1 (loads i x1 x2 x3 x4 x5 x6 3).newScale⟩, ⟨rowRect i 0 3, row0 (loads i x1 x2 x3 x4 x5 x6 3).newScale⟩, ⟨rowRect i 3 2, row3 (loads i x1 x2 x3 x4 x5 x6 2).newScale⟩, ⟨rowRect i 2 2, row2 (loads i x1 x2 x3 x4 x5 x6 2).newScale⟩, ⟨rowRect i 1 2, row1 (loads i x1 x2 x3 x4 x5 x6 2).newScale⟩, ⟨rowRect i 0 2, row0 (loads i x1 x2 x3 x4 x5 x6 2).newScale⟩, ⟨rowRect i 3 1, row3 (loads i x1 x2 x3 x4 x5 x6 1).newScale⟩, ⟨rowRect i 2 1, row2 (loads i x1 x2 x3 x4 x5 x6 1).newScale⟩, ⟨rowRect i 1 1, row1 (loads i x1 x2 x3 x4 x5 x6 1).newScale⟩, ⟨rowRect i 0 1, row0 (loads i x1 x2 x3 x4 x5 x6 1).newScale⟩, ⟨rowRect i 3 0, row3 (loads i x1 x2 x3 x4 x5 x6 0).newScale⟩, ⟨rowRect i 2 0, row2 (loads i x1 x2 x3 x4 x5 x6 0).newScale⟩, ⟨rowRect i 1 0, row1 (loads i x1 x2 x3 x4 x5 x6 0).newScale⟩, ⟨rowRect i 0 0, row0 (loads i x1 x2 x3 x4 x5 x6 0).newScale⟩] := by
  have hg := grads c i arg2 harg2 arg3 harg3 arg4 harg4 arg5 harg5 arg6 harg6 arg12 x1 x2 x3 x4 x5 x6
  have hn := news c i arg2 harg2 arg3 harg3 arg4 harg4 arg5 harg5 arg6 harg6 arg12 x1 x2 x3 x4 x5 x6
  unfold bodyRun
  dsimp only
  simp only [hg, hn, bodyRun.sl.cst_382, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.v2, bodyRun.sl.v4, bodyRun.sl.v6, bodyRun.sl.v8, bodyRun.sl.v10, bodyRun.sl.v12, bodyRun.sl.v14, bodyRun.sl.v16, bodyRun.sl.v18, bodyRun.sl.v20, bodyRun.sl.v22, bodyRun.sl.v24, bodyRun.sl.v26, bodyRun.sl.v28, bodyRun.sl.v30, bodyRun.sl.v32, bodyRun.sl.v34, bodyRun.sl.v36, bodyRun.sl.v38, bodyRun.sl.v40, bodyRun.sl.v42, bodyRun.sl.v44, bodyRun.sl.v46, bodyRun.sl.v48, bodyRun.sl.v50, bodyRun.sl.v52, bodyRun.sl.v54, bodyRun.sl.v56, bodyRun.sl.v58, bodyRun.sl.v60, bodyRun.sl.v62, bodyRun.sl.v63, bodyRun.sl.v64, bodyRun.sl.v65, bodyRun.sl.v213, bodyRun.sl.v214, bodyRun.sl.v343, bodyRun.sl.v344, bodyRun.sl.v345, bodyRun.sl.v347, bodyRun.sl.v353, bodyRun.sl.v355, bodyRun.sl.v356, bodyRun.sl.v357, bodyRun.sl.v359, bodyRun.sl.v365, bodyRun.sl.v371, bodyRun.sl.v373, bodyRun.sl.v374, bodyRun.sl.v375, bodyRun.sl.v377, bodyRun.sl.v383, bodyRun.sl.v389, bodyRun.sl.v392, bodyRun.sl.v393, bodyRun.sl.v395, bodyRun.sl.v401, bodyRun.sl.v564, bodyRun.sl.v772, bodyRun.sl.v773, bodyRun.sl.v775, bodyRun.sl.v781, bodyRun.sl.v787, bodyRun.sl.v791, bodyRun.sl.v793, bodyRun.sl.v799, bodyRun.sl.v805, bodyRun.sl.v808, bodyRun.sl.v809, bodyRun.sl.v811, bodyRun.sl.v817, bodyRun.sl.v823, bodyRun.sl.v826, bodyRun.sl.v827, bodyRun.sl.v829, bodyRun.sl.v835, bodyRun.sl.v1233, bodyRun.sl.v1236, bodyRun.sl.v1237, bodyRun.sl.v1239, bodyRun.sl.v1242, bodyRun.sl.v1243, bodyRun.sl.v1245, bodyRun.sl.v1251, bodyRun.sl.v1257, bodyRun.sl.v1260, bodyRun.sl.v1261, bodyRun.sl.v1263, bodyRun.sl.v1419, bodyRun.sl.v1661, bodyRun.sl.v1664, bodyRun.sl.v1665, bodyRun.sl.v1667, bodyRun.sl.v1673, bodyRun.sl.v1676, bodyRun.sl.v1677, bodyRun.sl.v1679, bodyRun.sl.v1685, bodyRun.sl.v1691, bodyRun.sl.v1846, bodyRun.sl.v2089, bodyRun.sl.v2092, bodyRun.sl.v2093, bodyRun.sl.v2095, bodyRun.sl.v2101, bodyRun.sl.v2107, bodyRun.sl.v2110, bodyRun.sl.v2111, bodyRun.sl.v2113, bodyRun.sl.v2119, readAt_unread_fun]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, shapeCast_self]
  simp only [loads, Loads.grad0, Loads.grad1, Loads.grad2, Loads.grad3, Loads.qparam, Loads.scale, Loads.bias, Loads.state, Loads.mult, pairGrad, leftTile, rightTile, sumSq, rows4, halfVal, newState, stepOf, row0, row1, row2, row3, over, newRow, lowOf, highOf, Loads.low, Loads.high, Loads.newScale, Loads.newBias, Loads.inv, Loads.out, throughHalf, invOf, quant, packOf]
  rfl

/-- the biases, -/
theorem run_biases : (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10).2.2.1 =
    [⟨rowRect i 3 4, row3 (loads i x1 x2 x3 x4 x5 x6 4).newBias⟩, ⟨rowRect i 2 4, row2 (loads i x1 x2 x3 x4 x5 x6 4).newBias⟩, ⟨rowRect i 1 4, row1 (loads i x1 x2 x3 x4 x5 x6 4).newBias⟩, ⟨rowRect i 0 4, row0 (loads i x1 x2 x3 x4 x5 x6 4).newBias⟩, ⟨rowRect i 3 3, row3 (loads i x1 x2 x3 x4 x5 x6 3).newBias⟩, ⟨rowRect i 2 3, row2 (loads i x1 x2 x3 x4 x5 x6 3).newBias⟩, ⟨rowRect i 1 3, row1 (loads i x1 x2 x3 x4 x5 x6 3).newBias⟩, ⟨rowRect i 0 3, row0 (loads i x1 x2 x3 x4 x5 x6 3).newBias⟩, ⟨rowRect i 3 2, row3 (loads i x1 x2 x3 x4 x5 x6 2).newBias⟩, ⟨rowRect i 2 2, row2 (loads i x1 x2 x3 x4 x5 x6 2).newBias⟩, ⟨rowRect i 1 2, row1 (loads i x1 x2 x3 x4 x5 x6 2).newBias⟩, ⟨rowRect i 0 2, row0 (loads i x1 x2 x3 x4 x5 x6 2).newBias⟩, ⟨rowRect i 3 1, row3 (loads i x1 x2 x3 x4 x5 x6 1).newBias⟩, ⟨rowRect i 2 1, row2 (loads i x1 x2 x3 x4 x5 x6 1).newBias⟩, ⟨rowRect i 1 1, row1 (loads i x1 x2 x3 x4 x5 x6 1).newBias⟩, ⟨rowRect i 0 1, row0 (loads i x1 x2 x3 x4 x5 x6 1).newBias⟩, ⟨rowRect i 3 0, row3 (loads i x1 x2 x3 x4 x5 x6 0).newBias⟩, ⟨rowRect i 2 0, row2 (loads i x1 x2 x3 x4 x5 x6 0).newBias⟩, ⟨rowRect i 1 0, row1 (loads i x1 x2 x3 x4 x5 x6 0).newBias⟩, ⟨rowRect i 0 0, row0 (loads i x1 x2 x3 x4 x5 x6 0).newBias⟩] := by
  have hg := grads c i arg2 harg2 arg3 harg3 arg4 harg4 arg5 harg5 arg6 harg6 arg12 x1 x2 x3 x4 x5 x6
  have hn := news c i arg2 harg2 arg3 harg3 arg4 harg4 arg5 harg5 arg6 harg6 arg12 x1 x2 x3 x4 x5 x6
  unfold bodyRun
  dsimp only
  simp only [hg, hn, bodyRun.sl.cst_382, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.v2, bodyRun.sl.v4, bodyRun.sl.v6, bodyRun.sl.v8, bodyRun.sl.v10, bodyRun.sl.v12, bodyRun.sl.v14, bodyRun.sl.v16, bodyRun.sl.v18, bodyRun.sl.v20, bodyRun.sl.v22, bodyRun.sl.v24, bodyRun.sl.v26, bodyRun.sl.v28, bodyRun.sl.v30, bodyRun.sl.v32, bodyRun.sl.v34, bodyRun.sl.v36, bodyRun.sl.v38, bodyRun.sl.v40, bodyRun.sl.v42, bodyRun.sl.v44, bodyRun.sl.v46, bodyRun.sl.v48, bodyRun.sl.v50, bodyRun.sl.v52, bodyRun.sl.v54, bodyRun.sl.v56, bodyRun.sl.v58, bodyRun.sl.v60, bodyRun.sl.v62, bodyRun.sl.v63, bodyRun.sl.v64, bodyRun.sl.v65, bodyRun.sl.v213, bodyRun.sl.v214, bodyRun.sl.v343, bodyRun.sl.v344, bodyRun.sl.v345, bodyRun.sl.v347, bodyRun.sl.v353, bodyRun.sl.v355, bodyRun.sl.v356, bodyRun.sl.v357, bodyRun.sl.v359, bodyRun.sl.v365, bodyRun.sl.v371, bodyRun.sl.v373, bodyRun.sl.v374, bodyRun.sl.v375, bodyRun.sl.v377, bodyRun.sl.v383, bodyRun.sl.v389, bodyRun.sl.v392, bodyRun.sl.v393, bodyRun.sl.v395, bodyRun.sl.v401, bodyRun.sl.v564, bodyRun.sl.v772, bodyRun.sl.v773, bodyRun.sl.v775, bodyRun.sl.v781, bodyRun.sl.v787, bodyRun.sl.v791, bodyRun.sl.v793, bodyRun.sl.v799, bodyRun.sl.v805, bodyRun.sl.v808, bodyRun.sl.v809, bodyRun.sl.v811, bodyRun.sl.v817, bodyRun.sl.v823, bodyRun.sl.v826, bodyRun.sl.v827, bodyRun.sl.v829, bodyRun.sl.v835, bodyRun.sl.v1233, bodyRun.sl.v1236, bodyRun.sl.v1237, bodyRun.sl.v1239, bodyRun.sl.v1242, bodyRun.sl.v1243, bodyRun.sl.v1245, bodyRun.sl.v1251, bodyRun.sl.v1257, bodyRun.sl.v1260, bodyRun.sl.v1261, bodyRun.sl.v1263, bodyRun.sl.v1419, bodyRun.sl.v1661, bodyRun.sl.v1664, bodyRun.sl.v1665, bodyRun.sl.v1667, bodyRun.sl.v1673, bodyRun.sl.v1676, bodyRun.sl.v1677, bodyRun.sl.v1679, bodyRun.sl.v1685, bodyRun.sl.v1691, bodyRun.sl.v1846, bodyRun.sl.v2089, bodyRun.sl.v2092, bodyRun.sl.v2093, bodyRun.sl.v2095, bodyRun.sl.v2101, bodyRun.sl.v2107, bodyRun.sl.v2110, bodyRun.sl.v2111, bodyRun.sl.v2113, bodyRun.sl.v2119, readAt_unread_fun]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, shapeCast_self]
  simp only [loads, Loads.grad0, Loads.grad1, Loads.grad2, Loads.grad3, Loads.qparam, Loads.scale, Loads.bias, Loads.state, Loads.mult, pairGrad, leftTile, rightTile, sumSq, rows4, halfVal, newState, stepOf, row0, row1, row2, row3, over, newRow, lowOf, highOf, Loads.low, Loads.high, Loads.newScale, Loads.newBias, Loads.inv, Loads.out, throughHalf, invOf, quant, packOf]
  rfl

/-- and the states. -/
theorem run_states : (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10).2.2.2.1 =
    [⟨rowRect i 3 4, row3 (loads i x1 x2 x3 x4 x5 x6 4).state⟩, ⟨rowRect i 2 4, row2 (loads i x1 x2 x3 x4 x5 x6 4).state⟩, ⟨rowRect i 1 4, row1 (loads i x1 x2 x3 x4 x5 x6 4).state⟩, ⟨rowRect i 0 4, row0 (loads i x1 x2 x3 x4 x5 x6 4).state⟩, ⟨rowRect i 3 3, row3 (loads i x1 x2 x3 x4 x5 x6 3).state⟩, ⟨rowRect i 2 3, row2 (loads i x1 x2 x3 x4 x5 x6 3).state⟩, ⟨rowRect i 1 3, row1 (loads i x1 x2 x3 x4 x5 x6 3).state⟩, ⟨rowRect i 0 3, row0 (loads i x1 x2 x3 x4 x5 x6 3).state⟩, ⟨rowRect i 3 2, row3 (loads i x1 x2 x3 x4 x5 x6 2).state⟩, ⟨rowRect i 2 2, row2 (loads i x1 x2 x3 x4 x5 x6 2).state⟩, ⟨rowRect i 1 2, row1 (loads i x1 x2 x3 x4 x5 x6 2).state⟩, ⟨rowRect i 0 2, row0 (loads i x1 x2 x3 x4 x5 x6 2).state⟩, ⟨rowRect i 3 1, row3 (loads i x1 x2 x3 x4 x5 x6 1).state⟩, ⟨rowRect i 2 1, row2 (loads i x1 x2 x3 x4 x5 x6 1).state⟩, ⟨rowRect i 1 1, row1 (loads i x1 x2 x3 x4 x5 x6 1).state⟩, ⟨rowRect i 0 1, row0 (loads i x1 x2 x3 x4 x5 x6 1).state⟩, ⟨rowRect i 3 0, row3 (loads i x1 x2 x3 x4 x5 x6 0).state⟩, ⟨rowRect i 2 0, row2 (loads i x1 x2 x3 x4 x5 x6 0).state⟩, ⟨rowRect i 1 0, row1 (loads i x1 x2 x3 x4 x5 x6 0).state⟩, ⟨rowRect i 0 0, row0 (loads i x1 x2 x3 x4 x5 x6 0).state⟩] := by
  have hg := grads c i arg2 harg2 arg3 harg3 arg4 harg4 arg5 harg5 arg6 harg6 arg12 x1 x2 x3 x4 x5 x6
  have hn := news c i arg2 harg2 arg3 harg3 arg4 harg4 arg5 harg5 arg6 harg6 arg12 x1 x2 x3 x4 x5 x6
  unfold bodyRun
  dsimp only
  simp only [hg, hn, bodyRun.sl.cst_382, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.v2, bodyRun.sl.v4, bodyRun.sl.v6, bodyRun.sl.v8, bodyRun.sl.v10, bodyRun.sl.v12, bodyRun.sl.v14, bodyRun.sl.v16, bodyRun.sl.v18, bodyRun.sl.v20, bodyRun.sl.v22, bodyRun.sl.v24, bodyRun.sl.v26, bodyRun.sl.v28, bodyRun.sl.v30, bodyRun.sl.v32, bodyRun.sl.v34, bodyRun.sl.v36, bodyRun.sl.v38, bodyRun.sl.v40, bodyRun.sl.v42, bodyRun.sl.v44, bodyRun.sl.v46, bodyRun.sl.v48, bodyRun.sl.v50, bodyRun.sl.v52, bodyRun.sl.v54, bodyRun.sl.v56, bodyRun.sl.v58, bodyRun.sl.v60, bodyRun.sl.v62, bodyRun.sl.v63, bodyRun.sl.v64, bodyRun.sl.v65, bodyRun.sl.v213, bodyRun.sl.v214, bodyRun.sl.v343, bodyRun.sl.v344, bodyRun.sl.v345, bodyRun.sl.v347, bodyRun.sl.v353, bodyRun.sl.v355, bodyRun.sl.v356, bodyRun.sl.v357, bodyRun.sl.v359, bodyRun.sl.v365, bodyRun.sl.v371, bodyRun.sl.v373, bodyRun.sl.v374, bodyRun.sl.v375, bodyRun.sl.v377, bodyRun.sl.v383, bodyRun.sl.v389, bodyRun.sl.v392, bodyRun.sl.v393, bodyRun.sl.v395, bodyRun.sl.v401, bodyRun.sl.v564, bodyRun.sl.v772, bodyRun.sl.v773, bodyRun.sl.v775, bodyRun.sl.v781, bodyRun.sl.v787, bodyRun.sl.v791, bodyRun.sl.v793, bodyRun.sl.v799, bodyRun.sl.v805, bodyRun.sl.v808, bodyRun.sl.v809, bodyRun.sl.v811, bodyRun.sl.v817, bodyRun.sl.v823, bodyRun.sl.v826, bodyRun.sl.v827, bodyRun.sl.v829, bodyRun.sl.v835, bodyRun.sl.v1233, bodyRun.sl.v1236, bodyRun.sl.v1237, bodyRun.sl.v1239, bodyRun.sl.v1242, bodyRun.sl.v1243, bodyRun.sl.v1245, bodyRun.sl.v1251, bodyRun.sl.v1257, bodyRun.sl.v1260, bodyRun.sl.v1261, bodyRun.sl.v1263, bodyRun.sl.v1419, bodyRun.sl.v1661, bodyRun.sl.v1664, bodyRun.sl.v1665, bodyRun.sl.v1667, bodyRun.sl.v1673, bodyRun.sl.v1676, bodyRun.sl.v1677, bodyRun.sl.v1679, bodyRun.sl.v1685, bodyRun.sl.v1691, bodyRun.sl.v1846, bodyRun.sl.v2089, bodyRun.sl.v2092, bodyRun.sl.v2093, bodyRun.sl.v2095, bodyRun.sl.v2101, bodyRun.sl.v2107, bodyRun.sl.v2110, bodyRun.sl.v2111, bodyRun.sl.v2113, bodyRun.sl.v2119, readAt_unread_fun]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, shapeCast_self]
  simp only [loads, Loads.grad0, Loads.grad1, Loads.grad2, Loads.grad3, Loads.qparam, Loads.scale, Loads.bias, Loads.state, Loads.mult, pairGrad, leftTile, rightTile, sumSq, rows4, halfVal, newState, stepOf, row0, row1, row2, row3, over, newRow, lowOf, highOf, Loads.low, Loads.high, Loads.newScale, Loads.newBias, Loads.inv, Loads.out, throughHalf, invOf, quant, packOf]
  rfl

end Cert.KernelIdeal.Hand

end
-- ==== Proof.Blocks.lean ====
module

public import proofs.«01_k».proof.Proof.Pieces
public import Idealize.ShloMosaic.Lib.Writes
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The rows a step touches: `5 i + g` of each hundred. -/
theorem off1_eq (i : grid0.Coords) (j : Fin 4) (g : Fin 5) :
    k0_off1 i (BitVec.ofNat 32 (100 * j.val)) (BitVec.ofNat 32 g.val) = ![100 * j.val + 5 * (i 0).val + g.val, 0] := by
  have key : ∀ (n : Fin 20) (j : Fin 4) (g : Fin 5), (Scalar.indexCast (Scalar.addi (Scalar.addi (BitVec.ofNat 32 (100 * j.val))
      (Scalar.muli (BitVec.ofNat 32 n.val) 5#32)) (BitVec.ofNat 32 g.val))).toNat = 100 * j.val + 5 * n.val + g.val := by decide +kernel
  exact congrArg (fun k : ℕ => (![k, 0] : Fin 2 → ℕ)) (key (i 0) j g)

theorem mem_rowRect (i : grid0.Coords) (j : Fin 4) (g : Fin 5) (y : S400x128.Idx) :
    y ∈ (rowRect i j g).set ↔ (y 0).val = 100 * j.val + 5 * (i 0).val + g.val := by
  unfold rowRect
  rw [LoadRect.mem_set]
  simp only [Rect.unit, off1_eq]
  constructor
  · intro h
    obtain ⟨k, hk, e⟩ := h 0
    have hk' : k < 1 := hk
    have e' : (y 0).val = 100 * j.val + 5 * (i 0).val + g.val + 1 * k := e
    omega
  · intro h a
    fin_cases a
    · exact ⟨0, Nat.one_pos, h⟩
    · exact ⟨(y 1).val, (y 1).isLt, show (y 1).val = 0 + 1 * (y 1).val by omega⟩

theorem rowRect_emb0 (i : grid0.Coords) (j : Fin 4) (g : Fin 5) (x : (rowRect i j g).shape.Idx) :
    ((rowRect i j g).emb x 0).val = 100 * j.val + 5 * (i 0).val + g.val :=
  (mem_rowRect i j g _).1 ((rowRect i j g).idx_mem x)

theorem rowRect_emb1 (i : grid0.Coords) (j : Fin 4) (g : Fin 5) (x : (rowRect i j g).shape.Idx) :
    ((rowRect i j g).emb x 1).val = (x 1).val := by
  show k0_off1 i (BitVec.ofNat 32 (100 * j.val)) (BitVec.ofNat 32 g.val) 1 + 1 * (x 1).val = (x 1).val
  rw [off1_eq]; show 0 + 1 * (x 1).val = _; omega

/-- One row of four, written where tile `j` of group `g` keeps it. -/
def rowPiece (i : grid0.Coords) (f : Fin 5 → FVec F S4x128 .f32) (j : Fin 4) (g : Fin 5) : View.Piece (Elt F) S400x128 .f32 :=
  ⟨rowRect i j g, fun x => f g (ix2 j (x 1))⟩

theorem row0_eq (x : FVec F S4x128 .f32) : row0 x = fun y => x (ix2 0 (y 1)) := by
  funext y; refine congrArg x (funext fun a => ?_); have h0 : (y 0).val < 1 := (y 0).isLt; fin_cases a <;> apply Fin.ext <;> simp <;> omega
theorem row1_eq (x : FVec F S4x128 .f32) : row1 x = fun y => x (ix2 1 (y 1)) := by
  funext y; refine congrArg x (funext fun a => ?_); have h0 : (y 0).val < 1 := (y 0).isLt; fin_cases a <;> apply Fin.ext <;> simp <;> omega
theorem row2_eq (x : FVec F S4x128 .f32) : row2 x = fun y => x (ix2 2 (y 1)) := by
  funext y; refine congrArg x (funext fun a => ?_); have h0 : (y 0).val < 1 := (y 0).isLt; fin_cases a <;> apply Fin.ext <;> simp <;> omega
theorem row3_eq (x : FVec F S4x128 .f32) : row3 x = fun y => x (ix2 3 (y 1)) := by
  funext y; refine congrArg x (funext fun a => ?_); have h0 : (y 0).val < 1 := (y 0).isLt; fin_cases a <;> apply Fin.ext <;> simp <;> omega

/-- The twenty rows written over a block leave it `rowsOf`. -/
theorem read_rows {a : Memref sig .tc .vmem S400x128 .f32} (ha : a.IsWhole) (i : grid0.Coords) (f : Fin 5 → FVec F S4x128 .f32)
    (Y : Vec F S400x128 .f32) (L : List (View.Piece (Elt F) S400x128 .f32))
    (h1 : ∀ p ∈ L, ∃ j g, p = rowPiece i f j g) (h2 : ∀ j g, rowPiece i f j g ∈ L) :
    a.view.read (Elt F) (a.view.writes (Elt F) (ha.unread Y) L) = rowsOf i f Y := by
  funext y
  by_cases h : 5 * (i 0).val ≤ (y 0).val % 100 ∧ (y 0).val % 100 < 5 * (i 0).val + 5
  · have hy0 : (y 0).val < 400 := (y 0).isLt
    refine View.read_writes_apply_of_pieces _ _ (rowsOf i f Y) L ?_ y ?_
    · intro p hp x
      obtain ⟨j, g, rfl⟩ := h1 p hp
      have e0 := rowRect_emb0 i j g x
      have e1 := rowRect_emb1 i j g x
      have hj := j.isLt
      have hg := g.isLt
      have hi : (i 0).val < 20 := (i 0).isLt
      show f g (ix2 j (x 1)) = rowsOf i f Y ((rowRect i j g).emb x)
      unfold rowsOf
      rw [dif_pos (by omega)]
      have eg : (⟨((rowRect i j g).emb x 0).val % 100 - 5 * (i 0).val, by omega⟩ : Fin 5) = g := Fin.ext (by simp only []; omega)
      rw [eg]
      refine congrArg (f g) (funext fun a => ?_)
      fin_cases a
      · exact Fin.ext (show j.val = ((rowRect i j g).emb x 0).val / 100 by omega)
      · exact Fin.ext e1.symm
    · refine ⟨_, h2 ⟨(y 0).val / 100, by omega⟩ ⟨(y 0).val % 100 - 5 * (i 0).val, by omega⟩, ?_⟩
      exact (mem_rowRect _ _ _ _).2 (by simp only []; omega)
  · rw [View.read_writes_apply_of_forall_not_mem, ha.read_unread]
    · unfold rowsOf; rw [dif_neg h]
    · intro p hp hy
      obtain ⟨j, g, rfl⟩ := h1 p hp
      have e := (mem_rowRect i j g y).1 hy
      have hj := j.isLt
      have hg := g.isLt
      have hi : (i 0).val < 20 := (i 0).isLt
      omega

theorem read_rows20 {a : Memref sig .tc .vmem S400x128 .f32} (ha : a.IsWhole) (i : grid0.Coords) (f : Fin 5 → FVec F S4x128 .f32)
    (Y : Vec F S400x128 .f32) :
    a.view.read (Elt F) (a.view.writes (Elt F) (ha.unread Y)
      [⟨rowRect i 3 4, row3 (f 4)⟩, ⟨rowRect i 2 4, row2 (f 4)⟩, ⟨rowRect i 1 4, row1 (f 4)⟩, ⟨rowRect i 0 4, row0 (f 4)⟩, ⟨rowRect i 3 3, row3 (f 3)⟩, ⟨rowRect i 2 3, row2 (f 3)⟩, ⟨rowRect i 1 3, row1 (f 3)⟩, ⟨rowRect i 0 3, row0 (f 3)⟩, ⟨rowRect i 3 2, row3 (f 2)⟩, ⟨rowRect i 2 2, row2 (f 2)⟩, ⟨rowRect i 1 2, row1 (f 2)⟩, ⟨rowRect i 0 2, row0 (f 2)⟩, ⟨rowRect i 3 1, row3 (f 1)⟩, ⟨rowRect i 2 1, row2 (f 1)⟩, ⟨rowRect i 1 1, row1 (f 1)⟩, ⟨rowRect i 0 1, row0 (f 1)⟩, ⟨rowRect i 3 0, row3 (f 0)⟩, ⟨rowRect i 2 0, row2 (f 0)⟩, ⟨rowRect i 1 0, row1 (f 0)⟩, ⟨rowRect i 0 0, row0 (f 0)⟩]) = rowsOf i f Y := by
  simp only [row0_eq, row1_eq, row2_eq, row3_eq]
  refine read_rows ha i f Y _ ?_ ?_
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl <;>
      exact ⟨_, _, rfl⟩
  · intro j g
    fin_cases j <;> fin_cases g <;>
      (repeat (first | exact List.mem_cons_self | apply List.mem_cons_of_mem))

/-- The five tiles of codes written over a block leave it `codesOf`. -/
theorem read_codes {a : Memref sig .tc .vmem S2560x128 .i8} (ha : a.IsWhole) (L : Fin 5 → Loads F) (Y : Vec F S2560x128 .i8) :
    a.view.read (Elt F) (a.view.writes (Elt F) (ha.unread Y)
      [⟨Rect.unit (s := S2560x128) ![2048, 0] S512x128.size inb_S2560x128_S512x128_2048_0, (L 4).out⟩, ⟨Rect.unit (s := S2560x128) ![1536, 0] S512x128.size inb_S2560x128_S512x128_1536_0, (L 3).out⟩, ⟨Rect.unit (s := S2560x128) ![1024, 0] S512x128.size inb_S2560x128_S512x128_1024_0, (L 2).out⟩, ⟨Rect.unit (s := S2560x128) ![512, 0] S512x128.size inb_S2560x128_S512x128_512_0, (L 1).out⟩, ⟨Rect.unit (s := S2560x128) ![0, 0] S512x128.size inb_S2560x128_S512x128_0_0, (L 0).out⟩]) = codesOf L := by
  funext y
  refine View.read_writes_apply_of_pieces _ _ (codesOf L) _ ?_ y ?_
  · have key : ∀ (g : Fin 5) (inb) (x : S512x128.Idx),
        (L g).out x = codesOf L ((Rect.unit (s := S2560x128) ![512 * g.val, 0] S512x128.size inb).emb x) := fun g inb x => by
      have e0 : ((Rect.unit (s := S2560x128) ![512 * g.val, 0] S512x128.size inb).emb x 0).val = 512 * g.val + 1 * (x 0).val := rfl
      have e1 : ((Rect.unit (s := S2560x128) ![512 * g.val, 0] S512x128.size inb).emb x 1).val = 0 + 1 * (x 1).val := rfl
      have hx : (x 0).val < 512 := (x 0).isLt
      unfold codesOf
      have eg : (⟨((Rect.unit (s := S2560x128) ![512 * g.val, 0] S512x128.size inb).emb x 0).val / 512, by have := g.isLt; omega⟩ : Fin 5) = g :=
        Fin.ext (by show ((Rect.unit (s := S2560x128) ![512 * g.val, 0] S512x128.size inb).emb x 0).val / 512 = g.val; rw [e0]; omega)
      rw [eg]
      refine congrArg (L g).out (funext fun a => ?_)
      fin_cases a
      · exact Fin.ext (show (x 0).val = ((Rect.unit (s := S2560x128) ![512 * g.val, 0] S512x128.size inb).emb x 0).val % 512 by omega)
      · exact Fin.ext (show (x 1).val = ((Rect.unit (s := S2560x128) ![512 * g.val, 0] S512x128.size inb).emb x 1).val by omega)
    intro p hp
    simp only [List.mem_cons, List.not_mem_nil, or_false] at hp
    rcases hp with rfl | rfl | rfl | rfl | rfl
    · exact key 4 inb_S2560x128_S512x128_2048_0
    · exact key 3 inb_S2560x128_S512x128_1536_0
    · exact key 2 inb_S2560x128_S512x128_1024_0
    · exact key 1 inb_S2560x128_S512x128_512_0
    · exact key 0 inb_S2560x128_S512x128_0_0
  · have hy : (y 0).val < 2560 := (y 0).isLt
    have key : ∀ (g : ℕ) (inb), 512 * g ≤ (y 0).val → (y 0).val < 512 * g + 512 →
        y ∈ (Rect.unit (s := S2560x128) ![512 * g, 0] S512x128.size inb).set := fun g inb h1 h2 => by
      rw [LoadRect.mem_set]
      intro a
      fin_cases a
      · exact ⟨(y 0).val - 512 * g, show _ < 512 by omega, show (y 0).val = 512 * g + 1 * _ by omega⟩
      · exact ⟨(y 1).val, (y 1).isLt, show (y 1).val = 0 + 1 * _ by omega⟩
    simp only [List.mem_cons, List.not_mem_nil, or_false, exists_eq_or_imp, exists_eq_left]
    rcases (by omega : (y 0).val / 512 = 4 ∨ (y 0).val / 512 = 3 ∨ (y 0).val / 512 = 2 ∨ (y 0).val / 512 = 1 ∨ (y 0).val / 512 = 0) with h | h | h | h | h
    · exact .inl (key 4 inb_S2560x128_S512x128_2048_0 (by omega) (by omega))
    · exact .inr (.inl (key 3 inb_S2560x128_S512x128_1536_0 (by omega) (by omega)))
    · exact .inr (.inr (.inl (key 2 inb_S2560x128_S512x128_1024_0 (by omega) (by omega))))
    · exact .inr (.inr (.inr (.inl (key 1 inb_S2560x128_S512x128_512_0 (by omega) (by omega)))))
    · exact .inr (.inr (.inr (.inr (key 0 inb_S2560x128_S512x128_0_0 (by omega) (by omega)))))

end Cert.KernelIdeal.Hand

end
-- ==== Proof.Body.lean ====
module

public import proofs.«01_k».proof.Proof.Blocks

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body, the lists holding nothing: it leaves the inputs' blocks as they were, writes the step's codes, and adds the step's rows to
    the scales, the biases and the states. -/
theorem body_spec (c : Dev nD) (i : grid0.Coords) (arg1 : Memref sig .tc .smem S4096 .i32) (harg1 : arg1.IsWhole) (arg2 : Memref sig .tc .vmem S56x2560 .i32) (harg2 : arg2.IsWhole) (arg3 : Memref sig .tc .vmem S384x224 .bf16) (harg3 : arg3.IsWhole) (arg4 : Memref sig .tc .vmem S640x128 .i32) (harg4 : arg4.IsWhole) (arg5 : Memref sig .tc .vmem S400x128 .i32) (harg5 : arg5.IsWhole) (arg6 : Memref sig .tc .vmem S400x128 .f32) (harg6 : arg6.IsWhole) (arg7 : Memref sig .tc .vmem S2560x128 .i32) (harg7 : arg7.IsWhole) (arg8 : Memref sig .tc .vmem S2560x128 .i8) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S2560x128 .f32) (harg12 : arg12.IsWhole) (arg13 : Memref sig .tc .vmem S56x2560 .i32) (harg13 : arg13.IsWhole)
  (x0 : Vec F S4096 .i32) (x1 : Vec F S56x2560 .i32) (x2 : Vec F S384x224 .bf16) (x3 : Vec F S640x128 .i32) (x4 : Vec F S400x128 .i32) (x5 : Vec F S400x128 .f32) (x6 : Vec F S2560x128 .i32) (hx : NoCarry x0) (y7 : Vec F S2560x128 .i8) (y8 y9 y10 : Vec F S400x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (codesOf (loads i x1 x2 x3 x4 x5 x6)) ∗ owns (c : Thread nD τ) arg9 fullShare (rowsOf i (fun g => ((loads i x1 x2 x3 x4 x5 x6) g).newScale) y8) ∗ owns (c : Thread nD τ) arg10 fullShare (rowsOf i (fun g => ((loads i x1 x2 x3 x4 x5 x6) g).newBias) y9) ∗ owns (c : Thread nD τ) arg11 fullShare (rowsOf i (fun g => ((loads i x1 x2 x3 x4 x5 x6) g).state) y10) ∗ (∃ d, owns (c : Thread nD τ) arg12 fullShare d) ∗ (∃ d, owns (c : Thread nD τ) arg13 fullShare d)) -∗ K ⟨⟩))
          ⊢ wp frame (wpE (defs₀ (F := F)) Variants.none c none) E (cc0_update i arg1 harg1 arg2 harg2 arg3 harg3 arg4 harg4 arg5 harg5 arg6 harg6 arg7 harg7 arg8 harg8 arg9 harg9 arg10 harg10 arg11 harg11 arg12 harg12 arg13 harg13) K := by
  intro E K
  have h := (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10).2.2.2.2 E K
  have e7 := (congrArg (fun L => arg8.view.read (Elt F) (arg8.view.writes (Elt F) (harg8.unread y7) L)) (run_codes c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10)).trans (read_codes harg8 (loads i x1 x2 x3 x4 x5 x6) y7)
  have e8 := (congrArg (fun L => arg9.view.read (Elt F) (arg9.view.writes (Elt F) (harg9.unread y8) L)) (run_scales c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10)).trans (read_rows20 harg9 i (fun g => ((loads i x1 x2 x3 x4 x5 x6) g).newScale) y8)
  have e9 := (congrArg (fun L => arg10.view.read (Elt F) (arg10.view.writes (Elt F) (harg10.unread y9) L)) (run_biases c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10)).trans (read_rows20 harg10 i (fun g => ((loads i x1 x2 x3 x4 x5 x6) g).newBias) y9)
  have e10 := (congrArg (fun L => arg11.view.read (Elt F) (arg11.view.writes (Elt F) (harg11.unread y10) L)) (run_states c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hx y7 y8 y9 y10)).trans (read_rows20 harg11 i (fun g => ((loads i x1 x2 x3 x4 x5 x6) g).state) y10)
  beta_reduce at e7 e8 e9 e10
  rw [← e7, ← e8, ← e9, ← e10]
  exact h

end Cert.KernelIdeal.Hand

end
-- ==== Proof.Value.lean ====
module

public import proofs.«01_k».proof.Proof.Gen.KernelIdeal.Frame
public import proofs.«01_k».proof.Proof.Gen.KernelIdeal.Skeleton
public import Idealize.ShloMosaic.Lib.Claim
public import proofs.«01_k».proof.Proof.Body
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are unchanged where the pipeline's run ends as its proof data say. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S56x2560 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x224 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2560x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2560x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S400x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2560x128 .f32 := Memref.whole cc0_scratch0
abbrev scM0_1 : Memref sig .tc .vmem S56x2560 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- What group `g` of the step at point `t` loads. -/
def ld (c : Dev nD) (t : Fin cfg0.N) : Fin 5 → Loads F :=
  loads (grid0.coords t) (iblk m c 1 t) (iblk m c 2 t) (iblk m c 3 t) (iblk m c 4 t) (iblk m c 5 t) (iblk m c 6 t)

/-- The point and the group that make row `n` of each hundred. -/
def pointOf (y : S400x128.Idx) : Fin cfg0.N := ⟨(y 0).val % 100 / 5, by show _ < 20; omega⟩
def groupOf (y : S400x128.Idx) : Fin 5 := ⟨(y 0).val % 5, Nat.mod_lt _ (by norm_num)⟩

/-- Where slot row `y` lies among its group's four rows. -/
def laneOf (y : S400x128.Idx) : S4x128.Idx :=
  ix2 ⟨(y 0).val / 100, by have := (y 0).isLt; change (y 0).val < 400 at this; omega⟩ (y 1)

/-- The scales, the biases and the states the steps make between them. -/
def scalesAll (c : Dev nD) : Vec F S400x128 .f32 := fun y => (ld m c (pointOf y) (groupOf y)).newScale (laneOf y)
def biasesAll (c : Dev nD) : Vec F S400x128 .f32 := fun y => (ld m c (pointOf y) (groupOf y)).newBias (laneOf y)
def statesAll (c : Dev nD) : Vec F S400x128 .f32 := fun y => (ld m c (pointOf y) (groupOf y)).state (laneOf y)

/-- The windows of the scales, the biases and the states, one block each that every step adds its rows to. -/
def grows0 : Fin 11 → Bool := fun w => w.val == 8 || w.val == 9 || w.val == 10

/-- `X` has the rows of the steps to `t`. -/
def RowsTo (t : ℕ) (A X : Vec F S400x128 .f32) : Prop := ∀ y : S400x128.Idx, (y 0).val % 100 < 5 * (t + 1) → X y = A y

/-- What is known of such a window after point `t`. -/
def known (c : Dev nD) (w : Fin cfg0.W) (t : Fin cfg0.N) : ((cfg0.win w).block.Idx → Elt F (cfg0.win w).elt) → Prop :=
  match w with
  | ⟨8, _⟩ => RowsTo t.val (scalesAll m c)
  | ⟨9, _⟩ => RowsTo t.val (biasesAll m c)
  | ⟨10, _⟩ => RowsTo t.val (statesAll m c)
  | _ => fun _ => True

theorem coords_val (t : Fin cfg0.N) : (grid0.coords t 0).val = t.val := by
  revert t; decide +kernel

/-- A step's rows over a block that has the rows of the steps before. -/
theorem rowsTo_step (t : Fin cfg0.N) (f : Fin cfg0.N → Fin 5 → FVec F S4x128 .f32) (Y : Vec F S400x128 .f32)
    (hY : t.val ≠ 0 → RowsTo (t.val - 1) (fun y => f (pointOf y) (groupOf y) (laneOf y)) Y) :
    RowsTo t.val (fun y => f (pointOf y) (groupOf y) (laneOf y)) (rowsOf (grid0.coords t) (f t) Y) := by
  intro y hy
  unfold rowsOf
  have ht : t.val < 20 := t.isLt
  have e := coords_val t
  split
  · next h =>
    have ep : pointOf y = t := Fin.ext (show (y 0).val % 100 / 5 = t.val by omega)
    have eg : groupOf y = ⟨(y 0).val % 100 - 5 * (grid0.coords t 0).val, by omega⟩ :=
      Fin.ext (show (y 0).val % 5 = (y 0).val % 100 - 5 * (grid0.coords t 0).val by omega)
    show _ = f (pointOf y) (groupOf y) (laneOf y)
    rw [ep, eg]; rfl
  · next h =>
    exact hY (by omega) y (by omega)

/-- The proof data of the one pipeline on core `c`: the arrays as the region finds them (`V`); after the body at
    point `t` each input's buffer at its block, the codes' at the step's codes; the invariant the class's; nothing owed;
    full shares. Of the windows that grow, `known` says what is known. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => codesOf (ld m c t)
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The data the launch runs with. -/
abbrev rdat (c : Dev nD) : Pipeline.RDat τ (Elt F) Unit ℕ (UR sig nD τ) ℕ cfg0 c := (dats m 0 c).toRRel grows0 (known m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = codesOf (ld m c t) := by dsimp only [dats]

/-- A window that grows is never fetched, and written back after the last point only, -/
theorem fetch_grows (w : Fin cfg0.W) (h : grows0 w = true) (t : Fin cfg0.N) : (cfg0.win w).fetch t = false := by
  revert w t; decide +kernel
theorem flush_grows (w : Fin cfg0.W) (h : grows0 w = true) (t : Fin cfg0.N) (ht : t.val < 19) : (cfg0.win w).flush t = false := by
  revert w t; decide +kernel

/-- so the body finds in it what it left at the point before. -/
theorem known_of_finds (c : Dev nD) (w : Fin cfg0.W) (h : grows0 w = true) (t : Fin cfg0.N) (Y)
    (hY : (rdat m c).Finds w t Y) (ht : t.val ≠ 0) : known m c w ⟨t.val - 1, Nat.lt_of_le_of_lt (Nat.sub_le _ _) t.isLt⟩ Y := by
  rcases ((rdat m c).finds_of_pos (fetch_grows w h t) ht Y).1 hY with h' | h'
  · have hl : t.val < 20 := t.isLt
    rw [flush_grows w h _ (show t.val - 1 < 19 by omega)] at h'
    exact absurd h' Bool.false_ne_true
  · exact (dats m 0 c).toRRel_leaves h h'

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜known m c 8 t X⌝ ∗ owns (c : Thread nD τ) (ms0_8 t) fullShare X)
    ∗ (∃ X, ⌜known m c 9 t X⌝ ∗ owns (c : Thread nD τ) (ms0_9 t) fullShare X)
    ∗ (∃ X, ⌜known m c 10 t X⌝ ∗ owns (c : Thread nD τ) (ms0_10 t) fullShare X))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hpre : ∀ (c : Dev nD) (t : Fin cfg0.N), NoCarry (iblk m c 0 t)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩⟩
  iapply ((body_spec c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (hpre c t) ((dats m 0 c).before 7 t d7) Y8 Y9 Y10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact rowsTo_step t (fun t g => (ld m c t g).newScale) Y8 fun ht => known_of_finds m c 8 rfl t Y8 h8 ht
  isplitl [H9]
  · iexists _; isplitr; swap; · iexact H9
    ipureintro; exact rowsTo_step t (fun t g => (ld m c t g).newBias) Y9 fun ht => known_of_finds m c 9 rfl t Y9 h9 ht
  iexists _; isplitr; swap; · iexact H10
  ipureintro; exact rowsTo_step t (fun t g => (ld m c t g).state) Y10 fun ht => known_of_finds m c 10 rfl t Y10 h10 ht

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hpre : ∀ (c : Dev nD) (t : Fin cfg0.N), NoCarry (iblk m c 0 t)) (c : Dev nD) : Pipeline.BodyObligationRel (dats (F := F) m 0 c) (defs₀ (F := F)) Variants.none () Set.univ grows0 (known m c) := fun t => by
  rw [bigSep_W0, bigSep_W0, defs₀_row]
  exact triple_restated (sound_body m hpre c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hpre : ∀ (c : Dev nD) (t : Fin cfg0.N), NoCarry (iblk m c 0 t)) : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (fun c => (body_obligation m hpre c).toRRel) (fun c => (dats m 0 c).share_full fun _ => rfl)
    (fun _ _ => rfl) (V m) (hmain m Variants.none) (A_eq m) (fun _ _ => rfl)

/-- Every fair run ends with each array as the proof data say. -/
theorem run_main (hpre : ∀ (c : Dev nD) (t : Fin cfg0.N), NoCarry (iblk m c 0 t)) : θ_run defs (onTc (τ := τ) (main (F := F))) (s₀ m ρ) (Pipeline.RDat.FramePost (cfgs 0) (rdat m) (V m)) :=
  (θ_run defs _ _).mono (fun _ h => h.1) (run_main_quiescent m ρ hpre)

/-- `frame` without the counters: the argument arrays end unchanged. -/
theorem unchanged (hpre : ∀ (c : Dev nD) (t : Fin cfg0.N), NoCarry (iblk m c 0 t)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (rdat m) (A_eq m) (run_main m ρ hpre)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame (hpre : ∀ (c : Dev nD) (t : Fin cfg0.N), NoCarry (iblk m c 0 t)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hpre) ((θ_run defs _ _).mono (fun _ h => h.2) (run_main_quiescent m ρ hpre))

end Cert.KernelIdeal.Hand

end
-- ==== Proof.Frames.lean ====
module

public import proofs.«01_k».proof.Defs
public import proofs.«01_k».proof.Proof.Gen.Pre_no_carry
public import proofs.«01_k».proof.Proof.Gen.ReferenceIdeal
public import proofs.«01_k».proof.Proof.FrameBits
public import proofs.«01_k».proof.Proof.Value
public import Idealize.ShloMosaic.Lib.Pointwise
public import Idealize.ShloMosaic.Lib.Claim
public import Idealize.ShloMosaic.Lib.Quiescent

@[expose] public section

set_option maxRecDepth 16384

noncomputable section

/-! # The precondition read off, and the frames -/

namespace Cert.Proof

open Idealize.ShloMosaic Idealize.ShloMosaic.TcCoe Idealize.SL.Sem

/-- Where the predicate is true everywhere the last word of each list is zero. -/
theorem last_zero {F : FTy → Type} [FloatOps F] (x0 : IVec Cert.Pre_no_carry.S4096 32) (x1 : IVec Cert.Pre_no_carry.S56x51200 32)
    (x2 : FVec F Cert.Pre_no_carry.S384x224 .bf16) (x3 : IVec Cert.Pre_no_carry.S12800x128 32) (x4 : IVec Cert.Pre_no_carry.S400x128 32)
    (x5 : FVec F Cert.Pre_no_carry.S400x128 .f32) (x6 : IVec Cert.Pre_no_carry.S51200x128 32)
    (h : ∀ i, Cert.Pre_no_carry.fn (F := F) x0 x1 x2 x3 x4 x5 x6 i = 1#1) (y : Cert.Pre_no_carry.S4096.Idx)
    (hy : (y 0).val % 128 = 127) : x0 y = 0#32 := by
  have hl : (y 0).val < 4096 := (y 0).isLt
  have e := h (ix1 ⟨(y 0).val / 128, by show _ < 32; omega⟩)
  pointwise [Cert.Pre_no_carry.fn] at e
  have ey : y = ix1 ⟨(y 0).val / 128 * 128 + 127, by show _ < 4096; omega⟩ := by
    funext a; match a with
    | ⟨0, _⟩ => exact Fin.ext (show (y 0).val = (y 0).val / 128 * 128 + 127 by omega)
  rw [ey]
  by_contra hne
  rw [show IntOp.cmpi CmpIPredicate.eq _ 0#32 = BitVec.ofBool (_ == 0#32) from rfl, beq_false_of_ne hne] at e
  exact absurd e (by decide)

/-- The lists' window is the whole array. -/
theorem noCarry_bits (m : (ℓ : Loc Cert.Kernel.nD Cert.Kernel.τ Cert.Kernel.sig) → Buf (Elt Bits) ℓ) (h : Cert.Pre_Kernel m)
    (c : Dev Cert.Kernel.nD) (t : Fin Cert.Kernel.cfg0.N) : Cert.Kernel.Hand.NoCarry (Cert.Kernel.Gen.iblk m c 0 t) := by
  intro y hy
  have e : Cert.Kernel.win0_0.index t = ![0] := (by decide +kernel : ∀ t : Fin Cert.Kernel.grid0.N, Cert.Kernel.win0_0.index t = ![0]) t
  unfold Cert.Kernel.Gen.iblk
  rw [View.read_apply, cast_eq]
  exact last_zero _ _ _ _ _ _ _ (fun i => congrFun (h c) i) _ (by blk_simp [e]; exact hy)

theorem noCarry_ideal (m : (ℓ : Loc Cert.KernelIdeal.nD Cert.KernelIdeal.τ Cert.KernelIdeal.sig) → Buf (Elt Ideal) ℓ) (h : Cert.Pre_KernelIdeal m)
    (c : Dev Cert.KernelIdeal.nD) (t : Fin Cert.KernelIdeal.cfg0.N) : Cert.KernelIdeal.Hand.NoCarry (Cert.KernelIdeal.Gen.iblk m c 0 t) := by
  intro y hy
  have e : Cert.KernelIdeal.win0_0.index t = ![0] := (by decide +kernel : ∀ t : Fin Cert.KernelIdeal.grid0.N, Cert.KernelIdeal.win0_0.index t = ![0]) t
  unfold Cert.KernelIdeal.Gen.iblk
  rw [View.read_apply, cast_eq]
  exact last_zero _ _ _ _ _ _ _ (fun i => congrFun (h c) i) _ (by blk_simp [e]; exact hy)

theorem frame_kernel : Cert.quiescent_Kernel := fun m g h => Cert.Kernel.Hand.frame m g (noCarry_bits m h)

theorem frame_kernelIdeal : Cert.quiescent_KernelIdeal := fun m g h => Cert.KernelIdeal.Hand.frame m g (noCarry_ideal m h)

set_option maxHeartbeats 1600000 in
theorem unchanged_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  hlo_run

theorem frame_referenceIdeal : Cert.quiescent_ReferenceIdeal := fun m g _ =>
  (θ_run Cert.ReferenceIdeal.defs _ _).mono (fun r h => ⟨h, Idealize.ShloMosaic.sem_eq_zero_of_no_sems (by decide) r.2⟩)
    (unchanged_reference m g)

end Cert.Proof

end
-- ==== Proof.Bits.lean ====
module

public import Idealize.ShloMosaic.Lib.Pointwise
public import Idealize.ShloMosaic.Lib.BitcastPair

@[expose] public section

set_option maxRecDepth 16384

noncomputable section

/-! # Fields and bytes of words -/

namespace Cert.Proof

open Idealize.ShloMosaic Idealize.ShloMosaic.TcCoe

/-- A shift by less than the width. -/
theorem shrui_of_lt (u : ArithUnit) (x y : BitVec 32) (h : y.toNat < 32) : IntOp.shrui u x y = x >>> y.toNat := by
  unfold IntOp.shrui; rw [if_pos h]; rfl
theorem shrsi_of_lt (u : ArithUnit) (x y : BitVec 32) (h : y.toNat < 32) : IntOp.shrsi u x y = x.sshiftRight y.toNat := by
  unfold IntOp.shrsi; rw [if_pos h]; rfl
theorem shli_of_lt (u : ArithUnit) (x y : BitVec 32) (h : y.toNat < 32) : IntOp.shli u x y = x <<< y.toNat := by
  unfold IntOp.shli; rw [if_pos h]; rfl

/-- The low `k` bits. -/
theorem mask_toNat (x : BitVec 32) (k : ℕ) (hk : k < 32) : (IntOp.andi x (BitVec.ofNat 32 (2 ^ k - 1))).toNat = x.toNat % 2 ^ k := by
  have h1 : 2 ^ k ≤ 2 ^ 31 := Nat.pow_le_pow_right (by norm_num) (by omega)
  show (x &&& BitVec.ofNat 32 (2 ^ k - 1)).toNat = _
  rw [BitVec.toNat_and, BitVec.toNat_ofNat, Nat.mod_eq_of_lt (by omega), Nat.and_two_pow_sub_one_eq_mod]

/-- The `k` bits from bit `n` on, by either kind of shift. -/
theorem field_shrui (u : ArithUnit) (x y : BitVec 32) (k : ℕ) (hy : y.toNat < 32) (hk : k < 32) :
    (IntOp.andi (IntOp.shrui u x y) (BitVec.ofNat 32 (2 ^ k - 1))).toNat = x.toNat / 2 ^ y.toNat % 2 ^ k := by
  rw [mask_toNat _ k hk, shrui_of_lt u x y hy, BitVec.toNat_ushiftRight, Nat.shiftRight_eq_div_pow]

theorem andi_shrsi (u : ArithUnit) (x y : BitVec 32) (k : ℕ) (hk : y.toNat + k ≤ 32) (hy : y.toNat < 32) :
    IntOp.andi (IntOp.shrsi u x y) (BitVec.ofNat 32 (2 ^ k - 1)) = IntOp.andi (IntOp.shrui u x y) (BitVec.ofNat 32 (2 ^ k - 1)) := by
  rw [shrui_of_lt u x y hy, shrsi_of_lt u x y hy]
  show _ &&& _ = _ &&& _
  apply BitVec.eq_of_getLsbD_eq
  intro i hi
  rw [BitVec.getLsbD_and, BitVec.getLsbD_and, BitVec.getLsbD_sshiftRight, BitVec.getLsbD_ushiftRight, BitVec.getLsbD_ofNat,
    Nat.testBit_two_pow_sub_one]
  by_cases h : i < k
  · have : y.toNat + i < 32 := by omega
    simp [h, hi, this]
  · simp [h]

theorem field_shrsi (u : ArithUnit) (x y : BitVec 32) (k : ℕ) (h : y.toNat + k ≤ 32) (hy : y.toNat < 32) (hk : k < 32) :
    (IntOp.andi (IntOp.shrsi u x y) (BitVec.ofNat 32 (2 ^ k - 1))).toNat = x.toNat / 2 ^ y.toNat % 2 ^ k := by
  rw [andi_shrsi u x y k h hy, field_shrui u x y k hy hk]

/-- Words read as bytes: row `4 p + k` of the bytes is byte `k` of row `p`. -/
theorem bytes_ix2 {R r n : ℕ} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  rw [bitcast_getLsbD x h _ i hi (by decide), BitVec.getLsbD_extractLsb']
  have ep : ((⟨2, ![R, n]⟩ : Shape).row (ix2 a l) * 8 + i) / 32 = p.val := by
    show (a.val * 8 + i) / 32 = _; omega
  have eq : ((⟨2, ![R, n]⟩ : Shape).row (ix2 a l) * 8 + i) % 32 = 8 * (a.val % 4) + i := by
    show (a.val * 8 + i) % 32 = _; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- Byte `k` with its sign, by a shift up and an arithmetic shift down. -/
theorem signed_byte (u : ArithUnit) (x y : BitVec 32) (k : ℕ) (hk : y.toNat + 8 * k = 24) :
    (IntOp.shrsi u (IntOp.shli u x y) 24#32).toInt = (x.extractLsb' (8 * k) 8).toInt := by
  have e : IntOp.shrsi u (IntOp.shli u x y) 24#32 = (x.extractLsb' (8 * k) 8).signExtend 32 := by
    rw [shrsi_of_lt u _ _ (by decide), shli_of_lt u _ _ (by omega)]
    apply BitVec.eq_of_getLsbD_eq
    intro i hi
    rw [BitVec.getLsbD_sshiftRight, BitVec.getLsbD_signExtend]
    by_cases h : i < 8
    · have h1 : 24 + i < 32 := by omega
      have h2 : ¬ 24 + i < y.toNat := by omega
      have h3 : 24 + i - y.toNat = 8 * k + i := by omega
      simp [-BitVec.getLsbD_eq_getElem, h, hi, h1, h2, h3, show ¬ 32 ≤ i by omega, BitVec.getLsbD_shiftLeft, BitVec.getLsbD_extractLsb']
    · have h1 : ¬ 24 + i < 32 := by omega
      have h2 : ¬ 31 < y.toNat := by omega
      have h3 : 31 - y.toNat = 8 * k + 7 := by omega
      simp [-BitVec.getLsbD_eq_getElem, h, hi, h1, h2, h3, show ¬ 32 ≤ i by omega, BitVec.getLsbD_shiftLeft, BitVec.getLsbD_extractLsb', BitVec.msb_eq_getLsbD_last]
  rw [e, BitVec.toInt_signExtend_of_le (by norm_num)]

/-- Byte `k` of four numbers below 256 packed in a word. -/
theorem packed_byte (u : ArithUnit) (c : Fin 4 → BitVec 32) (hc : ∀ k, (c k).toNat < 256) (k : Fin 4) :
    (IntOp.ori (IntOp.ori (IntOp.ori (c 0) (IntOp.shli u (c 1) 8#32)) (IntOp.shli u (c 2) 16#32)) (IntOp.shli u (c 3) 24#32)).extractLsb' (8 * k.val) 8
      = (c k).setWidth 8 := by
  rw [shli_of_lt u _ _ (by decide), shli_of_lt u _ _ (by decide), shli_of_lt u _ _ (by decide)]
  show (((c 0 ||| c 1 <<< 8) ||| c 2 <<< 16) ||| c 3 <<< 24).extractLsb' (8 * k.val) 8 = _
  have h0 := hc 0
  have h1 := hc 1
  have h2 := hc 2
  have h3 := hc 3
  have past : ∀ (j : Fin 4) (i : ℕ), 8 ≤ i → (c j).getLsbD i = false := fun j i hi => by
    rw [← BitVec.testBit_toNat]
    exact Nat.testBit_lt_two_pow (lt_of_lt_of_le (hc j) (Nat.pow_le_pow_right (n := 2) (by norm_num) hi))
  apply BitVec.eq_of_getLsbD_eq
  intro i hi
  rw [BitVec.getLsbD_extractLsb', BitVec.getLsbD_setWidth]
  simp only [BitVec.getLsbD_or, BitVec.getLsbD_shiftLeft, hi, decide_true, Bool.true_and]
  fin_cases k
  · simp [show i < 8 by omega, show i < 16 by omega, show i < 24 by omega]
  · simp [-BitVec.getLsbD_eq_getElem, past 0 (8 + i) (by omega), show 8 + i < 32 by omega, show 8 + i < 16 by omega, show 8 + i < 24 by omega]
  · simp [-BitVec.getLsbD_eq_getElem, past 0 (16 + i) (by omega), past 1 (16 + i - 8) (by omega), show 16 + i < 32 by omega, show 16 + i < 24 by omega]
  · simp [-BitVec.getLsbD_eq_getElem, past 0 (24 + i) (by omega), past 1 (24 + i - 8) (by omega), past 2 (24 + i - 16) (by omega), show 24 + i < 32 by omega]

/-- A number between 0 and 255 made an integer is below 256. -/
theorem fptosi_byte (x : EReal) : (Ideal.fptosi 32 (min ((255 : ℝ) : EReal) (max 0 x))).toNat < 256 := by
  obtain ⟨r, h0, h1, hr⟩ : ∃ r : ℝ, 0 ≤ r ∧ r ≤ 255 ∧ min ((255 : ℝ) : EReal) (max 0 x) = (r : EReal) := by
    induction x using EReal.rec with
    | bot => exact ⟨0, le_refl _, by norm_num, by rw [max_eq_left bot_le, min_eq_right (by exact_mod_cast (by norm_num : (0 : ℝ) ≤ 255))]; rfl⟩
    | top => exact ⟨255, by norm_num, le_refl _, by rw [max_eq_right le_top, min_eq_left le_top]⟩
    | coe y => exact ⟨min 255 (max 0 y), le_min (by norm_num) (le_max_left _ _), min_le_left _ _, by
        push_cast; rfl⟩
  rw [hr, Ideal.fptosi, Ideal.toIntClamped_coe, if_pos h0]
  have f0 : 0 ≤ ⌊r⌋ := Int.floor_nonneg.mpr h0
  have f1 : ⌊r⌋ ≤ 255 := by
    have := Int.floor_le_floor h1
    simpa using this
  rw [BitVec.toNat_ofInt]
  norm_num
  omega

end Cert.Proof

end
-- ==== Proof.Decode.lean ====
module

public import Idealize.ShloMosaic.Lib.Pointwise
public import Idealize.ShloMosaic.Lib.BitcastPair
public import proofs.«01_k».proof.Proof.Bits

@[expose] public section

set_option maxRecDepth 16384

noncomputable section

/-! # Numbers and bytes from bits -/

namespace Cert.Proof

open Idealize.ShloMosaic

/-- The number that a half's bits are: sign, exponent and fraction read off the natural number. -/
def halfNat (n : ℕ) : EReal :=
  let size : EReal := if n / 1024 % 32 = 0 then (((n % 1024 : ℕ) : ℝ) * (2 : ℝ)⁻¹ ^ 24 : ℝ)
    else if n / 1024 % 32 = 31 then (if n % 1024 = 0 then ⊤ else ⊥)
    else (((1024 + n % 1024 : ℕ) : ℝ) * (2 : ℝ) ^ (n / 1024 % 32 - 1) * (2 : ℝ)⁻¹ ^ 24 : ℝ)
  if n / 32768 % 2 = 1 then -size else size

/-- A float32 without a sign, not zero and not subnormal, by its exponent and its fraction. -/
theorem ofBits_pos (b : BitVec 32) (E T : ℕ) (hb : b.toNat = E * 8388608 + T) (h0 : 0 < E) (hE : E < 256) (hT : T < 8388608) :
    Ideal.ofBits .f32 b = if E = 255 then (if T = 0 then ⊤ else ⊥) else ((((8388608 + T : ℕ) : ℝ) * (2 : ℝ) ^ ((E : ℤ) - 150) : ℝ) : EReal) := by
  have hs : (b.extractLsb' 31 1 == 1#1) = false := by
    rw [beq_eq_false_iff_ne, ne_eq, ← BitVec.toNat_inj, BitVec.extractLsb'_toNat, Nat.shiftRight_eq_div_pow, hb,
      show (1#1 : BitVec 1).toNat = 1 from rfl]
    omega
  have he : (b.extractLsb' 23 8).toNat = E := by
    rw [BitVec.extractLsb'_toNat, Nat.shiftRight_eq_div_pow, hb]
    omega
  have hf : (b.extractLsb' 0 23).toNat = T := by
    rw [BitVec.extractLsb'_toNat, Nat.shiftRight_eq_div_pow, hb]
    omega
  show Ideal.ieee 8 23 b = _
  unfold Ideal.ieee
  rw [show (8 + 23 : ℕ) = 31 from rfl, hs, he, hf]
  simp only [Bool.false_eq_true, if_false]
  rw [if_neg (show ¬ E = 0 by omega)]
  by_cases hE' : E = 255
  · subst hE'; norm_num
  · rw [if_neg hE', if_neg (by norm_num; exact hE')]
    norm_num
    congr 1
    norm_num
    ring_nf

/-- What the constants are. -/
theorem ofBits_unit : Ideal.ofBits .f32 864026624#32 = (((2 : ℝ)⁻¹ ^ 24 : ℝ) : EReal) := by
  rw [ofBits_pos 864026624#32 103 0 (by decide) (by norm_num) (by norm_num) (by norm_num)]; norm_num
theorem ofBits_1024 : Ideal.ofBits .f32 1149239296#32 = ((1024 : ℝ) : EReal) := by
  rw [ofBits_pos 1149239296#32 137 0 (by decide) (by norm_num) (by norm_num) (by norm_num)]; norm_num
theorem ofBits_128 : Ideal.ofBits .f32 1124073472#32 = ((128 : ℝ) : EReal) := by
  rw [ofBits_pos 1124073472#32 134 0 (by decide) (by norm_num) (by norm_num) (by norm_num)]; norm_num
theorem ofBits_inv128 : Ideal.ofBits .f32 1006632960#32 = ((128⁻¹ : ℝ) : EReal) := by
  rw [ofBits_pos 1006632960#32 120 0 (by decide) (by norm_num) (by norm_num) (by norm_num)]; norm_num
theorem ofBits_255 : Ideal.ofBits .f32 1132396544#32 = ((255 : ℝ) : EReal) := by
  rw [ofBits_pos 1132396544#32 134 8323072 (by decide) (by norm_num) (by norm_num) (by norm_num)]; norm_num
theorem ofBits_inf : Ideal.ofBits .f32 2139095040#32 = ⊤ := by
  rw [ofBits_pos 2139095040#32 255 0 (by decide) (by norm_num) (by norm_num) (by norm_num)]; norm_num
theorem ofBits_nan : Ideal.ofBits .f32 2143289344#32 = ⊥ := by
  rw [ofBits_pos 2143289344#32 255 4194304 (by decide) (by norm_num) (by norm_num) (by norm_num)]; norm_num

/-- A choice by a comparison. -/
theorem select_ofBool {α : Type} (p : Prop) [Decidable p] (a b : α) : Scalar.select (BitVec.ofBool (decide p)) a b = if p then a else b := by
  unfold Scalar.select
  by_cases h : p <;> simp [h]
theorem cmpi_eq (x y : BitVec 32) : IntOp.cmpi .eq x y = BitVec.ofBool (decide (x.toNat = y.toNat)) := by
  unfold IntOp.cmpi
  congr 1
  rw [Bool.eq_iff_iff]; simp [BitVec.toNat_inj]
theorem cmpi_ne (x y : BitVec 32) : IntOp.cmpi .ne x y = BitVec.ofBool (decide (x.toNat ≠ y.toNat)) := by
  unfold IntOp.cmpi
  congr 1
  rw [Bool.eq_iff_iff]; simp [BitVec.toNat_inj]
theorem cmpi_slt (x y : BitVec 32) (hx : x.toNat < 2147483648) (hy : y.toNat < 2147483648) :
    IntOp.cmpi .slt x y = BitVec.ofBool (decide (x.toNat < y.toNat)) := by
  unfold IntOp.cmpi
  congr 1
  rw [Bool.eq_iff_iff, BitVec.slt_iff_toInt_lt, BitVec.toInt_eq_toNat_of_lt (by omega), BitVec.toInt_eq_toNat_of_lt (by omega)]; simp
theorem cmpi_sge (x y : BitVec 32) (hx : x.toNat < 2147483648) (hy : y.toNat < 2147483648) :
    IntOp.cmpi .sge x y = BitVec.ofBool (decide (y.toNat ≤ x.toNat)) := by
  unfold IntOp.cmpi
  congr 1
  rw [Bool.eq_iff_iff, BitVec.sle_iff_toInt_le, BitVec.toInt_eq_toNat_of_lt (by omega), BitVec.toInt_eq_toNat_of_lt (by omega)]; simp

/-- A small integer as a number. -/
theorem sitofp_toNat (φ : FTy) (x : BitVec 32) (h : x.toNat < 2147483648) : (FloatOps.sitofp φ x : Ideal φ) = (((x.toNat : ℕ) : ℝ) : EReal) := by
  show ((x.toInt : ℝ) : EReal) = _
  rw [BitVec.toInt_eq_toNat_of_lt (by omega)]; norm_num

/-- Bit 15. -/
theorem bit15 (x : BitVec 32) : ((IntOp.andi x 32768#32).toNat ≠ (0#32 : BitVec 32).toNat) ↔ x.toNat / 32768 % 2 = 1 := by
  show (x &&& BitVec.twoPow 32 15).toNat ≠ 0 ↔ _
  rw [BitVec.and_twoPow, ← BitVec.testBit_toNat, Nat.testBit_eq_decide_div_mod_eq]
  by_cases h : x.toNat / 32768 % 2 = 1
  · simp [h]
  · simp [h]

/-- The number of a half's bits, by its float32: the exponent and the fraction moved and the exponent's bias changed. -/
theorem half_moved (u : ArithUnit) (h : BitVec 32) :
    Scalar.select (IntOp.cmpi CmpIPredicate.ne (IntOp.andi h 32768#32) 0#32)
      (0 - Scalar.select (IntOp.cmpi CmpIPredicate.slt (IntOp.andi h 32767#32) 1024#32)
          ((FloatOps.sitofp (F := Ideal) FTy.f32 (IntOp.andi h 1023#32) : EReal) * Ideal.ofBits FTy.f32 864026624#32)
          (Ideal.ofBits FTy.f32 (IntOp.addi (IntOp.shli u (IntOp.andi h 32767#32) 13#32)
              (Scalar.select (IntOp.cmpi CmpIPredicate.sge (IntOp.andi h 32767#32) 31744#32) 1879048192#32 939524096#32))))
      (Scalar.select (IntOp.cmpi CmpIPredicate.slt (IntOp.andi h 32767#32) 1024#32)
        ((FloatOps.sitofp (F := Ideal) FTy.f32 (IntOp.andi h 1023#32) : EReal) * Ideal.ofBits FTy.f32 864026624#32)
        (Ideal.ofBits FTy.f32 (IntOp.addi (IntOp.shli u (IntOp.andi h 32767#32) 13#32)
            (Scalar.select (IntOp.cmpi CmpIPredicate.sge (IntOp.andi h 32767#32) 31744#32) 1879048192#32 939524096#32))))
    = halfNat (h.toNat % 65536) := by
  have hm : (IntOp.andi h 32767#32).toNat = h.toNat % 32768 := mask_toNat h 15 (by norm_num)
  have hf : (IntOp.andi h 1023#32).toNat = h.toNat % 1024 := mask_toNat h 10 (by norm_num)
  have hn : h.toNat < 4294967296 := h.isLt
  rw [cmpi_ne, cmpi_slt _ _ (by omega) (by decide), cmpi_sge _ _ (by omega) (by decide)]
  simp only [select_ofBool, bit15, zero_sub]
  rw [hm, sitofp_toNat _ _ (by omega), hf, ofBits_unit, show (1024#32 : BitVec 32).toNat = 1024 from rfl, show (31744#32 : BitVec 32).toNat = 31744 from rfl]
  unfold halfNat
  rw [show h.toNat % 65536 / 32768 % 2 = h.toNat / 32768 % 2 by omega, show h.toNat % 65536 / 1024 % 32 = h.toNat / 1024 % 32 by omega,
    show h.toNat % 65536 % 1024 = h.toNat % 1024 by omega]
  have key : (if h.toNat % 32768 < 1024 then ((((h.toNat % 1024 : ℕ) : ℝ) : EReal) * (((2 : ℝ)⁻¹ ^ 24 : ℝ) : EReal))
      else Ideal.ofBits FTy.f32 (IntOp.addi (IntOp.shli u (IntOp.andi h 32767#32) 13#32) (if 31744 ≤ h.toNat % 32768 then 1879048192#32 else 939524096#32)))
      = (if h.toNat / 1024 % 32 = 0 then (((h.toNat % 1024 : ℕ) : ℝ) * (2 : ℝ)⁻¹ ^ 24 : ℝ)
    else if h.toNat / 1024 % 32 = 31 then (if h.toNat % 1024 = 0 then ⊤ else ⊥)
    else (((1024 + h.toNat % 1024 : ℕ) : ℝ) * (2 : ℝ) ^ (h.toNat / 1024 % 32 - 1) * (2 : ℝ)⁻¹ ^ 24 : ℝ) : EReal) := by
    by_cases h0 : h.toNat / 1024 % 32 = 0
    · rw [if_pos h0, if_pos (by omega), EReal.coe_mul]
    rw [if_neg h0, if_neg (by omega), shli_of_lt u _ _ (by decide)]
    have hs : ((IntOp.andi h 32767#32) <<< (13#32 : BitVec 32).toNat).toNat = h.toNat % 32768 * 8192 := by
      rw [BitVec.toNat_shiftLeft, hm, show (13#32 : BitVec 32).toNat = 13 from rfl, Nat.shiftLeft_eq]; omega
    by_cases h1 : h.toNat / 1024 % 32 = 31
    · rw [if_pos h1, if_pos (show 31744 ≤ h.toNat % 32768 by omega),
        ofBits_pos _ 255 (h.toNat % 1024 * 8192) (by
          show (_ + _ : BitVec 32).toNat = _
          rw [BitVec.toNat_add, hs]; norm_num; omega) (by norm_num) (by norm_num) (by omega), if_pos rfl]
      by_cases h2 : h.toNat % 1024 = 0
      · rw [if_pos h2, if_pos (by omega)]
      · rw [if_neg h2, if_neg (by omega)]
    · rw [if_neg h1, if_neg (show ¬ 31744 ≤ h.toNat % 32768 by omega),
        ofBits_pos _ (h.toNat / 1024 % 32 + 112) (h.toNat % 1024 * 8192) (by
          show (_ + _ : BitVec 32).toNat = _
          rw [BitVec.toNat_add, hs]; norm_num; omega) (by omega) (by omega) (by omega), if_neg (by omega)]
      congr 1
      obtain ⟨e, he⟩ : ∃ e, h.toNat / 1024 % 32 = e + 1 := ⟨h.toNat / 1024 % 32 - 1, by omega⟩
      rw [he, show (((e + 1 + 112 : ℕ) : ℤ) - 150) = (e : ℤ) + (-37) by push_cast; ring, zpow_add₀ (by norm_num), zpow_natCast,
        show e + 1 - 1 = e from rfl]
      push_cast
      norm_num
      ring
  rw [key]

/-- The number of a half's bits, by its value. -/
theorem half_valued (u : ArithUnit) (h : BitVec 32) :
    Scalar.select (IntOp.cmpi CmpIPredicate.eq (IntOp.andi (IntOp.shrsi u h 15#32) 1#32) 1#32)
      (-Scalar.select (IntOp.cmpi CmpIPredicate.eq (IntOp.andi (IntOp.shrsi u h 10#32) 31#32) 0#32)
          ((FloatOps.sitofp (F := Ideal) FTy.f32 (IntOp.andi h 1023#32) : EReal) * Ideal.ofBits FTy.f32 864026624#32)
          (Scalar.select (IntOp.cmpi CmpIPredicate.eq (IntOp.andi (IntOp.shrsi u h 10#32) 31#32) 31#32)
            (Scalar.select (IntOp.cmpi CmpIPredicate.eq (IntOp.andi h 1023#32) 0#32)
              (Ideal.ofBits FTy.f32 2139095040#32) (Ideal.ofBits FTy.f32 2143289344#32))
            ((Ideal.ofBits FTy.f32 1149239296#32 + (FloatOps.sitofp (F := Ideal) FTy.f32 (IntOp.andi h 1023#32) : EReal)) *
                (FloatOps.sitofp (F := Ideal) FTy.f32 (IntOp.shli u (1#32) (IntOp.subi (IntOp.andi (IntOp.shrsi u h 10#32) 31#32) 1#32)) : EReal) *
              Ideal.ofBits FTy.f32 864026624#32)))
      (Scalar.select (IntOp.cmpi CmpIPredicate.eq (IntOp.andi (IntOp.shrsi u h 10#32) 31#32) 0#32)
          ((FloatOps.sitofp (F := Ideal) FTy.f32 (IntOp.andi h 1023#32) : EReal) * Ideal.ofBits FTy.f32 864026624#32)
          (Scalar.select (IntOp.cmpi CmpIPredicate.eq (IntOp.andi (IntOp.shrsi u h 10#32) 31#32) 31#32)
            (Scalar.select (IntOp.cmpi CmpIPredicate.eq (IntOp.andi h 1023#32) 0#32)
              (Ideal.ofBits FTy.f32 2139095040#32) (Ideal.ofBits FTy.f32 2143289344#32))
            ((Ideal.ofBits FTy.f32 1149239296#32 + (FloatOps.sitofp (F := Ideal) FTy.f32 (IntOp.andi h 1023#32) : EReal)) *
                (FloatOps.sitofp (F := Ideal) FTy.f32 (IntOp.shli u (1#32) (IntOp.subi (IntOp.andi (IntOp.shrsi u h 10#32) 31#32) 1#32)) : EReal) *
              Ideal.ofBits FTy.f32 864026624#32)))
    = halfNat (h.toNat % 65536) := by
  have hs : (IntOp.andi (IntOp.shrsi u h 15#32) 1#32).toNat = h.toNat / 32768 % 2 := field_shrsi u h 15#32 1 (by decide) (by decide) (by norm_num)
  have he : (IntOp.andi (IntOp.shrsi u h 10#32) 31#32).toNat = h.toNat / 1024 % 32 := field_shrsi u h 10#32 5 (by decide) (by decide) (by norm_num)
  have hf : (IntOp.andi h 1023#32).toNat = h.toNat % 1024 := mask_toNat h 10 (by norm_num)
  generalize IntOp.andi (IntOp.shrsi u h 10#32) 31#32 = E at he ⊢
  rw [cmpi_eq, cmpi_eq E, cmpi_eq E, cmpi_eq]
  simp only [select_ofBool]
  rw [hs, he, hf, sitofp_toNat _ _ (by omega), hf, ofBits_unit, ofBits_1024, ofBits_inf, ofBits_nan, show (1#32 : BitVec 32).toNat = 1 from rfl,
    show (31#32 : BitVec 32).toNat = 31 from rfl, show (0#32 : BitVec 32).toNat = 0 from rfl]
  unfold halfNat
  rw [show h.toNat % 65536 / 32768 % 2 = h.toNat / 32768 % 2 by omega, show h.toNat % 65536 / 1024 % 32 = h.toNat / 1024 % 32 by omega,
    show h.toNat % 65536 % 1024 = h.toNat % 1024 by omega]
  have key : (if h.toNat / 1024 % 32 = 0 then ((((h.toNat % 1024 : ℕ) : ℝ) : EReal) * (((2 : ℝ)⁻¹ ^ 24 : ℝ) : EReal))
      else if h.toNat / 1024 % 32 = 31 then (if h.toNat % 1024 = 0 then ⊤ else ⊥)
      else (((1024 : ℝ) : EReal) + (((h.toNat % 1024 : ℕ) : ℝ) : EReal)) * (FloatOps.sitofp (F := Ideal) FTy.f32 (IntOp.shli u (1#32) (IntOp.subi E 1#32)) : EReal)
        * (((2 : ℝ)⁻¹ ^ 24 : ℝ) : EReal))
      = (if h.toNat / 1024 % 32 = 0 then (((h.toNat % 1024 : ℕ) : ℝ) * (2 : ℝ)⁻¹ ^ 24 : ℝ)
    else if h.toNat / 1024 % 32 = 31 then (if h.toNat % 1024 = 0 then ⊤ else ⊥)
    else (((1024 + h.toNat % 1024 : ℕ) : ℝ) * (2 : ℝ) ^ (h.toNat / 1024 % 32 - 1) * (2 : ℝ)⁻¹ ^ 24 : ℝ) : EReal) := by
    by_cases h0 : h.toNat / 1024 % 32 = 0
    · rw [if_pos h0, if_pos h0, EReal.coe_mul]
    rw [if_neg h0, if_neg h0]
    by_cases h1 : h.toNat / 1024 % 32 = 31
    · rw [if_pos h1, if_pos h1]
    rw [if_neg h1, if_neg h1]
    have hE : (IntOp.subi E 1#32).toNat = h.toNat / 1024 % 32 - 1 := by
      show (E - 1#32).toNat = _
      rw [BitVec.toNat_sub, he]; norm_num; omega
    have hp : 2 ^ (h.toNat / 1024 % 32 - 1) ≤ 2 ^ 29 := Nat.pow_le_pow_right (by norm_num) (by omega)
    have hl : (IntOp.shli u (1#32) (IntOp.subi E 1#32)).toNat = 2 ^ (h.toNat / 1024 % 32 - 1) := by
      rw [shli_of_lt u _ _ (by omega), hE, BitVec.toNat_shiftLeft, Nat.shiftLeft_eq, show (1#32 : BitVec 32).toNat = 1 from rfl, one_mul, Nat.mod_eq_of_lt (by omega)]
    rw [sitofp_toNat _ _ (by omega), hl, ← EReal.coe_add, ← EReal.coe_mul, ← EReal.coe_mul]
    congr 1
    push_cast
    ring
  rw [key]

/-- The upper half of a word, by either shift. -/
theorem upper_shrui (u : ArithUnit) (x : BitVec 32) : (IntOp.shrui u x 16#32).toNat % 65536 = x.toNat / 65536 := by
  have := x.isLt
  rw [shrui_of_lt u _ _ (by decide), BitVec.toNat_ushiftRight, Nat.shiftRight_eq_div_pow, show (16#32 : BitVec 32).toNat = 16 from rfl]
  omega
theorem upper_shrsi (u : ArithUnit) (x : BitVec 32) : (IntOp.shrsi u x 16#32).toNat % 65536 = x.toNat / 65536 := by
  have := x.isLt
  have e : (IntOp.andi (IntOp.shrsi u x 16#32) 65535#32).toNat = x.toNat / 65536 % 65536 := field_shrsi u x 16#32 16 (by decide) (by decide) (by norm_num)
  have e' : (IntOp.andi (IntOp.shrsi u x 16#32) 65535#32).toNat = (IntOp.shrsi u x 16#32).toNat % 65536 := mask_toNat _ 16 (by norm_num)
  omega

end Cert.Proof

end
-- ==== Proof.Slot.lean ====
module

public import proofs.«01_k».proof.Proof.Decode

@[expose] public section

set_option maxRecDepth 16384

noncomputable section

namespace Cert.Proof

open Idealize.ShloMosaic Idealize.ShloMosaic.TcCoe

/-! # One slot: what is read for it and what is made of it -/

/-- What is read for one slot: the terms of the bags' gradients, the words of its lookup counts, its packed scale and
    bias, its optimizer state, the words its codes lie in and in which byte, its random words. -/
@[ext] structure Slot where
  terms : Fin 384 → Fin 224 → EReal
  words : Fin 56 → BitVec 32
  qparam : BitVec 32
  old : EReal
  place : Fin 4
  codes : Fin 128 → BitVec 32
  rand : Fin 128 → BitVec 32

namespace Slot

variable (S : Slot)

/-- How often bag `b` looks the slot up: a signed byte. -/
def count (b : Fin 224) : EReal :=
  ((((S.words ⟨b.val / 4, by omega⟩).extractLsb' (8 * (b.val % 4)) 8).toInt : ℝ) : EReal)

/-- The gradient of its row. -/
def grad (d : Fin 128) : EReal :=
  ∑ b, S.terms ⟨d.val, by omega⟩ b * S.count b + ∑ b, S.terms ⟨128 + d.val, by omega⟩ b * S.count b
    + ∑ b, S.terms ⟨256 + d.val, by omega⟩ b * S.count b

/-- Its new state: the old one and the mean square of the gradient. -/
def state : EReal := S.old + (∑ d, S.grad d * S.grad d) * ((128⁻¹ : ℝ) : EReal)

/-- The new row: the old code dequantised, less the step times the gradient. -/
def row (d : Fin 128) : EReal :=
  ((((S.codes d).toNat / 2 ^ (8 * S.place.val) % 256 : ℕ) : ℝ) : EReal) * halfNat (S.qparam.toNat % 65536) + halfNat (S.qparam.toNat / 65536)
    - Ideal.div (Ideal.ofBits .f32 1017370378#32) (Ideal.sqrt S.state + Ideal.ofBits .f32 841731191#32) * S.grad d

/-- Its least and greatest value. -/
def low : EReal := Finset.univ.fold min (Ideal.ofBits .f32 2139095040#32) S.row
def high : EReal := Finset.univ.fold max (Ideal.ofBits .f32 4286578688#32) S.row

/-- The new scale and the new codes. -/
def scale : EReal := Ideal.div (S.high - S.low) (Ideal.ofBits .f32 1132396544#32)
def code (d : Fin 128) : BitVec 32 :=
  Ideal.fptosi 32 (min ((255 : ℝ) : EReal) (max 0 (Ideal.liftRound Int.floor
    ((S.row d - S.low) * Ideal.div 1 (S.scale + Ideal.ofBits .f32 841731191#32)
      + ((((S.rand d) >>> 8).toInt : ℝ) : EReal) * Ideal.ofBits .f32 864026624#32))))

theorem code_lt (d : Fin 128) : (S.code d).toNat < 256 := fptosi_byte _

end Slot

/-- The mean over 128 either way. -/
theorem div_128 (x : EReal) : Ideal.div x (Ideal.ofBits .f32 1124073472#32) = x * ((128⁻¹ : ℝ) : EReal) := by
  rw [ofBits_128, Ideal.div, if_neg (by norm_cast), EReal.coe_inv]

end Cert.Proof

end
-- ==== Proof.KSlot.lean ====
module

public import proofs.«01_k».proof.Proof.Group
public import proofs.«01_k».proof.Proof.Slot

@[expose] public section

set_option maxRecDepth 16384

noncomputable section

namespace Cert.KernelIdeal.Hand

open Cert.KernelIdeal.Gen Cert.Proof
open Idealize.ShloMosaic Idealize.ShloMosaic.TcCoe

/-! # A group's slots, one by one -/

namespace Loads

variable (L : Loads Ideal)

/-- The gradient, the new row and the random word of the slot in lane `q` of tile `j`. -/
def gradAt (j : Fin 4) (q d : Fin 128) : EReal :=
  match j with | 0 => L.grad0 (ix2 d q) | 1 => L.grad1 (ix2 d q) | 2 => L.grad2 (ix2 d q) | 3 => L.grad3 (ix2 d q)
def newAt (j : Fin 4) (q d : Fin 128) : EReal :=
  match j with | 0 => L.new0 (ix2 d q) | 1 => L.new1 (ix2 d q) | 2 => L.new2 (ix2 d q) | 3 => L.new3 (ix2 d q)

/-- The slot in lane `q` of tile `j`: what the group loads for it. -/
def slot (j : Fin 4) (q : Fin 128) : Slot where
  terms := fun r b => if h : r.val < 128 then L.a0 (ix2 ⟨r.val, h⟩ b)
    else if h : r.val - 128 < 128 then L.a1 (ix2 ⟨r.val - 128, h⟩ b) else L.a2 (ix2 ⟨r.val - 256, by omega⟩ b)
  words := fun w => match j with
    | 0 => L.w0 (ix2 w ⟨q.val, by omega⟩) | 1 => L.w0 (ix2 w ⟨128 + q.val, by omega⟩)
    | 2 => L.w1 (ix2 w ⟨q.val, by omega⟩) | 3 => L.w1 (ix2 w ⟨128 + q.val, by omega⟩)
  qparam := match j with | 0 => L.q0 (ix2 0 q) | 1 => L.q1 (ix2 0 q) | 2 => L.q2 (ix2 0 q) | 3 => L.q3 (ix2 0 q)
  old := match j with | 0 => L.m0 (ix2 0 q) | 1 => L.m1 (ix2 0 q) | 2 => L.m2 (ix2 0 q) | 3 => L.m3 (ix2 0 q)
  place := j
  codes := fun d => L.code (ix2 q d)
  rand := fun d => match j with | 0 => L.r0 (ix2 q d) | 1 => L.r1 (ix2 q d) | 2 => L.r2 (ix2 q d) | 3 => L.r3 (ix2 q d)

/-- The gradient of a lane of a pair of tiles. -/
theorem pairGrad_at (w : Vec Ideal S56x256 .i32) (d : Fin 128) (l : Fin 256) (S : Slot) (hw : ∀ k, S.words k = w (ix2 k l))
    (h0 : ∀ b, S.terms ⟨d.val, by omega⟩ b = L.a0 (ix2 d b)) (h1 : ∀ b, S.terms ⟨128 + d.val, by omega⟩ b = L.a1 (ix2 d b))
    (h2 : ∀ b, S.terms ⟨256 + d.val, by omega⟩ b = L.a2 (ix2 d b)) :
    pairGrad w L.a0 L.a1 L.a2 (ix2 d l) = S.grad d := by
  have e : ∀ b : Fin 224, (FloatOps.sitofp (F := Ideal) FTy.bf16 (bitcast S224x256 8 w bitcasts_S56x256_w32_S224x256_w8 (ix2 b l)) : EReal) = S.count b := fun b => by
    rw [bytes_ix2 w bitcasts_S56x256_w32_S224x256_w8 b l ⟨b.val / 4, by omega⟩ rfl]
    unfold Slot.count
    rw [hw]
    rfl
  pointwise [pairGrad]
  unfold Slot.grad
  simp only [h0, h1, h2, e]

theorem grad_at (j : Fin 4) (q d : Fin 128) : L.gradAt j q d = (L.slot j q).grad d := by
  have h0 : ∀ b, (L.slot j q).terms ⟨d.val, by omega⟩ b = L.a0 (ix2 d b) := fun b => by
    simp [slot]
  have h1 : ∀ b, (L.slot j q).terms ⟨128 + d.val, by omega⟩ b = L.a1 (ix2 d b) := fun b => by
    simp [slot]
  have h2 : ∀ b, (L.slot j q).terms ⟨256 + d.val, by omega⟩ b = L.a2 (ix2 d b) := fun b => by
    simp [slot, show ¬ 256 + d.val < 128 by omega, show ¬ 256 + d.val - 128 < 128 by omega]
  fin_cases j <;> simp only [Fin.zero_eta, Fin.mk_one, Fin.reduceFinMk] at h0 h1 h2 ⊢ <;> unfold gradAt
  · pointwise [grad0, leftTile]; exact L.pairGrad_at _ d ⟨q.val, by omega⟩ _ (fun _ => rfl) h0 h1 h2
  · pointwise [grad1, rightTile]; exact L.pairGrad_at _ d ⟨128 + q.val, by omega⟩ _ (fun _ => rfl) h0 h1 h2
  · pointwise [grad2, leftTile]; exact L.pairGrad_at _ d ⟨q.val, by omega⟩ _ (fun _ => rfl) h0 h1 h2
  · pointwise [grad3, rightTile]; exact L.pairGrad_at _ d ⟨128 + q.val, by omega⟩ _ (fun _ => rfl) h0 h1 h2

theorem state_at (j : Fin 4) (q : Fin 128) : L.state (ix2 j q) = (L.slot j q).state := by
  have e := L.grad_at j q
  unfold Slot.state
  simp only [← e]
  rw [← ofBits_inv128]
  fin_cases j <;> simp only [Fin.zero_eta, Fin.mk_one, Fin.reduceFinMk] <;> pointwise [state, newState, rows4, sumSq] <;> rfl

theorem halfVal_at (h : IVec S4x128 32) (j : Fin 4) (q : Fin 128) : halfVal (F := Ideal) h (ix2 j q) = halfNat ((h (ix2 j q)).toNat % 65536) := by
  pointwise [halfVal]
  exact half_moved _ _

theorem qparam_at (j : Fin 4) (q : Fin 128) : L.qparam (ix2 j q) = (L.slot j q).qparam := by
  fin_cases j <;> simp only [Fin.zero_eta, Fin.mk_one, Fin.reduceFinMk] <;> pointwise [qparam, rows4] <;> rfl

theorem scale_at (j : Fin 4) (q : Fin 128) : L.scale (ix2 j q) = halfNat ((L.slot j q).qparam.toNat % 65536) := by
  unfold scale; rw [halfVal_at, qparam_at]

theorem bias_at (j : Fin 4) (q : Fin 128) : L.bias (ix2 j q) = halfNat ((L.slot j q).qparam.toNat / 65536) := by
  unfold bias; rw [halfVal_at, ← qparam_at]
  exact congrArg halfNat (upper_shrui _ _)

/-- A tile's new rows. -/
theorem newRow_at (sh : BitVec 32) (scale bias mult : FVec Ideal S1x128 .f32) (g : FVec Ideal S128x128 .f32) (S : Slot) (q d : Fin 128)
    (hs : sh.toNat = 8 * S.place.val) (hc : L.code (ix2 q d) = S.codes d) (h1 : scale (ix2 0 q) = halfNat (S.qparam.toNat % 65536))
    (h2 : bias (ix2 0 q) = halfNat (S.qparam.toNat / 65536))
    (h3 : mult (ix2 0 q) = Ideal.div (Ideal.ofBits .f32 1017370378#32) (Ideal.sqrt S.state + Ideal.ofBits .f32 841731191#32))
    (h4 : g (ix2 d q) = S.grad d) :
    newRow L.code sh scale bias mult g (ix2 d q) = S.row d := by
  have hp := S.place.isLt
  have e : (IntOp.andi (IntOp.shrui ArithUnit.vector (S.codes d) sh) 255#32).toNat = (S.codes d).toNat / 2 ^ (8 * S.place.val) % 256 := by
    rw [← hs]; exact field_shrui _ _ _ 8 (by omega) (by norm_num)
  pointwise [newRow, over]
  rw [h1, h2, h3, h4, hc, sitofp_toNat _ _ (by omega), e]
  rfl

theorem new_at (j : Fin 4) (q d : Fin 128) : L.newAt j q d = (L.slot j q).row d := by
  have hs := L.scale_at j q
  have hb := L.bias_at j q
  have ht := L.state_at j q
  have hg := L.grad_at j q d
  have hm : L.mult (ix2 j q) = Ideal.div (Ideal.ofBits .f32 1017370378#32) (Ideal.sqrt (L.slot j q).state + Ideal.ofBits .f32 841731191#32) := by
    pointwise [mult, stepOf]; rw [ht]
  fin_cases j <;> simp only [Fin.zero_eta, Fin.mk_one, Fin.reduceFinMk] at hs hb hm hg ⊢
  · exact L.newRow_at _ _ _ _ _ _ q d rfl rfl (by pointwise [row0]; exact hs) (by pointwise [row0]; exact hb) (by pointwise [row0]; exact hm) hg
  · exact L.newRow_at _ _ _ _ _ _ q d rfl rfl (by pointwise [row1]; exact hs) (by pointwise [row1]; exact hb) (by pointwise [row1]; exact hm) hg
  · exact L.newRow_at _ _ _ _ _ _ q d rfl rfl (by pointwise [row2]; exact hs) (by pointwise [row2]; exact hb) (by pointwise [row2]; exact hm) hg
  · exact L.newRow_at _ _ _ _ _ _ q d rfl rfl (by pointwise [row3]; exact hs) (by pointwise [row3]; exact hb) (by pointwise [row3]; exact hm) hg

theorem low_at (j : Fin 4) (q : Fin 128) : L.low (ix2 j q) = (L.slot j q).low := by
  have e : (L.slot j q).row = L.newAt j q := funext fun d => (L.new_at j q d).symm
  unfold Slot.low
  rw [e]
  fin_cases j <;> simp only [Fin.zero_eta, Fin.mk_one, Fin.reduceFinMk] <;> pointwise [low, lowOf, rows4] <;> rfl

theorem high_at (j : Fin 4) (q : Fin 128) : L.high (ix2 j q) = (L.slot j q).high := by
  have e : (L.slot j q).row = L.newAt j q := funext fun d => (L.new_at j q d).symm
  unfold Slot.high
  rw [e]
  fin_cases j <;> simp only [Fin.zero_eta, Fin.mk_one, Fin.reduceFinMk] <;> pointwise [high, highOf, rows4] <;> rfl

theorem newScale_at (j : Fin 4) (q : Fin 128) : L.newScale (ix2 j q) = (L.slot j q).scale := by
  pointwise [newScale, throughHalf]
  rw [high_at, low_at]; rfl

theorem newBias_at (j : Fin 4) (q : Fin 128) : L.newBias (ix2 j q) = (L.slot j q).low := by
  pointwise [newBias, throughHalf]
  rw [low_at]

/-- A tile's new codes. -/
theorem quant_at (r : Vec Ideal S128x128 .i32) (base inv : FVec Ideal S1x128 .f32) (w : FVec Ideal S128x128 .f32) (S : Slot) (q d : Fin 128)
    (hr : r (ix2 q d) = S.rand d) (h1 : base (ix2 0 q) = S.low) (h2 : inv (ix2 0 q) = Ideal.div 1 (S.scale + Ideal.ofBits .f32 841731191#32))
    (h3 : w (ix2 d q) = S.row d) :
    quant r base inv w (ix2 d q) = S.code d := by
  pointwise [quant, over]
  rw [h1, h2, h3, hr, shrui_of_lt _ _ _ (by decide), ofBits_255]
  rfl

/-- The new codes of the four tiles. -/
def codeAt (j : Fin 4) : IVec S128x128 32 := match j with
  | 0 => quant L.r0 (row0 L.newBias) (row0 L.inv) L.new0 | 1 => quant L.r1 (row1 L.newBias) (row1 L.inv) L.new1
  | 2 => quant L.r2 (row2 L.newBias) (row2 L.inv) L.new2 | 3 => quant L.r3 (row3 L.newBias) (row3 L.inv) L.new3

theorem code_at (j : Fin 4) (q d : Fin 128) : L.codeAt j (ix2 d q) = (L.slot j q).code d := by
  have hb := L.newBias_at j q
  have hs := L.newScale_at j q
  have hw := L.new_at j q d
  have hi : L.inv (ix2 j q) = Ideal.div 1 ((L.slot j q).scale + Ideal.ofBits .f32 841731191#32) := by
    pointwise [inv, invOf]; rw [hs]
  fin_cases j <;> simp only [Fin.zero_eta, Fin.mk_one, Fin.reduceFinMk] at hb hs hw hi ⊢
  · exact quant_at _ _ _ _ _ q d rfl (by pointwise [row0]; exact hb) (by pointwise [row0]; exact hi) hw
  · exact quant_at _ _ _ _ _ q d rfl (by pointwise [row1]; exact hb) (by pointwise [row1]; exact hi) hw
  · exact quant_at _ _ _ _ _ q d rfl (by pointwise [row2]; exact hb) (by pointwise [row2]; exact hi) hw
  · exact quant_at _ _ _ _ _ q d rfl (by pointwise [row3]; exact hb) (by pointwise [row3]; exact hi) hw

theorem out_at (y : Fin 512) (d : Fin 128) (j : Fin 4) (q : Fin 128) (hy : y.val = 4 * q.val + j.val) :
    L.out (ix2 y d) = ((L.slot j q).code d).setWidth 8 := by
  have hj := j.isLt
  unfold out packOf
  rw [bytes_ix2 _ bitcasts_S128x128_w32_S512x128_w8 y d q (by omega)]
  pointwise
  have e := packed_byte .vector (fun k => L.codeAt k (ix2 d q)) (fun k => by rw [code_at]; exact Slot.code_lt _ _) j
  rw [show y.val % 4 = j.val by omega, ← code_at]
  exact e

end Loads

end Cert.KernelIdeal.Hand

end
-- ==== Proof.RefOps.lean ====
module

public import proofs.«01_k».proof.Proof.Gen.ReferenceIdeal
public import Idealize.ShloMosaic.Lib.Claim
public import Idealize.ShloMosaic.Lib.StableHlo.RunRead

@[expose] public section

set_option maxRecDepth 16384

noncomputable section

namespace Cert.ReferenceIdeal.Hand

open Cert.ReferenceIdeal.Gen
open Idealize.ShloMosaic Idealize.ShloMosaic.TcCoe Idealize.SL.Sem Idealize.ShloMosaic.StableHlo

variable {F : FTy → Type} [FloatOps F]

/-! # The reference's operations, in the order they run -/

/-- The operations that make the counts. -/
abbrev opsA : List (HloOp τ sig (Elt F)) := [
  StableHlo.reshape main_arg1 main_v0 (rfl : (.i32 : EltTy) = .i32) shapeCasts_S56x51200_S56x100x4x128,
  StableHlo.unary main_v0 main_v1 ((transpose S56x100x128x4 [0, 1, 3, 2] · transposes_S56x100x4x128_S56x100x128x4_0_1_3_2) : (⟨S56x100x4x128, .i32⟩ : BufTy).Contents (Elt F) → (⟨S56x100x128x4, .i32⟩ : BufTy).Contents (Elt F)),
  StableHlo.reshape main_v1 main_v2 (rfl : (.i32 : EltTy) = .i32) shapeCasts_S56x100x128x4_S56x51200,
  StableHlo.nullary main_c (constantI S_ 32 24#32),
  StableHlo.unary main_c main_v3 (broadcastInDim S56x51200 ![] bcast_S_S56x51200 : (⟨S_, .i32⟩ : BufTy).Contents (Elt F) → (⟨S56x51200, .i32⟩ : BufTy).Contents (Elt F)),
  StableHlo.binary main_v2 main_v3 main_v4 (Host.shli : (⟨S56x51200, .i32⟩ : BufTy).Contents (Elt F) → (⟨S56x51200, .i32⟩ : BufTy).Contents (Elt F) → (⟨S56x51200, .i32⟩ : BufTy).Contents (Elt F)),
  StableHlo.nullary main_c_0 (constantI S_ 32 24#32),
  StableHlo.unary main_c_0 main_v5 (broadcastInDim S56x51200 ![] bcast_S_S56x51200 : (⟨S_, .i32⟩ : BufTy).Contents (Elt F) → (⟨S56x51200, .i32⟩ : BufTy).Contents (Elt F)),
  StableHlo.binary main_v4 main_v5 main_v6 (Host.shrsi : (⟨S56x51200, .i32⟩ : BufTy).Contents (Elt F) → (⟨S56x51200, .i32⟩ : BufTy).Contents (Elt F) → (⟨S56x51200, .i32⟩ : BufTy).Contents (Elt F)),
  StableHlo.nullary main_c_1 (constantI S_ 32 16#32),
  StableHlo.unary main_c_1 main_v7 (broadcastInDim S56x51200 ![] bcast_S_S56x51200 : (⟨S_, .i32⟩ : BufTy).Contents (Elt F) → (⟨S56x51200, .i32⟩ : BufTy).Contents (Elt F)),
  StableHlo.binary main_v2 main_v7 main_v8 (Host.shli : (⟨S56x51200, .i32⟩ : BufTy).Contents (Elt F) → (⟨S56x51200, .i32⟩ : BufTy).Contents (Elt F) → (⟨S56x51200, .i32⟩ : BufTy).Contents (Elt F)),
  StableHlo.nullary main_c_2 (constantI S_ 32 24#32),
  StableHlo.unary main_c_2 main_v9 (broadcastInDim S56x51200 ![] bcast_S_S56x51200 : (⟨S_, .i32⟩ : BufTy).Contents (Elt F) → (⟨S56x51200, .i32⟩ : BufTy).Contents (Elt F)),
  StableHlo.binary main_v8 main_v9 main_v10 (Host.shrsi : (⟨S56x51200, .i32⟩ : BufTy).Contents (Elt F) → (⟨S56x51200, .i32⟩ : BufTy).Contents (Elt F) → (⟨S56x51200, .i32⟩ : BufTy).Contents (Elt F)),
  StableHlo.nullary main_c_3 (constantI S_ 32 8#32),
  StableHlo.unary main_c_3 main_v11 (broadcastInDim S56x51200 ![] bcast_S_S56x51200 : (⟨S_, .i32⟩ : BufTy).Contents (Elt F) → (⟨S56x51200, .i32⟩ : BufTy).Contents (Elt F)),
  StableHlo.binary main_v2 main_v11 main_v12 (Host.shli : (⟨S56x51200, .i32⟩ : BufTy).Contents (Elt F) → (⟨S56x51200, .i32⟩ : BufTy).Contents (Elt F) → (⟨S56x51200, .i32⟩ : BufTy).Contents (Elt F)),
  StableHlo.nullary main_c_4 (constantI S_ 32 24#32),
  StableHlo.unary main_c_4 main_v13 (broadcastInDim S56x51200 ![] bcast_S_S56x51200 : (⟨S_, .i32⟩ : BufTy).Contents (Elt F) → (⟨S56x51200, .i32⟩ : BufTy).Contents (Elt F)),
  StableHlo.binary main_v12 main_v13 main_v14 (Host.shrsi : (⟨S56x51200, .i32⟩ : BufTy).Contents (Elt F) → (⟨S56x51200, .i32⟩ : BufTy).Contents (Elt F) → (⟨S56x51200, .i32⟩ : BufTy).Contents (Elt F)),
  StableHlo.nullary main_c_5 (constantI S_ 32 0#32),
  StableHlo.unary main_c_5 main_v15 (broadcastInDim S56x51200 ![] bcast_S_S56x51200 : (⟨S_, .i32⟩ : BufTy).Contents (Elt F) → (⟨S56x51200, .i32⟩ : BufTy).Contents (Elt F)),
  StableHlo.binary main_v2 main_v15 main_v16 (Host.shli : (⟨S56x51200, .i32⟩ : BufTy).Contents (Elt F) → (⟨S56x51200, .i32⟩ : BufTy).Contents (Elt F) → (⟨S56x51200, .i32⟩ : BufTy).Contents (Elt F)),
  StableHlo.nullary main_c_6 (constantI S_ 32 24#32),
  StableHlo.unary main_c_6 main_v17 (broadcastInDim S56x51200 ![] bcast_S_S56x51200 : (⟨S_, .i32⟩ : BufTy).Contents (Elt F) → (⟨S56x51200, .i32⟩ : BufTy).Contents (Elt F)),
  StableHlo.binary main_v16 main_v17 main_v18 (Host.shrsi : (⟨S56x51200, .i32⟩ : BufTy).Contents (Elt F) → (⟨S56x51200, .i32⟩ : BufTy).Contents (Elt F) → (⟨S56x51200, .i32⟩ : BufTy).Contents (Elt F)),
  StableHlo.unary main_v6 main_v19 (broadcastInDim S56x1x51200 ![0, 2] bcast_S56x51200_S56x1x51200_0_2 : (⟨S56x51200, .i32⟩ : BufTy).Contents (Elt F) → (⟨S56x1x51200, .i32⟩ : BufTy).Contents (Elt F)),
  StableHlo.unary main_v10 main_v20 (broadcastInDim S56x1x51200 ![0, 2] bcast_S56x51200_S56x1x51200_0_2 : (⟨S56x51200, .i32⟩ : BufTy).Contents (Elt F) → (⟨S56x1x51200, .i32⟩ : BufTy).Contents (Elt F)),
  StableHlo.unary main_v14 main_v21 (broadcastInDim S56x1x51200 ![0, 2] bcast_S56x51200_S56x1x51200_0_2 : (⟨S56x51200, .i32⟩ : BufTy).Contents (Elt F) → (⟨S56x1x51200, .i32⟩ : BufTy).Contents (Elt F)),
  StableHlo.unary main_v18 main_v22 (broadcastInDim S56x1x51200 ![0, 2] bcast_S56x51200_S56x1x51200_0_2 : (⟨S56x51200, .i32⟩ : BufTy).Contents (Elt F) → (⟨S56x1x51200, .i32⟩ : BufTy).Contents (Elt F)),
  StableHlo.nary ![main_v19, main_v20, main_v21, main_v22] main_v23 (fun u => (concatenate S56x4x51200 1 [⟨S56x1x51200, (u 0 : (⟨S56x1x51200, .i32⟩ : BufTy).Contents (Elt F))⟩, ⟨S56x1x51200, (u 1 : (⟨S56x1x51200, .i32⟩ : BufTy).Contents (Elt F))⟩, ⟨S56x1x51200, (u 2 : (⟨S56x1x51200, .i32⟩ : BufTy).Contents (Elt F))⟩, ⟨S56x1x51200, (u 3 : (⟨S56x1x51200, .i32⟩ : BufTy).Contents (Elt F))⟩] concatenates_S56x1x51200_S56x1x51200_S56x1x51200_S56x1x51200_S56x4x51200_d1 : (⟨S56x4x51200, .i32⟩ : BufTy).Contents (Elt F))),
  StableHlo.reshape main_v23 main_v24 (rfl : (.i32 : EltTy) = .i32) shapeCasts_S56x4x51200_S224x51200]

/-- The operations that make the gradients. -/
abbrev opsB : List (HloOp τ sig (Elt F)) := [
  StableHlo.unary main_arg2 main_v25 ((extf .f32 · bitsLt_bf16_f32) : (⟨S384x224, .bf16⟩ : BufTy).Contents (Elt F) → (⟨S384x224, .f32⟩ : BufTy).Contents (Elt F)),
  StableHlo.unary main_v24 main_v26 (sitofp .f32 : (⟨S224x51200, .i32⟩ : BufTy).Contents (Elt F) → (⟨S224x51200, .f32⟩ : BufTy).Contents (Elt F)),
  StableHlo.binary main_v25 main_v26 main_v27 ((fun l r => Host.dotGeneral dot_S384x224_S224x51200_S384x51200_1_0_0_1_n_n none l r) : (⟨S384x224, .f32⟩ : BufTy).Contents (Elt F) → (⟨S224x51200, .f32⟩ : BufTy).Contents (Elt F) → (⟨S384x51200, .f32⟩ : BufTy).Contents (Elt F)),
  StableHlo.unary main_v27 main_v28 ((extractStridedSlice S128x51200 ![0, 0] · slices_S384x51200_S128x51200_0_0) : (⟨S384x51200, .f32⟩ : BufTy).Contents (Elt F) → (⟨S128x51200, .f32⟩ : BufTy).Contents (Elt F)),
  StableHlo.unary main_v27 main_v29 ((extractStridedSlice S128x51200 ![128, 0] · slices_S384x51200_S128x51200_128_0) : (⟨S384x51200, .f32⟩ : BufTy).Contents (Elt F) → (⟨S128x51200, .f32⟩ : BufTy).Contents (Elt F)),
  StableHlo.binary main_v28 main_v29 main_v30 (addf : (⟨S128x51200, .f32⟩ : BufTy).Contents (Elt F) → (⟨S128x51200, .f32⟩ : BufTy).Contents (Elt F) → (⟨S128x51200, .f32⟩ : BufTy).Contents (Elt F)),
  StableHlo.unary main_v27 main_v31 ((extractStridedSlice S128x51200 ![256, 0] · slices_S384x51200_S128x51200_256_0) : (⟨S384x51200, .f32⟩ : BufTy).Contents (Elt F) → (⟨S128x51200, .f32⟩ : BufTy).Contents (Elt F)),
  StableHlo.binary main_v30 main_v31 main_v32 (addf : (⟨S128x51200, .f32⟩ : BufTy).Contents (Elt F) → (⟨S128x51200, .f32⟩ : BufTy).Contents (Elt F) → (⟨S128x51200, .f32⟩ : BufTy).Contents (Elt F)),
  StableHlo.unary main_v32 main_v33 ((transpose S51200x128 [1, 0] · transposes_S128x51200_S51200x128_1_0) : (⟨S128x51200, .f32⟩ : BufTy).Contents (Elt F) → (⟨S51200x128, .f32⟩ : BufTy).Contents (Elt F))]

/-- The operations that make the old codes. -/
abbrev opsC : List (HloOp τ sig (Elt F)) := [
  StableHlo.nullary main_c_7 (constantI S_ 32 0#32),
  StableHlo.unary main_c_7 main_v34 (broadcastInDim S12800x128 ![] bcast_S_S12800x128 : (⟨S_, .i32⟩ : BufTy).Contents (Elt F) → (⟨S12800x128, .i32⟩ : BufTy).Contents (Elt F)),
  StableHlo.binary main_arg3 main_v34 main_v35 (Host.shrsi : (⟨S12800x128, .i32⟩ : BufTy).Contents (Elt F) → (⟨S12800x128, .i32⟩ : BufTy).Contents (Elt F) → (⟨S12800x128, .i32⟩ : BufTy).Contents (Elt F)),
  StableHlo.nullary main_c_8 (constantI S_ 32 255#32),
  StableHlo.unary main_c_8 main_v36 (broadcastInDim S12800x128 ![] bcast_S_S12800x128 : (⟨S_, .i32⟩ : BufTy).Contents (Elt F) → (⟨S12800x128, .i32⟩ : BufTy).Contents (Elt F)),
  StableHlo.binary main_v35 main_v36 main_v37 (andi : (⟨S12800x128, .i32⟩ : BufTy).Contents (Elt F) → (⟨S12800x128, .i32⟩ : BufTy).Contents (Elt F) → (⟨S12800x128, .i32⟩ : BufTy).Contents (Elt F)),
  StableHlo.nullary main_c_9 (constantI S_ 32 8#32),
  StableHlo.unary main_c_9 main_v38 (broadcastInDim S12800x128 ![] bcast_S_S12800x128 : (⟨S_, .i32⟩ : BufTy).Contents (Elt F) → (⟨S12800x128, .i32⟩ : BufTy).Contents (Elt F)),
  StableHlo.binary main_arg3 main_v38 main_v39 (Host.shrsi : (⟨S12800x128, .i32⟩ : BufTy).Contents (Elt F) → (⟨S12800x128, .i32⟩ : BufTy).Contents (Elt F) → (⟨S12800x128, .i32⟩ : BufTy).Contents (Elt F)),
  StableHlo.nullary main_c_10 (constantI S_ 32 255#32),
  StableHlo.unary main_c_10 main_v40 (broadcastInDim S12800x128 ![] bcast_S_S12800x128 : (⟨S_, .i32⟩ : BufTy).Contents (Elt F) → (⟨S12800x128, .i32⟩ : BufTy).Contents (Elt F)),
  StableHlo.binary main_v39 main_v40 main_v41 (andi : (⟨S12800x128, .i32⟩ : BufTy).Contents (Elt F) → (⟨S12800x128, .i32⟩ : BufTy).Contents (Elt F) → (⟨S12800x128, .i32⟩ : BufTy).Contents (Elt F)),
  StableHlo.nullary main_c_11 (constantI S_ 32 16#32),
  StableHlo.unary main_c_11 main_v42 (broadcastInDim S12800x128 ![] bcast_S_S12800x128 : (⟨S_, .i32⟩ : BufTy).Contents (Elt F) → (⟨S12800x128, .i32⟩ : BufTy).Contents (Elt F)),
  StableHlo.binary main_arg3 main_v42 main_v43 (Host.shrsi : (⟨S12800x128, .i32⟩ : BufTy).Contents (Elt F) → (⟨S12800x128, .i32⟩ : BufTy).Contents (Elt F) → (⟨S12800x128, .i32⟩ : BufTy).Contents (Elt F)),
  StableHlo.nullary main_c_12 (constantI S_ 32 255#32),
  StableHlo.unary main_c_12 main_v44 (broadcastInDim S12800x128 ![] bcast_S_S12800x128 : (⟨S_, .i32⟩ : BufTy).Contents (Elt F) → (⟨S12800x128, .i32⟩ : BufTy).Contents (Elt F)),
  StableHlo.binary main_v43 main_v44 main_v45 (andi : (⟨S12800x128, .i32⟩ : BufTy).Contents (Elt F) → (⟨S12800x128, .i32⟩ : BufTy).Contents (Elt F) → (⟨S12800x128, .i32⟩ : BufTy).Contents (Elt F)),
  StableHlo.nullary main_c_13 (constantI S_ 32 24#32),
  StableHlo.unary main_c_13 main_v46 (broadcastInDim S12800x128 ![] bcast_S_S12800x128 : (⟨S_, .i32⟩ : BufTy).Contents (Elt F) → (⟨S12800x128, .i32⟩ : BufTy).Contents (Elt F)),
  StableHlo.binary main_arg3 main_v46 main_v47 (Host.shrsi : (⟨S12800x128, .i32⟩ : BufTy).Contents (Elt F) → (⟨S12800x128, .i32⟩ : BufTy).Contents (Elt F) → (⟨S12800x128, .i32⟩ : BufTy).Contents (Elt F)),
  StableHlo.nullary main_c_14 (constantI S_ 32 255#32),
  StableHlo.unary main_c_14 main_v48 (broadcastInDim S12800x128 ![] bcast_S_S12800x128 : (⟨S_, .i32⟩ : BufTy).Contents (Elt F) → (⟨S12800x128, .i32⟩ : BufTy).Contents (Elt F)),
  StableHlo.binary main_v47 main_v48 main_v49 (andi : (⟨S12800x128, .i32⟩ : BufTy).Contents (Elt F) → (⟨S12800x128, .i32⟩ : BufTy).Contents (Elt F) → (⟨S12800x128, .i32⟩ : BufTy).Contents (Elt F)),
  StableHlo.unary main_v37 main_v50 (broadcastInDim S12800x1x128 ![0, 2] bcast_S12800x128_S12800x1x128_0_2 : (⟨S12800x128, .i32⟩ : BufTy).Contents (Elt F) → (⟨S12800x1x128, .i32⟩ : BufTy).Contents (Elt F)),
  StableHlo.unary main_v41 main_v51 (broadcastInDim S12800x1x128 ![0, 2] bcast_S12800x128_S12800x1x128_0_2 : (⟨S12800x128, .i32⟩ : BufTy).Contents (Elt F) → (⟨S12800x1x128, .i32⟩ : BufTy).Contents (Elt F)),
  StableHlo.unary main_v45 main_v52 (broadcastInDim S12800x1x128 ![0, 2] bcast_S12800x128_S12800x1x128_0_2 : (⟨S12800x128, .i32⟩ : BufTy).Contents (Elt F) → (⟨S12800x1x128, .i32⟩ : BufTy).Contents (Elt F)),
  StableHlo.unary main_v49 main_v53 (broadcastInDim S12800x1x128 ![0, 2] bcast_S12800x128_S12800x1x128_0_2 : (⟨S12800x128, .i32⟩ : BufTy).Contents (Elt F) → (⟨S12800x1x128, .i32⟩ : BufTy).Contents (Elt F)),
  StableHlo.nary ![main_v50, main_v51, main_v52, main_v53] main_v54 (fun u => (concatenate S12800x4x128 1 [⟨S12800x1x128, (u 0 : (⟨S12800x1x128, .i32⟩ : BufTy).Contents (Elt F))⟩, ⟨S12800x1x128, (u 1 : (⟨S12800x1x128, .i32⟩ : BufTy).Contents (Elt F))⟩, ⟨S12800x1x128, (u 2 : (⟨S12800x1x128, .i32⟩ : BufTy).Contents (Elt F))⟩, ⟨S12800x1x128, (u 3 : (⟨S12800x1x128, .i32⟩ : BufTy).Contents (Elt F))⟩] concatenates_S12800x1x128_S12800x1x128_S12800x1x128_S12800x1x128_S12800x4x128_d1 : (⟨S12800x4x128, .i32⟩ : BufTy).Contents (Elt F))),
  StableHlo.reshape main_v54 main_v55 (rfl : (.i32 : EltTy) = .i32) shapeCasts_S12800x4x128_S51200x128]

/-- The operations that make the packed qparams and the scales. -/
abbrev opsD : List (HloOp τ sig (Elt F)) := [
  StableHlo.reshape main_arg4 main_v56 (rfl : (.i32 : EltTy) = .i32) shapeCasts_S400x128_S4x100x128,
  StableHlo.unary main_v56 main_v57 ((transpose S100x128x4 [1, 2, 0] · transposes_S4x100x128_S100x128x4_1_2_0) : (⟨S4x100x128, .i32⟩ : BufTy).Contents (Elt F) → (⟨S100x128x4, .i32⟩ : BufTy).Contents (Elt F)),
  StableHlo.reshape main_v57 main_v58 (rfl : (.i32 : EltTy) = .i32) shapeCasts_S100x128x4_S51200,
  StableHlo.nullary main_c_15 (constantI S_ 32 15#32),
  StableHlo.unary main_c_15 main_v59 (broadcastInDim S51200 ![] bcast_S_S51200 : (⟨S_, .i32⟩ : BufTy).Contents (Elt F) → (⟨S51200, .i32⟩ : BufTy).Contents (Elt F)),
  StableHlo.binary main_v58 main_v59 main_v60 (Host.shrsi : (⟨S51200, .i32⟩ : BufTy).Contents (Elt F) → (⟨S51200, .i32⟩ : BufTy).Contents (Elt F) → (⟨S51200, .i32⟩ : BufTy).Contents (Elt F)),
  StableHlo.nullary main_c_16 (constantI S_ 32 1#32),
  StableHlo.unary main_c_16 main_v61 (broadcastInDim S51200 ![] bcast_S_S51200 : (⟨S_, .i32⟩ : BufTy).Contents (Elt F) → (⟨S51200, .i32⟩ : BufTy).Contents (Elt F)),
  StableHlo.binary main_v60 main_v61 main_v62 (andi : (⟨S51200, .i32⟩ : BufTy).Contents (Elt F) → (⟨S51200, .i32⟩ : BufTy).Contents (Elt F) → (⟨S51200, .i32⟩ : BufTy).Contents (Elt F)),
  StableHlo.nullary main_c_17 (constantI S_ 32 10#32),
  StableHlo.unary main_c_17 main_v63 (broadcastInDim S51200 ![] bcast_S_S51200 : (⟨S_, .i32⟩ : BufTy).Contents (Elt F) → (⟨S51200, .i32⟩ : BufTy).Contents (Elt F)),
  StableHlo.binary main_v58 main_v63 main_v64 (Host.shrsi : (⟨S51200, .i32⟩ : BufTy).Contents (Elt F) → (⟨S51200, .i32⟩ : BufTy).Contents (Elt F) → (⟨S51200, .i32⟩ : BufTy).Contents (Elt F)),
  StableHlo.nullary main_c_18 (constantI S_ 32 31#32),
  StableHlo.unary main_c_18 main_v65 (broadcastInDim S51200 ![] bcast_S_S51200 : (⟨S_, .i32⟩ : BufTy).Contents (Elt F) → (⟨S51200, .i32⟩ : BufTy).Contents (Elt F)),
  StableHlo.binary main_v64 main_v65 main_v66 (andi : (⟨S51200, .i32⟩ : BufTy).Contents (Elt F) → (⟨S51200, .i32⟩ : BufTy).Contents (Elt F) → (⟨S51200, .i32⟩ : BufTy).Contents (Elt F)),
  StableHlo.nullary main_c_19 (constantI S_ 32 1023#32),
  StableHlo.unary main_c_19 main_v67 (broadcastInDim S51200 ![] bcast_S_S51200 : (⟨S_, .i32⟩ : BufTy).Contents (Elt F) → (⟨S51200, .i32⟩ : BufTy).Contents (Elt F)),
  StableHlo.binary main_v58 main_v67 main_v68 (andi : (⟨S51200, .i32⟩ : BufTy).Contents (Elt F) → (⟨S51200, .i32⟩ : BufTy).Contents (Elt F) → (⟨S51200, .i32⟩ : BufTy).Contents (Elt F)),
  StableHlo.unary main_v68 main_v69 (sitofp .f32 : (⟨S51200, .i32⟩ : BufTy).Contents (Elt F) → (⟨S51200, .f32⟩ : BufTy).Contents (Elt F)),
  StableHlo.nullary main_cst (constant S_ .f32 0x33800000#32),
  StableHlo.unary main_cst main_v70 (broadcastInDim S51200 ![] bcast_S_S51200 : (⟨S_, .f32⟩ : BufTy).Contents (Elt F) → (⟨S51200, .f32⟩ : BufTy).Contents (Elt F)),
  StableHlo.binary main_v69 main_v70 main_v71 (mulf : (⟨S51200, .f32⟩ : BufTy).Contents (Elt F) → (⟨S51200, .f32⟩ : BufTy).Contents (Elt F) → (⟨S51200, .f32⟩ : BufTy).Contents (Elt F)),
  StableHlo.nullary main_cst_20 (constant S_ .f32 0x44800000#32),
  StableHlo.unary main_cst_20 main_v72 (broadcastInDim S51200 ![] bcast_S_S51200 : (⟨S_, .f32⟩ : BufTy).Contents (Elt F) → (⟨S51200, .f32⟩ : BufTy).Contents (Elt F)),
  StableHlo.binary main_v72 main_v69 main_v73 (addf : (⟨S51200, .f32⟩ : BufTy).Contents (Elt F) → (⟨S51200, .f32⟩ : BufTy).Contents (Elt F) → (⟨S51200, .f32⟩ : BufTy).Contents (Elt F)),
  StableHlo.nullary main_c_21 (constantI S_ 32 1#32),
  StableHlo.unary main_c_21 main_v74 (broadcastInDim S51200 ![] bcast_S_S51200 : (⟨S_, .i32⟩ : BufTy).Contents (Elt F) → (⟨S51200, .i32⟩ : BufTy).Contents (Elt F)),
  StableHlo.binary main_v66 main_v74 main_v75 (subi : (⟨S51200, .i32⟩ : BufTy).Contents (Elt F) → (⟨S51200, .i32⟩ : BufTy).Contents (Elt F) → (⟨S51200, .i32⟩ : BufTy).Contents (Elt F)),
  StableHlo.nullary main_c_22 (constantI S_ 32 1#32),
  StableHlo.unary main_c_22 main_v76 (broadcastInDim S51200 ![] bcast_S_S51200 : (⟨S_, .i32⟩ : BufTy).Contents (Elt F) → (⟨S51200, .i32⟩ : BufTy).Contents (Elt F)),
  StableHlo.binary main_v76 main_v75 main_v77 (Host.shli : (⟨S51200, .i32⟩ : BufTy).Contents (Elt F) → (⟨S51200, .i32⟩ : BufTy).Contents (Elt F) → (⟨S51200, .i32⟩ : BufTy).Contents (Elt F)),
  StableHlo.unary main_v77 main_v78 (sitofp .f32 : (⟨S51200, .i32⟩ : BufTy).Contents (Elt F) → (⟨S51200, .f32⟩ : BufTy).Contents (Elt F)),
  StableHlo.binary main_v73 main_v78 main_v79 (mulf : (⟨S51200, .f32⟩ : BufTy).Contents (Elt F) → (⟨S51200, .f32⟩ : BufTy).Contents (Elt F) → (⟨S51200, .f32⟩ : BufTy).Contents (Elt F)),
  StableHlo.nullary main_cst_23 (constant S_ .f32 0x33800000#32),
  StableHlo.unary main_cst_23 main_v80 (broadcastInDim S51200 ![] bcast_S_S51200 : (⟨S_, .f32⟩ : BufTy).Contents (Elt F) → (⟨S51200, .f32⟩ : BufTy).Contents (Elt F)),
  StableHlo.binary main_v79 main_v80 main_v81 (mulf : (⟨S51200, .f32⟩ : BufTy).Contents (Elt F) → (⟨S51200, .f32⟩ : BufTy).Contents (Elt F) → (⟨S51200, .f32⟩ : BufTy).Contents (Elt F)),
  StableHlo.nullary main_c_24 (constantI S_ 32 1023#32),
  StableHlo.unary main_c_24 main_v82 (broadcastInDim S51200 ![] bcast_S_S51200 : (⟨S_, .i32⟩ : BufTy).Contents (Elt F) → (⟨S51200, .i32⟩ : BufTy).Contents (Elt F)),
  StableHlo.binary main_v58 main_v82 main_v83 (andi : (⟨S51200, .i32⟩ : BufTy).Contents (Elt F) → (⟨S51200, .i32⟩ : BufTy).Contents (Elt F) → (⟨S51200, .i32⟩ : BufTy).Contents (Elt F)),
  StableHlo.nullary main_c_25 (constantI S_ 32 0#32),
  StableHlo.unary main_c_25 main_v84 (broadcastInDim S51200 ![] bcast_S_S51200 : (⟨S_, .i32⟩ : BufTy).Contents (Elt F) → (⟨S51200, .i32⟩ : BufTy).Contents (Elt F)),
  StableHlo.binary main_v83 main_v84 main_v85 (cmpi .eq : (⟨S51200, .i32⟩ : BufTy).Contents (Elt F) → (⟨S51200, .i32⟩ : BufTy).Contents (Elt F) → (⟨S51200, .i1⟩ : BufTy).Contents (Elt F)),
  StableHlo.nullary main_cst_26 (constant S_ .f32 0x7F800000#32),
  StableHlo.nullary main_cst_27 (constant S_ .f32 0x7FC00000#32),
  StableHlo.TRef.unary (.of main_cst_26 : StableHlo.TRef sig ⟨S_, .f32⟩) main_call0.v0 (broadcastInDim S51200 ![] bcast_S_S51200),
  StableHlo.TRef.unary (.of main_cst_27 : StableHlo.TRef sig ⟨S_, .f32⟩) main_call0.v1 (broadcastInDim S51200 ![] bcast_S_S51200),
  StableHlo.TRef.ternary (.of main_v85 : StableHlo.TRef sig ⟨S51200, .i1⟩) main_call0.v0 main_call0.v1 main_call0.v2 select,
  StableHlo.nullary main_c_28 (constantI S_ 32 0#32),
  StableHlo.unary main_c_28 main_v87 (broadcastInDim S51200 ![] bcast_S_S51200 : (⟨S_, .i32⟩ : BufTy).Contents (Elt F) → (⟨S51200, .i32⟩ : BufTy).Contents (Elt F)),
  StableHlo.binary main_v66 main_v87 main_v88 (cmpi .eq : (⟨S51200, .i32⟩ : BufTy).Contents (Elt F) → (⟨S51200, .i32⟩ : BufTy).Contents (Elt F) → (⟨S51200, .i1⟩ : BufTy).Contents (Elt F)),
  StableHlo.nullary main_c_29 (constantI S_ 32 31#32),
  StableHlo.unary main_c_29 main_v89 (broadcastInDim S51200 ![] bcast_S_S51200 : (⟨S_, .i32⟩ : BufTy).Contents (Elt F) → (⟨S51200, .i32⟩ : BufTy).Contents (Elt F)),
  StableHlo.binary main_v66 main_v89 main_v90 (cmpi .eq : (⟨S51200, .i32⟩ : BufTy).Contents (Elt F) → (⟨S51200, .i32⟩ : BufTy).Contents (Elt F) → (⟨S51200, .i1⟩ : BufTy).Contents (Elt F)),
  StableHlo.TRef.unary (.of main_v86 : StableHlo.TRef sig ⟨S51200, .f32⟩) main_call1.v0 id,
  StableHlo.TRef.ternary (.of main_v90 : StableHlo.TRef sig ⟨S51200, .i1⟩) main_call1.v0 (.of main_v81 : StableHlo.TRef sig ⟨S51200, .f32⟩) main_call1.v1 select,
  StableHlo.TRef.ternary (.of main_v88 : StableHlo.TRef sig ⟨S51200, .i1⟩) (.of main_v71 : StableHlo.TRef sig ⟨S51200, .f32⟩) (.of main_v91 : StableHlo.TRef sig ⟨S51200, .f32⟩) main_call2.v0 select,
  StableHlo.nullary main_c_30 (constantI S_ 32 1#32),
  StableHlo.unary main_c_30 main_v93 (broadcastInDim S51200 ![] bcast_S_S51200 : (⟨S_, .i32⟩ : BufTy).Contents (Elt F) → (⟨S51200, .i32⟩ : BufTy).Contents (Elt F)),
  StableHlo.binary main_v62 main_v93 main_v94 (cmpi .eq : (⟨S51200, .i32⟩ : BufTy).Contents (Elt F) → (⟨S51200, .i32⟩ : BufTy).Contents (Elt F) → (⟨S51200, .i1⟩ : BufTy).Contents (Elt F)),
  StableHlo.unary main_v92 main_v95 (Host.negf : (⟨S51200, .f32⟩ : BufTy).Contents (Elt F) → (⟨S51200, .f32⟩ : BufTy).Contents (Elt F)),
  StableHlo.TRef.ternary (.of main_v94 : StableHlo.TRef sig ⟨S51200, .i1⟩) (.of main_v95 : StableHlo.TRef sig ⟨S51200, .f32⟩) (.of main_v92 : StableHlo.TRef sig ⟨S51200, .f32⟩) main_call3.v0 select]

/-- The operations that make the biases. -/
abbrev opsE : List (HloOp τ sig (Elt F)) := [
  StableHlo.nullary main_c_31 (constantI S_ 32 16#32),
  StableHlo.unary main_c_31 main_v97 (broadcastInDim S51200 ![] bcast_S_S51200 : (⟨S_, .i32⟩ : BufTy).Contents (Elt F) → (⟨S51200, .i32⟩ : BufTy).Contents (Elt F)),
  StableHlo.binary main_v58 main_v97 main_v98 (Host.shrsi : (⟨S51200, .i32⟩ : BufTy).Contents (Elt F) → (⟨S51200, .i32⟩ : BufTy).Contents (Elt F) → (⟨S51200, .i32⟩ : BufTy).Contents (Elt F)),
  StableHlo.nullary main_c_32 (constantI S_ 32 15#32),
  StableHlo.unary main_c_32 main_v99 (broadcastInDim S51200 ![] bcast_S_S51200 : (⟨S_, .i32⟩ : BufTy).Contents (Elt F) → (⟨S51200, .i32⟩ : BufTy).Contents (Elt F)),
  StableHlo.binary main_v98 main_v99 main_v100 (Host.shrsi : (⟨S51200, .i32⟩ : BufTy).Contents (Elt F) → (⟨S51200, .i32⟩ : BufTy).Contents (Elt F) → (⟨S51200, .i32⟩ : BufTy).Contents (Elt F)),
  StableHlo.nullary main_c_33 (constantI S_ 32 1#32),
  StableHlo.unary main_c_33 main_v101 (broadcastInDim S51200 ![] bcast_S_S51200 : (⟨S_, .i32⟩ : BufTy).Contents (Elt F) → (⟨S51200, .i32⟩ : BufTy).Contents (Elt F)),
  StableHlo.binary main_v100 main_v101 main_v102 (andi : (⟨S51200, .i32⟩ : BufTy).Contents (Elt F) → (⟨S51200, .i32⟩ : BufTy).Contents (Elt F) → (⟨S51200, .i32⟩ : BufTy).Contents (Elt F)),
  StableHlo.nullary main_c_34 (constantI S_ 32 10#32),
  StableHlo.unary main_c_34 main_v103 (broadcastInDim S51200 ![] bcast_S_S51200 : (⟨S_, .i32⟩ : BufTy).Contents (Elt F) → (⟨S51200, .i32⟩ : BufTy).Contents (Elt F)),
  StableHlo.binary main_v98 main_v103 main_v104 (Host.shrsi : (⟨S51200, .i32⟩ : BufTy).Contents (Elt F) → (⟨S51200, .i32⟩ : BufTy).Contents (Elt F) → (⟨S51200, .i32⟩ : BufTy).Contents (Elt F)),
  StableHlo.nullary main_c_35 (constantI S_ 32 31#32),
  StableHlo.unary main_c_35 main_v105 (broadcastInDim S51200 ![] bcast_S_S51200 : (⟨S_, .i32⟩ : BufTy).Contents (Elt F) → (⟨S51200, .i32⟩ : BufTy).Contents (Elt F)),
  StableHlo.binary main_v104 main_v105 main_v106 (andi : (⟨S51200, .i32⟩ : BufTy).Contents (Elt F) → (⟨S51200, .i32⟩ : BufTy).Contents (Elt F) → (⟨S51200, .i32⟩ : BufTy).Contents (Elt F)),
  StableHlo.nullary main_c_36 (constantI S_ 32 1023#32),
  StableHlo.unary main_c_36 main_v107 (broadcastInDim S51200 ![] bcast_S_S51200 : (⟨S_, .i32⟩ : BufTy).Contents (Elt F) → (⟨S51200, .i32⟩ : BufTy).Contents (Elt F)),
  StableHlo.binary main_v98 main_v107 main_v108 (andi : (⟨S51200, .i32⟩ : BufTy).Contents (Elt F) → (⟨S51200, .i32⟩ : BufTy).Contents (Elt F) → (⟨S51200, .i32⟩ : BufTy).Contents (Elt F)),
  StableHlo.unary main_v108 main_v109 (sitofp .f32 : (⟨S51200, .i32⟩ : BufTy).Contents (Elt F) → (⟨S51200, .f32⟩ : BufTy).Contents (Elt F)),
  StableHlo.nullary main_cst_37 (constant S_ .f32 0x33800000#32),
  StableHlo.unary main_cst_37 main_v110 (broadcastInDim S51200 ![] bcast_S_S51200 : (⟨S_, .f32⟩ : BufTy).Contents (Elt F) → (⟨S51200, .f32⟩ : BufTy).Contents (Elt F)),
  StableHlo.binary main_v109 main_v110 main_v111 (mulf : (⟨S51200, .f32⟩ : BufTy).Contents (Elt F) → (⟨S51200, .f32⟩ : BufTy).Contents (Elt F) → (⟨S51200, .f32⟩ : BufTy).Contents (Elt F)),
  StableHlo.nullary main_cst_38 (constant S_ .f32 0x44800000#32),
  StableHlo.unary main_cst_38 main_v112 (broadcastInDim S51200 ![] bcast_S_S51200 : (⟨S_, .f32⟩ : BufTy).Contents (Elt F) → (⟨S51200, .f32⟩ : BufTy).Contents (Elt F)),
  StableHlo.binary main_v112 main_v109 main_v113 (addf : (⟨S51200, .f32⟩ : BufTy).Contents (Elt F) → (⟨S51200, .f32⟩ : BufTy).Contents (Elt F) → (⟨S51200, .f32⟩ : BufTy).Contents (Elt F)),
  StableHlo.nullary main_c_39 (constantI S_ 32 1#32),
  StableHlo.unary main_c_39 main_v114 (broadcastInDim S51200 ![] bcast_S_S51200 : (⟨S_, .i32⟩ : BufTy).Contents (Elt F) → (⟨S51200, .i32⟩ : BufTy).Contents (Elt F)),
  StableHlo.binary main_v106 main_v114 main_v115 (subi : (⟨S51200, .i32⟩ : BufTy).Contents (Elt F) → (⟨S51200, .i32⟩ : BufTy).Contents (Elt F) → (⟨S51200, .i32⟩ : BufTy).Contents (Elt F)),
  StableHlo.nullary main_c_40 (constantI S_ 32 1#32),
  StableHlo.unary main_c_40 main_v116 (broadcastInDim S51200 ![] bcast_S_S51200 : (⟨S_, .i32⟩ : BufTy).Contents (Elt F) → (⟨S51200, .i32⟩ : BufTy).Contents (Elt F)),
  StableHlo.binary main_v116 main_v115 main_v117 (Host.shli : (⟨S51200, .i32⟩ : BufTy).Contents (Elt F) → (⟨S51200, .i32⟩ : BufTy).Contents (Elt F) → (⟨S51200, .i32⟩ : BufTy).Contents (Elt F)),
  StableHlo.unary main_v117 main_v118 (sitofp .f32 : (⟨S51200, .i32⟩ : BufTy).Contents (Elt F) → (⟨S51200, .f32⟩ : BufTy).Contents (Elt F)),
  StableHlo.binary main_v113 main_v118 main_v119 (mulf : (⟨S51200, .f32⟩ : BufTy).Contents (Elt F) → (⟨S51200, .f32⟩ : BufTy).Contents (Elt F) → (⟨S51200, .f32⟩ : BufTy).Contents (Elt F)),
  StableHlo.nullary main_cst_41 (constant S_ .f32 0x33800000#32),
  StableHlo.unary main_cst_41 main_v120 (broadcastInDim S51200 ![] bcast_S_S51200 : (⟨S_, .f32⟩ : BufTy).Contents (Elt F) → (⟨S51200, .f32⟩ : BufTy).Contents (Elt F)),
  StableHlo.binary main_v119 main_v120 main_v121 (mulf : (⟨S51200, .f32⟩ : BufTy).Contents (Elt F) → (⟨S51200, .f32⟩ : BufTy).Contents (Elt F) → (⟨S51200, .f32⟩ : BufTy).Contents (Elt F)),
  StableHlo.nullary main_c_42 (constantI S_ 32 1023#32),
  StableHlo.unary main_c_42 main_v122 (broadcastInDim S51200 ![] bcast_S_S51200 : (⟨S_, .i32⟩ : BufTy).Contents (Elt F) → (⟨S51200, .i32⟩ : BufTy).Contents (Elt F)),
  StableHlo.binary main_v98 main_v122 main_v123 (andi : (⟨S51200, .i32⟩ : BufTy).Contents (Elt F) → (⟨S51200, .i32⟩ : BufTy).Contents (Elt F) → (⟨S51200, .i32⟩ : BufTy).Contents (Elt F)),
  StableHlo.nullary main_c_43 (constantI S_ 32 0#32),
  StableHlo.unary main_c_43 main_v124 (broadcastInDim S51200 ![] bcast_S_S51200 : (⟨S_, .i32⟩ : BufTy).Contents (Elt F) → (⟨S51200, .i32⟩ : BufTy).Contents (Elt F)),
  StableHlo.binary main_v123 main_v124 main_v125 (cmpi .eq : (⟨S51200, .i32⟩ : BufTy).Contents (Elt F) → (⟨S51200, .i32⟩ : BufTy).Contents (Elt F) → (⟨S51200, .i1⟩ : BufTy).Contents (Elt F)),
  StableHlo.nullary main_cst_44 (constant S_ .f32 0x7F800000#32),
  StableHlo.nullary main_cst_45 (constant S_ .f32 0x7FC00000#32),
  StableHlo.TRef.unary (.of main_cst_44 : StableHlo.TRef sig ⟨S_, .f32⟩) main_call4.v0 (broadcastInDim S51200 ![] bcast_S_S51200),
  StableHlo.TRef.unary (.of main_cst_45 : StableHlo.TRef sig ⟨S_, .f32⟩) main_call4.v1 (broadcastInDim S51200 ![] bcast_S_S51200),
  StableHlo.TRef.ternary (.of main_v125 : StableHlo.TRef sig ⟨S51200, .i1⟩) main_call4.v0 main_call4.v1 main_call4.v2 select,
  StableHlo.nullary main_c_46 (constantI S_ 32 0#32),
  StableHlo.unary main_c_46 main_v127 (broadcastInDim S51200 ![] bcast_S_S51200 : (⟨S_, .i32⟩ : BufTy).Contents (Elt F) → (⟨S51200, .i32⟩ : BufTy).Contents (Elt F)),
  StableHlo.binary main_v106 main_v127 main_v128 (cmpi .eq : (⟨S51200, .i32⟩ : BufTy).Contents (Elt F) → (⟨S51200, .i32⟩ : BufTy).Contents (Elt F) → (⟨S51200, .i1⟩ : BufTy).Contents (Elt F)),
  StableHlo.nullary main_c_47 (constantI S_ 32 31#32),
  StableHlo.unary main_c_47 main_v129 (broadcastInDim S51200 ![] bcast_S_S51200 : (⟨S_, .i32⟩ : BufTy).Contents (Elt F) → (⟨S51200, .i32⟩ : BufTy).Contents (Elt F)),
  StableHlo.binary main_v106 main_v129 main_v130 (cmpi .eq : (⟨S51200, .i32⟩ : BufTy).Contents (Elt F) → (⟨S51200, .i32⟩ : BufTy).Contents (Elt F) → (⟨S51200, .i1⟩ : BufTy).Contents (Elt F)),
  StableHlo.TRef.unary (.of main_v126 : StableHlo.TRef sig ⟨S51200, .f32⟩) main_call5.v0 id,
  StableHlo.TRef.ternary (.of main_v130 : StableHlo.TRef sig ⟨S51200, .i1⟩) main_call5.v0 (.of main_v121 : StableHlo.TRef sig ⟨S51200, .f32⟩) main_call5.v1 select,
  StableHlo.TRef.ternary (.of main_v128 : StableHlo.TRef sig ⟨S51200, .i1⟩) (.of main_v111 : StableHlo.TRef sig ⟨S51200, .f32⟩) (.of main_v131 : StableHlo.TRef sig ⟨S51200, .f32⟩) main_call6.v0 select,
  StableHlo.nullary main_c_48 (constantI S_ 32 1#32),
  StableHlo.unary main_c_48 main_v133 (broadcastInDim S51200 ![] bcast_S_S51200 : (⟨S_, .i32⟩ : BufTy).Contents (Elt F) → (⟨S51200, .i32⟩ : BufTy).Contents (Elt F)),
  StableHlo.binary main_v102 main_v133 main_v134 (cmpi .eq : (⟨S51200, .i32⟩ : BufTy).Contents (Elt F) → (⟨S51200, .i32⟩ : BufTy).Contents (Elt F) → (⟨S51200, .i1⟩ : BufTy).Contents (Elt F)),
  StableHlo.unary main_v132 main_v135 (Host.negf : (⟨S51200, .f32⟩ : BufTy).Contents (Elt F) → (⟨S51200, .f32⟩ : BufTy).Contents (Elt F)),
  StableHlo.TRef.ternary (.of main_v134 : StableHlo.TRef sig ⟨S51200, .i1⟩) (.of main_v135 : StableHlo.TRef sig ⟨S51200, .f32⟩) (.of main_v132 : StableHlo.TRef sig ⟨S51200, .f32⟩) main_call7.v0 select]

/-- The operations that make the old rows. -/
abbrev opsF : List (HloOp τ sig (Elt F)) := [
  StableHlo.unary main_v55 main_v137 (sitofp .f32 : (⟨S51200x128, .i32⟩ : BufTy).Contents (Elt F) → (⟨S51200x128, .f32⟩ : BufTy).Contents (Elt F)),
  StableHlo.unary main_v96 main_v138 (broadcastInDim S51200x1 ![0] bcast_S51200_S51200x1_0 : (⟨S51200, .f32⟩ : BufTy).Contents (Elt F) → (⟨S51200x1, .f32⟩ : BufTy).Contents (Elt F)),
  StableHlo.unary main_v138 main_v139 (broadcastInDim S51200x128 ![0, 1] bcast_S51200x1_S51200x128_0_1 : (⟨S51200x1, .f32⟩ : BufTy).Contents (Elt F) → (⟨S51200x128, .f32⟩ : BufTy).Contents (Elt F)),
  StableHlo.binary main_v137 main_v139 main_v140 (mulf : (⟨S51200x128, .f32⟩ : BufTy).Contents (Elt F) → (⟨S51200x128, .f32⟩ : BufTy).Contents (Elt F) → (⟨S51200x128, .f32⟩ : BufTy).Contents (Elt F)),
  StableHlo.unary main_v136 main_v141 (broadcastInDim S51200x1 ![0] bcast_S51200_S51200x1_0 : (⟨S51200, .f32⟩ : BufTy).Contents (Elt F) → (⟨S51200x1, .f32⟩ : BufTy).Contents (Elt F)),
  StableHlo.unary main_v141 main_v142 (broadcastInDim S51200x128 ![0, 1] bcast_S51200x1_S51200x128_0_1 : (⟨S51200x1, .f32⟩ : BufTy).Contents (Elt F) → (⟨S51200x128, .f32⟩ : BufTy).Contents (Elt F)),
  StableHlo.binary main_v140 main_v142 main_v143 (addf : (⟨S51200x128, .f32⟩ : BufTy).Contents (Elt F) → (⟨S51200x128, .f32⟩ : BufTy).Contents (Elt F) → (⟨S51200x128, .f32⟩ : BufTy).Contents (Elt F))]

/-- The operations that make the new state. -/
abbrev opsG : List (HloOp τ sig (Elt F)) := [
  StableHlo.reshape main_arg5 main_v144 (rfl : (.f32 : EltTy) = .f32) shapeCasts_S400x128_S4x100x128,
  StableHlo.unary main_v144 main_v145 ((transpose S100x128x4 [1, 2, 0] · transposes_S4x100x128_S100x128x4_1_2_0) : (⟨S4x100x128, .f32⟩ : BufTy).Contents (Elt F) → (⟨S100x128x4, .f32⟩ : BufTy).Contents (Elt F)),
  StableHlo.reshape main_v145 main_v146 (rfl : (.f32 : EltTy) = .f32) shapeCasts_S100x128x4_S51200,
  StableHlo.binary main_v33 main_v33 main_v147 (mulf : (⟨S51200x128, .f32⟩ : BufTy).Contents (Elt F) → (⟨S51200x128, .f32⟩ : BufTy).Contents (Elt F) → (⟨S51200x128, .f32⟩ : BufTy).Contents (Elt F)),
  StableHlo.nullary main_cst_49 (constant S_ .f32 0x00000000#32),
  StableHlo.binary main_v147 main_cst_49 main_v148 ((fun x v => Host.reduceAdd x v reducesTo_S51200x128_S51200_d1 h_S_) : (⟨S51200x128, .f32⟩ : BufTy).Contents (Elt F) → (⟨S_, .f32⟩ : BufTy).Contents (Elt F) → (⟨S51200, .f32⟩ : BufTy).Contents (Elt F)),
  StableHlo.nullary main_cst_50 (constant S_ .f32 0x43000000#32),
  StableHlo.unary main_cst_50 main_v149 (broadcastInDim S51200 ![] bcast_S_S51200 : (⟨S_, .f32⟩ : BufTy).Contents (Elt F) → (⟨S51200, .f32⟩ : BufTy).Contents (Elt F)),
  StableHlo.binary main_v148 main_v149 main_v150 (Host.divf : (⟨S51200, .f32⟩ : BufTy).Contents (Elt F) → (⟨S51200, .f32⟩ : BufTy).Contents (Elt F) → (⟨S51200, .f32⟩ : BufTy).Contents (Elt F)),
  StableHlo.binary main_v146 main_v150 main_v151 (addf : (⟨S51200, .f32⟩ : BufTy).Contents (Elt F) → (⟨S51200, .f32⟩ : BufTy).Contents (Elt F) → (⟨S51200, .f32⟩ : BufTy).Contents (Elt F))]

/-- The operations that make the new rows. -/
abbrev opsH : List (HloOp τ sig (Elt F)) := [
  StableHlo.unary main_v151 main_v152 (Host.sqrt : (⟨S51200, .f32⟩ : BufTy).Contents (Elt F) → (⟨S51200, .f32⟩ : BufTy).Contents (Elt F)),
  StableHlo.nullary main_cst_51 (constant S_ .f32 0x322BCC77#32),
  StableHlo.unary main_cst_51 main_v153 (broadcastInDim S51200 ![] bcast_S_S51200 : (⟨S_, .f32⟩ : BufTy).Contents (Elt F) → (⟨S51200, .f32⟩ : BufTy).Contents (Elt F)),
  StableHlo.binary main_v152 main_v153 main_v154 (addf : (⟨S51200, .f32⟩ : BufTy).Contents (Elt F) → (⟨S51200, .f32⟩ : BufTy).Contents (Elt F) → (⟨S51200, .f32⟩ : BufTy).Contents (Elt F)),
  StableHlo.nullary main_cst_52 (constant S_ .f32 0x3CA3D70A#32),
  StableHlo.unary main_cst_52 main_v155 (broadcastInDim S51200 ![] bcast_S_S51200 : (⟨S_, .f32⟩ : BufTy).Contents (Elt F) → (⟨S51200, .f32⟩ : BufTy).Contents (Elt F)),
  StableHlo.binary main_v155 main_v154 main_v156 (Host.divf : (⟨S51200, .f32⟩ : BufTy).Contents (Elt F) → (⟨S51200, .f32⟩ : BufTy).Contents (Elt F) → (⟨S51200, .f32⟩ : BufTy).Contents (Elt F)),
  StableHlo.unary main_v156 main_v157 (broadcastInDim S51200x1 ![0] bcast_S51200_S51200x1_0 : (⟨S51200, .f32⟩ : BufTy).Contents (Elt F) → (⟨S51200x1, .f32⟩ : BufTy).Contents (Elt F)),
  StableHlo.unary main_v157 main_v158 (broadcastInDim S51200x128 ![0, 1] bcast_S51200x1_S51200x128_0_1 : (⟨S51200x1, .f32⟩ : BufTy).Contents (Elt F) → (⟨S51200x128, .f32⟩ : BufTy).Contents (Elt F)),
  StableHlo.binary main_v158 main_v33 main_v159 (mulf : (⟨S51200x128, .f32⟩ : BufTy).Contents (Elt F) → (⟨S51200x128, .f32⟩ : BufTy).Contents (Elt F) → (⟨S51200x128, .f32⟩ : BufTy).Contents (Elt F)),
  StableHlo.binary main_v143 main_v159 main_v160 (subf : (⟨S51200x128, .f32⟩ : BufTy).Contents (Elt F) → (⟨S51200x128, .f32⟩ : BufTy).Contents (Elt F) → (⟨S51200x128, .f32⟩ : BufTy).Contents (Elt F))]

/-- The operations that make the new scales and codes. -/
abbrev opsI : List (HloOp τ sig (Elt F)) := [
  StableHlo.nullary main_cst_53 (constant S_ .f32 0x7F800000#32),
  StableHlo.binary main_v160 main_cst_53 main_v161 ((fun x v => Host.reduce FloatOps.minimumf x v reducesTo_S51200x128_S51200_d1 h_S_) : (⟨S51200x128, .f32⟩ : BufTy).Contents (Elt F) → (⟨S_, .f32⟩ : BufTy).Contents (Elt F) → (⟨S51200, .f32⟩ : BufTy).Contents (Elt F)),
  StableHlo.nullary main_cst_54 (constant S_ .f32 0xFF800000#32),
  StableHlo.binary main_v160 main_cst_54 main_v162 ((fun x v => Host.reduce FloatOps.maximumf x v reducesTo_S51200x128_S51200_d1 h_S_) : (⟨S51200x128, .f32⟩ : BufTy).Contents (Elt F) → (⟨S_, .f32⟩ : BufTy).Contents (Elt F) → (⟨S51200, .f32⟩ : BufTy).Contents (Elt F)),
  StableHlo.binary main_v162 main_v161 main_v163 (subf : (⟨S51200, .f32⟩ : BufTy).Contents (Elt F) → (⟨S51200, .f32⟩ : BufTy).Contents (Elt F) → (⟨S51200, .f32⟩ : BufTy).Contents (Elt F)),
  StableHlo.nullary main_cst_55 (constant S_ .f32 0x437F0000#32),
  StableHlo.unary main_cst_55 main_v164 (broadcastInDim S51200 ![] bcast_S_S51200 : (⟨S_, .f32⟩ : BufTy).Contents (Elt F) → (⟨S51200, .f32⟩ : BufTy).Contents (Elt F)),
  StableHlo.binary main_v163 main_v164 main_v165 (Host.divf : (⟨S51200, .f32⟩ : BufTy).Contents (Elt F) → (⟨S51200, .f32⟩ : BufTy).Contents (Elt F) → (⟨S51200, .f32⟩ : BufTy).Contents (Elt F)),
  StableHlo.nullary main_cst_56 (constant S_ .f32 0x322BCC77#32),
  StableHlo.unary main_cst_56 main_v166 (broadcastInDim S51200 ![] bcast_S_S51200 : (⟨S_, .f32⟩ : BufTy).Contents (Elt F) → (⟨S51200, .f32⟩ : BufTy).Contents (Elt F)),
  StableHlo.binary main_v165 main_v166 main_v167 (addf : (⟨S51200, .f32⟩ : BufTy).Contents (Elt F) → (⟨S51200, .f32⟩ : BufTy).Contents (Elt F) → (⟨S51200, .f32⟩ : BufTy).Contents (Elt F)),
  StableHlo.nullary main_cst_57 (constant S_ .f32 0x3F800000#32),
  StableHlo.unary main_cst_57 main_v168 (broadcastInDim S51200 ![] bcast_S_S51200 : (⟨S_, .f32⟩ : BufTy).Contents (Elt F) → (⟨S51200, .f32⟩ : BufTy).Contents (Elt F)),
  StableHlo.binary main_v168 main_v167 main_v169 (Host.divf : (⟨S51200, .f32⟩ : BufTy).Contents (Elt F) → (⟨S51200, .f32⟩ : BufTy).Contents (Elt F) → (⟨S51200, .f32⟩ : BufTy).Contents (Elt F)),
  StableHlo.unary main_v161 main_v170 (broadcastInDim S51200x1 ![0] bcast_S51200_S51200x1_0 : (⟨S51200, .f32⟩ : BufTy).Contents (Elt F) → (⟨S51200x1, .f32⟩ : BufTy).Contents (Elt F)),
  StableHlo.unary main_v170 main_v171 (broadcastInDim S51200x128 ![0, 1] bcast_S51200x1_S51200x128_0_1 : (⟨S51200x1, .f32⟩ : BufTy).Contents (Elt F) → (⟨S51200x128, .f32⟩ : BufTy).Contents (Elt F)),
  StableHlo.binary main_v160 main_v171 main_v172 (subf : (⟨S51200x128, .f32⟩ : BufTy).Contents (Elt F) → (⟨S51200x128, .f32⟩ : BufTy).Contents (Elt F) → (⟨S51200x128, .f32⟩ : BufTy).Contents (Elt F)),
  StableHlo.unary main_v169 main_v173 (broadcastInDim S51200x1 ![0] bcast_S51200_S51200x1_0 : (⟨S51200, .f32⟩ : BufTy).Contents (Elt F) → (⟨S51200x1, .f32⟩ : BufTy).Contents (Elt F)),
  StableHlo.unary main_v173 main_v174 (broadcastInDim S51200x128 ![0, 1] bcast_S51200x1_S51200x128_0_1 : (⟨S51200x1, .f32⟩ : BufTy).Contents (Elt F) → (⟨S51200x128, .f32⟩ : BufTy).Contents (Elt F)),
  StableHlo.binary main_v172 main_v174 main_v175 (mulf : (⟨S51200x128, .f32⟩ : BufTy).Contents (Elt F) → (⟨S51200x128, .f32⟩ : BufTy).Contents (Elt F) → (⟨S51200x128, .f32⟩ : BufTy).Contents (Elt F)),
  StableHlo.nullary main_c_58 (constantI S_ 32 8#32),
  StableHlo.unary main_c_58 main_v176 (broadcastInDim S51200x128 ![] bcast_S_S51200x128 : (⟨S_, .i32⟩ : BufTy).Contents (Elt F) → (⟨S51200x128, .i32⟩ : BufTy).Contents (Elt F)),
  StableHlo.binary main_arg6 main_v176 main_v177 (Host.shrui : (⟨S51200x128, .i32⟩ : BufTy).Contents (Elt F) → (⟨S51200x128, .i32⟩ : BufTy).Contents (Elt F) → (⟨S51200x128, .i32⟩ : BufTy).Contents (Elt F)),
  StableHlo.unary main_v177 main_v178 (id : (⟨S51200x128, .i32⟩ : BufTy).Contents (Elt F) → (⟨S51200x128, .i32⟩ : BufTy).Contents (Elt F)),
  StableHlo.unary main_v178 main_v179 (sitofp .f32 : (⟨S51200x128, .i32⟩ : BufTy).Contents (Elt F) → (⟨S51200x128, .f32⟩ : BufTy).Contents (Elt F)),
  StableHlo.nullary main_cst_59 (constant S_ .f32 0x33800000#32),
  StableHlo.unary main_cst_59 main_v180 (broadcastInDim S51200x128 ![] bcast_S_S51200x128 : (⟨S_, .f32⟩ : BufTy).Contents (Elt F) → (⟨S51200x128, .f32⟩ : BufTy).Contents (Elt F)),
  StableHlo.binary main_v179 main_v180 main_v181 (mulf : (⟨S51200x128, .f32⟩ : BufTy).Contents (Elt F) → (⟨S51200x128, .f32⟩ : BufTy).Contents (Elt F) → (⟨S51200x128, .f32⟩ : BufTy).Contents (Elt F)),
  StableHlo.binary main_v175 main_v181 main_v182 (addf : (⟨S51200x128, .f32⟩ : BufTy).Contents (Elt F) → (⟨S51200x128, .f32⟩ : BufTy).Contents (Elt F) → (⟨S51200x128, .f32⟩ : BufTy).Contents (Elt F)),
  StableHlo.unary main_v182 main_v183 (Host.floor : (⟨S51200x128, .f32⟩ : BufTy).Contents (Elt F) → (⟨S51200x128, .f32⟩ : BufTy).Contents (Elt F)),
  StableHlo.nullary main_cst_60 (constant S_ .f32 0x00000000#32),
  StableHlo.nullary main_cst_61 (constant S_ .f32 0x437F0000#32),
  StableHlo.TRef.unary (.of main_cst_60 : StableHlo.TRef sig ⟨S_, .f32⟩) main_call8.v0 id,
  StableHlo.TRef.unary main_call8.v0 main_call8.v1 (broadcastInDim S51200x128 ![] bcast_S_S51200x128),
  StableHlo.TRef.binary main_call8.v1 (.of main_v183 : StableHlo.TRef sig ⟨S51200x128, .f32⟩) main_call8.v2 maximumf,
  StableHlo.TRef.unary (.of main_cst_61 : StableHlo.TRef sig ⟨S_, .f32⟩) main_call8.v3 id,
  StableHlo.TRef.unary main_call8.v3 main_call8.v4 (broadcastInDim S51200x128 ![] bcast_S_S51200x128),
  StableHlo.TRef.binary main_call8.v4 main_call8.v2 main_call8.v5 minimumf,
  StableHlo.unary main_v184 main_v185 (fptosi 32 : (⟨S51200x128, .f32⟩ : BufTy).Contents (Elt F) → (⟨S51200x128, .i32⟩ : BufTy).Contents (Elt F)),
  StableHlo.unary main_v185 main_v186 ((trunci 8 · natLt_8_32) : (⟨S51200x128, .i32⟩ : BufTy).Contents (Elt F) → (⟨S51200x128, .i8⟩ : BufTy).Contents (Elt F))]

/-- The operations that make the results' order. -/
abbrev opsJ : List (HloOp τ sig (Elt F)) := [
  StableHlo.reshape main_v165 main_v187 (rfl : (.f32 : EltTy) = .f32) shapeCasts_S51200_S100x128x4,
  StableHlo.unary main_v187 main_v188 ((transpose S4x100x128 [2, 0, 1] · transposes_S100x128x4_S4x100x128_2_0_1) : (⟨S100x128x4, .f32⟩ : BufTy).Contents (Elt F) → (⟨S4x100x128, .f32⟩ : BufTy).Contents (Elt F)),
  StableHlo.reshape main_v188 main_v189 (rfl : (.f32 : EltTy) = .f32) shapeCasts_S4x100x128_S400x128,
  StableHlo.reshape main_v161 main_v190 (rfl : (.f32 : EltTy) = .f32) shapeCasts_S51200_S100x128x4,
  StableHlo.unary main_v190 main_v191 ((transpose S4x100x128 [2, 0, 1] · transposes_S100x128x4_S4x100x128_2_0_1) : (⟨S100x128x4, .f32⟩ : BufTy).Contents (Elt F) → (⟨S4x100x128, .f32⟩ : BufTy).Contents (Elt F)),
  StableHlo.reshape main_v191 main_v192 (rfl : (.f32 : EltTy) = .f32) shapeCasts_S4x100x128_S400x128,
  StableHlo.reshape main_v151 main_v193 (rfl : (.f32 : EltTy) = .f32) shapeCasts_S51200_S100x128x4,
  StableHlo.unary main_v193 main_v194 ((transpose S4x100x128 [2, 0, 1] · transposes_S100x128x4_S4x100x128_2_0_1) : (⟨S100x128x4, .f32⟩ : BufTy).Contents (Elt F) → (⟨S4x100x128, .f32⟩ : BufTy).Contents (Elt F)),
  StableHlo.reshape main_v194 main_v195 (rfl : (.f32 : EltTy) = .f32) shapeCasts_S4x100x128_S400x128]

def ops : List (HloOp τ sig (Elt F)) := opsA ++ (opsB ++ (opsC ++ (opsD ++ (opsE ++ (opsF ++ (opsG ++ (opsH ++ (opsI ++ opsJ))))))))

set_option maxHeartbeats 1600000 in
theorem isSeq : ∀ d, IsSeq (main (F := F) d) (ops (F := F)) := by
  have h : ∃ l : List (HloOp τ sig (Elt F)), (∀ d, IsSeq (main (F := F) d) l) ∧ l = ops (F := F) := by
    apply Exists.intro
    apply And.intro
    · hlo_seq
    · rfl
  obtain ⟨l, h1, h2⟩ := h
  exact h2 ▸ h1

set_option maxHeartbeats 1600000 in
theorem run_ops (m : (ℓ : Loc nD τ sig) → Buf (Elt F) ℓ) (g : Dev nD → PrngReg) :
    θ_run (defs (F := F)) (onTc (τ := τ) (main (F := F))) ⟨m, fun _ => 0, g⟩ (fun r => ∀ (c : Dev nD) (b : Ref sig .tc),
      r.2.mem ((c.tc : Thread nD τ).loc b) = after (ops (F := F)) (launchContents m c) (Proc.devRef .tc b)) :=
  run_hlo _ _ isSeq (by decide) (by decide) (by simp [ops, opsA, opsB, opsC, opsD, opsE, opsF, opsG, opsH, opsI, opsJ])
    (by unfold ops; simp only [List.cons_append, List.nil_append]; intro _ h; (repeat (cases h with | head => rfl | tail _ h => ?_)); exact nomatch h) m g

end Cert.ReferenceIdeal.Hand

end
-- ==== Proof.Ref.lean ====
module

public import proofs.«01_k».proof.Proof.Gen.ReferenceIdeal
public import Idealize.ShloMosaic.Lib.Claim
public import Idealize.ShloMosaic.Lib.Pointwise
public import proofs.«01_k».proof.Proof.RefOps
public import Idealize.ShloMosaic.Lib.StableHlo.RunRead

@[expose] public section

set_option maxRecDepth 16384

noncomputable section

namespace Cert.ReferenceIdeal.Hand

open Cert.ReferenceIdeal.Gen
open Idealize.ShloMosaic Idealize.ShloMosaic.TcCoe Idealize.SL.Sem Idealize.ShloMosaic.StableHlo

variable {F : FTy → Type} [FloatOps F]

/-! # The reference, in stages -/

/-- The words with the columns in the slots' order. -/
def columns (x1 : IVec S56x51200 32) : IVec S56x51200 32 :=
  shapeCast S56x51200 (transpose S56x100x128x4 [0, 1, 3, 2] (shapeCast S56x100x4x128 x1 shapeCasts_S56x51200_S56x100x4x128) transposes_S56x100x4x128_S56x100x128x4_0_1_3_2) shapeCasts_S56x100x128x4_S56x51200

/-- The counts: byte `k` of a word, signed, is row `4 w + k`. -/
def counts (w : IVec S56x51200 32) : IVec S224x51200 32 :=
  shapeCast S224x51200 (concatenate S56x4x51200 1 [⟨S56x1x51200, (broadcastInDim S56x1x51200 ![0, 2] bcast_S56x51200_S56x1x51200_0_2 (Host.shrsi (Host.shli w (broadcastInDim S56x51200 ![] bcast_S_S56x51200 (constantI S_ 32 24#32))) (broadcastInDim S56x51200 ![] bcast_S_S56x51200 (constantI S_ 32 24#32))))⟩, ⟨S56x1x51200, (broadcastInDim S56x1x51200 ![0, 2] bcast_S56x51200_S56x1x51200_0_2 (Host.shrsi (Host.shli w (broadcastInDim S56x51200 ![] bcast_S_S56x51200 (constantI S_ 32 16#32))) (broadcastInDim S56x51200 ![] bcast_S_S56x51200 (constantI S_ 32 24#32))))⟩, ⟨S56x1x51200, (broadcastInDim S56x1x51200 ![0, 2] bcast_S56x51200_S56x1x51200_0_2 (Host.shrsi (Host.shli w (broadcastInDim S56x51200 ![] bcast_S_S56x51200 (constantI S_ 32 8#32))) (broadcastInDim S56x51200 ![] bcast_S_S56x51200 (constantI S_ 32 24#32))))⟩, ⟨S56x1x51200, (broadcastInDim S56x1x51200 ![0, 2] bcast_S56x51200_S56x1x51200_0_2 (Host.shrsi (Host.shli w (broadcastInDim S56x51200 ![] bcast_S_S56x51200 (constantI S_ 32 0#32))) (broadcastInDim S56x51200 ![] bcast_S_S56x51200 (constantI S_ 32 24#32))))⟩] concatenates_S56x1x51200_S56x1x51200_S56x1x51200_S56x1x51200_S56x4x51200_d1) shapeCasts_S56x4x51200_S224x51200

/-- The three terms of every slot's gradient. -/
def terms (x2 : FVec F S384x224 .bf16) (n : IVec S224x51200 32) : FVec F S384x51200 .f32 :=
  (fun l r => Host.dotGeneral dot_S384x224_S224x51200_S384x51200_1_0_0_1_n_n none l r) (extf .f32 x2 bitsLt_bf16_f32) (sitofp .f32 n)

/-- The gradients, a slot a row. -/
def grad (t : FVec F S384x51200 .f32) : FVec F S51200x128 .f32 :=
  transpose S51200x128 [1, 0] (addf (addf (extractStridedSlice S128x51200 ![0, 0] t slices_S384x51200_S128x51200_0_0) (extractStridedSlice S128x51200 ![128, 0] t slices_S384x51200_S128x51200_128_0)) (extractStridedSlice S128x51200 ![256, 0] t slices_S384x51200_S128x51200_256_0)) transposes_S128x51200_S51200x128_1_0

/-- The old codes, a slot a row. -/
def code (x3 : IVec S12800x128 32) : IVec S51200x128 32 :=
  shapeCast S51200x128 (concatenate S12800x4x128 1 [⟨S12800x1x128, (broadcastInDim S12800x1x128 ![0, 2] bcast_S12800x128_S12800x1x128_0_2 (andi (Host.shrsi x3 (broadcastInDim S12800x128 ![] bcast_S_S12800x128 (constantI S_ 32 0#32))) (broadcastInDim S12800x128 ![] bcast_S_S12800x128 (constantI S_ 32 255#32))))⟩, ⟨S12800x1x128, (broadcastInDim S12800x1x128 ![0, 2] bcast_S12800x128_S12800x1x128_0_2 (andi (Host.shrsi x3 (broadcastInDim S12800x128 ![] bcast_S_S12800x128 (constantI S_ 32 8#32))) (broadcastInDim S12800x128 ![] bcast_S_S12800x128 (constantI S_ 32 255#32))))⟩, ⟨S12800x1x128, (broadcastInDim S12800x1x128 ![0, 2] bcast_S12800x128_S12800x1x128_0_2 (andi (Host.shrsi x3 (broadcastInDim S12800x128 ![] bcast_S_S12800x128 (constantI S_ 32 16#32))) (broadcastInDim S12800x128 ![] bcast_S_S12800x128 (constantI S_ 32 255#32))))⟩, ⟨S12800x1x128, (broadcastInDim S12800x1x128 ![0, 2] bcast_S12800x128_S12800x1x128_0_2 (andi (Host.shrsi x3 (broadcastInDim S12800x128 ![] bcast_S_S12800x128 (constantI S_ 32 24#32))) (broadcastInDim S12800x128 ![] bcast_S_S12800x128 (constantI S_ 32 255#32))))⟩] concatenates_S12800x1x128_S12800x1x128_S12800x1x128_S12800x1x128_S12800x4x128_d1) shapeCasts_S12800x4x128_S51200x128

/-- A per-slot array of four by a hundred by 128, in the slots' order. -/
def bySlot {e : EltTy} (x : Vec F S400x128 e) : Vec F S51200 e :=
  shapeCast S51200 (transpose S100x128x4 [1, 2, 0] (shapeCast S4x100x128 x shapeCasts_S400x128_S4x100x128) transposes_S4x100x128_S100x128x4_1_2_0) shapeCasts_S100x128x4_S51200

/-- The number a half is. -/
def half (q : IVec S51200 32) : FVec F S51200 .f32 :=
  select (cmpi .eq (andi (Host.shrsi q (broadcastInDim S51200 ![] bcast_S_S51200 (constantI S_ 32 15#32))) (broadcastInDim S51200 ![] bcast_S_S51200 (constantI S_ 32 1#32))) (broadcastInDim S51200 ![] bcast_S_S51200 (constantI S_ 32 1#32))) (Host.negf (select (cmpi .eq (andi (Host.shrsi q (broadcastInDim S51200 ![] bcast_S_S51200 (constantI S_ 32 10#32))) (broadcastInDim S51200 ![] bcast_S_S51200 (constantI S_ 32 31#32))) (broadcastInDim S51200 ![] bcast_S_S51200 (constantI S_ 32 0#32))) (mulf (sitofp .f32 (andi q (broadcastInDim S51200 ![] bcast_S_S51200 (constantI S_ 32 1023#32)))) (broadcastInDim S51200 ![] bcast_S_S51200 (constant S_ .f32 0x33800000#32))) (select (cmpi .eq (andi (Host.shrsi q (broadcastInDim S51200 ![] bcast_S_S51200 (constantI S_ 32 10#32))) (broadcastInDim S51200 ![] bcast_S_S51200 (constantI S_ 32 31#32))) (broadcastInDim S51200 ![] bcast_S_S51200 (constantI S_ 32 31#32))) (select (cmpi .eq (andi q (broadcastInDim S51200 ![] bcast_S_S51200 (constantI S_ 32 1023#32))) (broadcastInDim S51200 ![] bcast_S_S51200 (constantI S_ 32 0#32))) (broadcastInDim S51200 ![] bcast_S_S51200 (constant S_ .f32 0x7F800000#32)) (broadcastInDim S51200 ![] bcast_S_S51200 (constant S_ .f32 0x7FC00000#32))) (mulf (mulf (addf (broadcastInDim S51200 ![] bcast_S_S51200 (constant S_ .f32 0x44800000#32)) (sitofp .f32 (andi q (broadcastInDim S51200 ![] bcast_S_S51200 (constantI S_ 32 1023#32))))) (sitofp .f32 (Host.shli (broadcastInDim S51200 ![] bcast_S_S51200 (constantI S_ 32 1#32)) (subi (andi (Host.shrsi q (broadcastInDim S51200 ![] bcast_S_S51200 (constantI S_ 32 10#32))) (broadcastInDim S51200 ![] bcast_S_S51200 (constantI S_ 32 31#32))) (broadcastInDim S51200 ![] bcast_S_S51200 (constantI S_ 32 1#32)))))) (broadcastInDim S51200 ![] bcast_S_S51200 (constant S_ .f32 0x33800000#32)))))) (select (cmpi .eq (andi (Host.shrsi q (broadcastInDim S51200 ![] bcast_S_S51200 (constantI S_ 32 10#32))) (broadcastInDim S51200 ![] bcast_S_S51200 (constantI S_ 32 31#32))) (broadcastInDim S51200 ![] bcast_S_S51200 (constantI S_ 32 0#32))) (mulf (sitofp .f32 (andi q (broadcastInDim S51200 ![] bcast_S_S51200 (constantI S_ 32 1023#32)))) (broadcastInDim S51200 ![] bcast_S_S51200 (constant S_ .f32 0x33800000#32))) (select (cmpi .eq (andi (Host.shrsi q (broadcastInDim S51200 ![] bcast_S_S51200 (constantI S_ 32 10#32))) (broadcastInDim S51200 ![] bcast_S_S51200 (constantI S_ 32 31#32))) (broadcastInDim S51200 ![] bcast_S_S51200 (constantI S_ 32 31#32))) (select (cmpi .eq (andi q (broadcastInDim S51200 ![] bcast_S_S51200 (constantI S_ 32 1023#32))) (broadcastInDim S51200 ![] bcast_S_S51200 (constantI S_ 32 0#32))) (broadcastInDim S51200 ![] bcast_S_S51200 (constant S_ .f32 0x7F800000#32)) (broadcastInDim S51200 ![] bcast_S_S51200 (constant S_ .f32 0x7FC00000#32))) (mulf (mulf (addf (broadcastInDim S51200 ![] bcast_S_S51200 (constant S_ .f32 0x44800000#32)) (sitofp .f32 (andi q (broadcastInDim S51200 ![] bcast_S_S51200 (constantI S_ 32 1023#32))))) (sitofp .f32 (Host.shli (broadcastInDim S51200 ![] bcast_S_S51200 (constantI S_ 32 1#32)) (subi (andi (Host.shrsi q (broadcastInDim S51200 ![] bcast_S_S51200 (constantI S_ 32 10#32))) (broadcastInDim S51200 ![] bcast_S_S51200 (constantI S_ 32 31#32))) (broadcastInDim S51200 ![] bcast_S_S51200 (constantI S_ 32 1#32)))))) (broadcastInDim S51200 ![] bcast_S_S51200 (constant S_ .f32 0x33800000#32)))))

/-- The scale and the bias are a word's lower and upper half. -/
def upper (q : IVec S51200 32) : IVec S51200 32 :=
  Host.shrsi q (broadcastInDim S51200 ![] bcast_S_S51200 (constantI S_ 32 16#32))

/-- The old rows. -/
def row (k : IVec S51200x128 32) (s b : FVec F S51200 .f32) : FVec F S51200x128 .f32 :=
  addf (mulf (sitofp .f32 k) (broadcastInDim S51200x128 ![0, 1] bcast_S51200x1_S51200x128_0_1 (broadcastInDim S51200x1 ![0] bcast_S51200_S51200x1_0 s))) (broadcastInDim S51200x128 ![0, 1] bcast_S51200x1_S51200x128_0_1 (broadcastInDim S51200x1 ![0] bcast_S51200_S51200x1_0 b))

/-- The new state. -/
def state (o : FVec F S51200 .f32) (g : FVec F S51200x128 .f32) : FVec F S51200 .f32 :=
  addf o (Host.divf ((fun x v => Host.reduceAdd x v reducesTo_S51200x128_S51200_d1 h_S_) (mulf g g) (constant S_ .f32 0x00000000#32)) (broadcastInDim S51200 ![] bcast_S_S51200 (constant S_ .f32 0x43000000#32)))

/-- The new rows. -/
def newRow (w : FVec F S51200x128 .f32) (st : FVec F S51200 .f32) (g : FVec F S51200x128 .f32) : FVec F S51200x128 .f32 :=
  subf w (mulf (broadcastInDim S51200x128 ![0, 1] bcast_S51200x1_S51200x128_0_1 (broadcastInDim S51200x1 ![0] bcast_S51200_S51200x1_0 (Host.divf (broadcastInDim S51200 ![] bcast_S_S51200 (constant S_ .f32 0x3CA3D70A#32)) (addf (Host.sqrt st) (broadcastInDim S51200 ![] bcast_S_S51200 (constant S_ .f32 0x322BCC77#32)))))) g)

/-- Their least and greatest values. -/
def low (w : FVec F S51200x128 .f32) : FVec F S51200 .f32 :=
  (fun x v => Host.reduce FloatOps.minimumf x v reducesTo_S51200x128_S51200_d1 h_S_) w (constant S_ .f32 0x7F800000#32)

def high (w : FVec F S51200x128 .f32) : FVec F S51200 .f32 :=
  (fun x v => Host.reduce FloatOps.maximumf x v reducesTo_S51200x128_S51200_d1 h_S_) w (constant S_ .f32 0xFF800000#32)

/-- The new scales. -/
def scale (l h : FVec F S51200 .f32) : FVec F S51200 .f32 :=
  Host.divf (subf h l) (broadcastInDim S51200 ![] bcast_S_S51200 (constant S_ .f32 0x437F0000#32))

/-- The new codes. -/
def newCode (w : FVec F S51200x128 .f32) (l s : FVec F S51200 .f32) (x6 : IVec S51200x128 32) : IVec S51200x128 8 :=
  trunci 8 (fptosi 32 (minimumf (broadcastInDim S51200x128 ![] bcast_S_S51200x128 (constant S_ .f32 0x437F0000#32)) (maximumf (broadcastInDim S51200x128 ![] bcast_S_S51200x128 (constant S_ .f32 0x00000000#32)) (Host.floor (addf (mulf (subf w (broadcastInDim S51200x128 ![0, 1] bcast_S51200x1_S51200x128_0_1 (broadcastInDim S51200x1 ![0] bcast_S51200_S51200x1_0 l))) (broadcastInDim S51200x128 ![0, 1] bcast_S51200x1_S51200x128_0_1 (broadcastInDim S51200x1 ![0] bcast_S51200_S51200x1_0 (Host.divf (broadcastInDim S51200 ![] bcast_S_S51200 (constant S_ .f32 0x3F800000#32)) (addf s (broadcastInDim S51200 ![] bcast_S_S51200 (constant S_ .f32 0x322BCC77#32))))))) (mulf (sitofp .f32 (Host.shrui x6 (broadcastInDim S51200x128 ![] bcast_S_S51200x128 (constantI S_ 32 8#32)))) (broadcastInDim S51200x128 ![] bcast_S_S51200x128 (constant S_ .f32 0x33800000#32)))))))) natLt_8_32

/-- A per-slot array back in the order of four by a hundred by 128. -/
def packed (x : FVec F S51200 .f32) : FVec F S400x128 .f32 :=
  shapeCast S400x128 (transpose S4x100x128 [2, 0, 1] (shapeCast S100x128x4 x shapeCasts_S51200_S100x128x4) transposes_S100x128x4_S4x100x128_2_0_1) shapeCasts_S4x100x128_S400x128

/-! ## Its results over the arguments -/

section
variable (x1 : IVec S56x51200 32) (x2 : FVec F S384x224 .bf16) (x3 : IVec S12800x128 32) (x4 : IVec S400x128 32) (x5 : FVec F S400x128 .f32) (x6 : IVec S51200x128 32)

def gradOf : FVec F S51200x128 .f32 := grad (terms x2 (counts (columns x1)))
def stateOf : FVec F S51200 .f32 := state (bySlot (e := .f32) x5) (gradOf x1 x2)
def rowOf : FVec F S51200x128 .f32 := row (code x3) (half (bySlot (F := F) (e := .i32) x4)) (half (upper (bySlot (F := F) (e := .i32) x4)))
def newOf : FVec F S51200x128 .f32 := newRow (rowOf x3 x4) (stateOf x1 x2 x5) (gradOf x1 x2)
def scaleOf : FVec F S51200 .f32 := scale (low (newOf x1 x2 x3 x4 x5)) (high (newOf x1 x2 x3 x4 x5))
def codeOf : IVec S51200x128 8 := newCode (newOf x1 x2 x3 x4 x5) (low (newOf x1 x2 x3 x4 x5)) (scaleOf x1 x2 x3 x4 x5) x6
end

/-! ## What the operations leave, stage by stage -/

section
variable (V : Valuation τ sig (Elt F))

theorem madeA :
    after (opsA (F := F)) V (Proc.devRef .tc main_v24) = counts (columns (V (Proc.devRef .tc main_arg1))) := by
  (after_reads_simp; try rfl)

theorem keepsA :
    after (opsA (F := F)) V (Proc.devRef .tc main_arg2) = V (Proc.devRef .tc main_arg2)
    ∧ after (opsA (F := F)) V (Proc.devRef .tc main_arg3) = V (Proc.devRef .tc main_arg3)
    ∧ after (opsA (F := F)) V (Proc.devRef .tc main_arg4) = V (Proc.devRef .tc main_arg4)
    ∧ after (opsA (F := F)) V (Proc.devRef .tc main_arg5) = V (Proc.devRef .tc main_arg5)
    ∧ after (opsA (F := F)) V (Proc.devRef .tc main_arg6) = V (Proc.devRef .tc main_arg6) := by
  refine ⟨?_, ?_, ?_, ?_, ?_⟩ <;>
  after_reads_simp

theorem madeB :
    after (opsB (F := F)) V (Proc.devRef .tc main_v33) = grad (terms (V (Proc.devRef .tc main_arg2)) (V (Proc.devRef .tc main_v24))) := by
  (after_reads_simp; try rfl)

theorem keepsB :
    after (opsB (F := F)) V (Proc.devRef .tc main_arg3) = V (Proc.devRef .tc main_arg3)
    ∧ after (opsB (F := F)) V (Proc.devRef .tc main_arg4) = V (Proc.devRef .tc main_arg4)
    ∧ after (opsB (F := F)) V (Proc.devRef .tc main_arg5) = V (Proc.devRef .tc main_arg5)
    ∧ after (opsB (F := F)) V (Proc.devRef .tc main_arg6) = V (Proc.devRef .tc main_arg6) := by
  refine ⟨?_, ?_, ?_, ?_⟩ <;>
  after_reads_simp

theorem madeC :
    after (opsC (F := F)) V (Proc.devRef .tc main_v55) = code (V (Proc.devRef .tc main_arg3)) := by
  (after_reads_simp; try rfl)

theorem keepsC :
    after (opsC (F := F)) V (Proc.devRef .tc main_v33) = V (Proc.devRef .tc main_v33)
    ∧ after (opsC (F := F)) V (Proc.devRef .tc main_arg4) = V (Proc.devRef .tc main_arg4)
    ∧ after (opsC (F := F)) V (Proc.devRef .tc main_arg5) = V (Proc.devRef .tc main_arg5)
    ∧ after (opsC (F := F)) V (Proc.devRef .tc main_arg6) = V (Proc.devRef .tc main_arg6) := by
  refine ⟨?_, ?_, ?_, ?_⟩ <;>
  after_reads_simp

theorem madeD :
    after (opsD (F := F)) V (Proc.devRef .tc main_v58) = bySlot (F := F) (e := .i32) (V (Proc.devRef .tc main_arg4))
    ∧ after (opsD (F := F)) V (Proc.devRef .tc main_v96) = half (bySlot (F := F) (e := .i32) (V (Proc.devRef .tc main_arg4))) := by
  refine ⟨?_, ?_⟩ <;>
  (after_reads_simp; try rfl)

theorem keepsD :
    after (opsD (F := F)) V (Proc.devRef .tc main_v33) = V (Proc.devRef .tc main_v33)
    ∧ after (opsD (F := F)) V (Proc.devRef .tc main_v55) = V (Proc.devRef .tc main_v55)
    ∧ after (opsD (F := F)) V (Proc.devRef .tc main_arg5) = V (Proc.devRef .tc main_arg5)
    ∧ after (opsD (F := F)) V (Proc.devRef .tc main_arg6) = V (Proc.devRef .tc main_arg6) := by
  refine ⟨?_, ?_, ?_, ?_⟩ <;>
  after_reads_simp

theorem madeE :
    after (opsE (F := F)) V (Proc.devRef .tc main_v136) = half (upper (V (Proc.devRef .tc main_v58))) := by
  (after_reads_simp; try rfl)

theorem keepsE :
    after (opsE (F := F)) V (Proc.devRef .tc main_v33) = V (Proc.devRef .tc main_v33)
    ∧ after (opsE (F := F)) V (Proc.devRef .tc main_v55) = V (Proc.devRef .tc main_v55)
    ∧ after (opsE (F := F)) V (Proc.devRef .tc main_v96) = V (Proc.devRef .tc main_v96)
    ∧ after (opsE (F := F)) V (Proc.devRef .tc main_arg5) = V (Proc.devRef .tc main_arg5)
    ∧ after (opsE (F := F)) V (Proc.devRef .tc main_arg6) = V (Proc.devRef .tc main_arg6) := by
  refine ⟨?_, ?_, ?_, ?_, ?_⟩ <;>
  after_reads_simp

theorem madeF :
    after (opsF (F := F)) V (Proc.devRef .tc main_v143) = row (V (Proc.devRef .tc main_v55)) (V (Proc.devRef .tc main_v96)) (V (Proc.devRef .tc main_v136)) := by
  (after_reads_simp; try rfl)

theorem keepsF :
    after (opsF (F := F)) V (Proc.devRef .tc main_v33) = V (Proc.devRef .tc main_v33)
    ∧ after (opsF (F := F)) V (Proc.devRef .tc main_arg5) = V (Proc.devRef .tc main_arg5)
    ∧ after (opsF (F := F)) V (Proc.devRef .tc main_arg6) = V (Proc.devRef .tc main_arg6) := by
  refine ⟨?_, ?_, ?_⟩ <;>
  after_reads_simp

theorem madeG :
    after (opsG (F := F)) V (Proc.devRef .tc main_v151) = state (bySlot (F := F) (e := .f32) (V (Proc.devRef .tc main_arg5))) (V (Proc.devRef .tc main_v33)) := by
  (after_reads_simp; try rfl)

theorem keepsG :
    after (opsG (F := F)) V (Proc.devRef .tc main_v33) = V (Proc.devRef .tc main_v33)
    ∧ after (opsG (F := F)) V (Proc.devRef .tc main_v143) = V (Proc.devRef .tc main_v143)
    ∧ after (opsG (F := F)) V (Proc.devRef .tc main_arg6) = V (Proc.devRef .tc main_arg6) := by
  refine ⟨?_, ?_, ?_⟩ <;>
  after_reads_simp

theorem madeH :
    after (opsH (F := F)) V (Proc.devRef .tc main_v160) = newRow (V (Proc.devRef .tc main_v143)) (V (Proc.devRef .tc main_v151)) (V (Proc.devRef .tc main_v33)) := by
  (after_reads_simp; try rfl)

theorem keepsH :
    after (opsH (F := F)) V (Proc.devRef .tc main_v151) = V (Proc.devRef .tc main_v151)
    ∧ after (opsH (F := F)) V (Proc.devRef .tc main_arg6) = V (Proc.devRef .tc main_arg6) := by
  refine ⟨?_, ?_⟩ <;>
  after_reads_simp

theorem madeI :
    after (opsI (F := F)) V (Proc.devRef .tc main_v161) = low (V (Proc.devRef .tc main_v160))
    ∧ after (opsI (F := F)) V (Proc.devRef .tc main_v165) = scale (low (V (Proc.devRef .tc main_v160))) (high (V (Proc.devRef .tc main_v160)))
    ∧ after (opsI (F := F)) V (Proc.devRef .tc main_v186) = newCode (V (Proc.devRef .tc main_v160)) (low (V (Proc.devRef .tc main_v160))) (scale (low (V (Proc.devRef .tc main_v160))) (high (V (Proc.devRef .tc main_v160)))) (V (Proc.devRef .tc main_arg6)) := by
  refine ⟨?_, ?_, ?_⟩ <;>
  (after_reads_simp; try rfl)

theorem keepsI :
    after (opsI (F := F)) V (Proc.devRef .tc main_v151) = V (Proc.devRef .tc main_v151) := by
  after_reads_simp

theorem madeJ :
    after (opsJ (F := F)) V (Proc.devRef .tc main_v189) = packed (V (Proc.devRef .tc main_v165))
    ∧ after (opsJ (F := F)) V (Proc.devRef .tc main_v192) = packed (V (Proc.devRef .tc main_v161))
    ∧ after (opsJ (F := F)) V (Proc.devRef .tc main_v195) = packed (V (Proc.devRef .tc main_v151)) := by
  refine ⟨?_, ?_, ?_⟩ <;>
  (after_reads_simp; try rfl)

theorem keepsJ :
    after (opsJ (F := F)) V (Proc.devRef .tc main_v186) = V (Proc.devRef .tc main_v186) := by
  after_reads_simp

end

/-- What the whole reference leaves in its results. -/
theorem made (V : Valuation τ sig (Elt F)) :
    after (ops (F := F)) V (Proc.devRef .tc main_v186)
        = codeOf (V (Proc.devRef .tc main_arg1)) (V (Proc.devRef .tc main_arg2)) (V (Proc.devRef .tc main_arg3)) (V (Proc.devRef .tc main_arg4)) (V (Proc.devRef .tc main_arg5)) (V (Proc.devRef .tc main_arg6))
    ∧ after (ops (F := F)) V (Proc.devRef .tc main_v189)
        = packed (scaleOf (V (Proc.devRef .tc main_arg1)) (V (Proc.devRef .tc main_arg2)) (V (Proc.devRef .tc main_arg3)) (V (Proc.devRef .tc main_arg4)) (V (Proc.devRef .tc main_arg5)))
    ∧ after (ops (F := F)) V (Proc.devRef .tc main_v192)
        = packed (low (newOf (V (Proc.devRef .tc main_arg1)) (V (Proc.devRef .tc main_arg2)) (V (Proc.devRef .tc main_arg3)) (V (Proc.devRef .tc main_arg4)) (V (Proc.devRef .tc main_arg5))))
    ∧ after (ops (F := F)) V (Proc.devRef .tc main_v195)
        = packed (stateOf (V (Proc.devRef .tc main_arg1)) (V (Proc.devRef .tc main_arg2)) (V (Proc.devRef .tc main_arg5))) := by
  unfold ops
  simp only [after_append]
  have hA := madeA V
  have kA := keepsA V
  generalize after opsA V = A at hA kA ⊢
  have hB := madeB A
  have kB := keepsB A
  generalize after opsB A = B at hB kB ⊢
  have hC := madeC B
  have kC := keepsC B
  generalize after opsC B = C at hC kC ⊢
  have hD := madeD C
  have kD := keepsD C
  generalize after opsD C = D at hD kD ⊢
  have hE := madeE D
  have kE := keepsE D
  generalize after opsE D = E at hE kE ⊢
  have hF := madeF E
  have kF := keepsF E
  generalize after opsF E = F at hF kF ⊢
  have hG := madeG F
  have kG := keepsG F
  generalize after opsG F = G at hG kG ⊢
  have hH := madeH G
  have kH := keepsH G
  generalize after opsH G = H at hH kH ⊢
  have hI := madeI H
  have kI := keepsI H
  generalize after opsI H = I at hI kI ⊢
  have hJ := madeJ I
  have kJ := keepsJ I
  generalize after opsJ I = J at hJ kJ ⊢
  simp only [hJ, kJ, hI, kI, hH, kH, hG, kG, hF, kF, hE, kE, hD, kD, hC, kC, hB, kB, hA, kA]
  exact ⟨rfl, rfl, rfl, rfl⟩

end Cert.ReferenceIdeal.Hand

end
-- ==== Proof.RSlot.lean ====
module

public import proofs.«01_k».proof.Proof.Ref
public import proofs.«01_k».proof.Proof.Slot

@[expose] public section

set_option maxRecDepth 16384

noncomputable section

namespace Cert.ReferenceIdeal.Hand

open Cert.ReferenceIdeal.Gen Cert.Proof
open Idealize.ShloMosaic Idealize.ShloMosaic.TcCoe

/-! # The reference's slots, one by one -/

theorem half_at (h : IVec S51200 32) (s : Fin 51200) : half (F := Ideal) h (ix1 s) = halfNat ((h (ix1 s)).toNat % 65536) := by
  pointwise [half]
  exact half_valued _ _

theorem upper_at (h : IVec S51200 32) (s : Fin 51200) : (upper h (ix1 s)).toNat % 65536 = (h (ix1 s)).toNat / 65536 := by
  have e : upper h (ix1 s) = IntOp.shrsi .host (h (ix1 s)) 16#32 := by pointwise [upper]
  rw [e]; exact upper_shrsi _ _

theorem counts_at (x : IVec S56x51200 32) (b : Fin 224) (s : Fin 51200) :
    (counts x (ix2 b s)).toInt = ((x (ix2 ⟨b.val / 4, by omega⟩ s)).extractLsb' (8 * (b.val % 4)) 8).toInt := by
  obtain ⟨X, hX⟩ : ∃ X, counts x (ix2 b s) = X := ⟨_, rfl⟩
  rw [hX]
  pointwise [counts] at hX
  rw [← hX]
  split
  · exact (signed_byte _ _ _ 0 (by decide)).trans (congrArg (fun k => (BitVec.extractLsb' (8 * k) 8 _).toInt) (show 0 = b.val % 4 by omega))
  split
  · exact (signed_byte _ _ _ 1 (by decide)).trans (congrArg (fun k => (BitVec.extractLsb' (8 * k) 8 _).toInt) (show 1 = b.val % 4 by omega))
  split
  · exact (signed_byte _ _ _ 2 (by decide)).trans (congrArg (fun k => (BitVec.extractLsb' (8 * k) 8 _).toInt) (show 2 = b.val % 4 by omega))
  · exact (signed_byte _ _ _ 3 (by decide)).trans (congrArg (fun k => (BitVec.extractLsb' (8 * k) 8 _).toInt) (show 3 = b.val % 4 by omega))

theorem code_at (x : IVec S12800x128 32) (s : Fin 51200) (d : Fin 128) :
    (code x (ix2 s d)).toNat = (x (ix2 ⟨s.val / 4, by omega⟩ d)).toNat / 2 ^ (8 * (s.val % 4)) % 256 := by
  obtain ⟨X, hX⟩ : ∃ X, code x (ix2 s d) = X := ⟨_, rfl⟩
  rw [hX]
  pointwise [code] at hX
  rw [← hX]
  split
  · exact (field_shrsi _ _ 0#32 8 (by decide) (by decide) (by norm_num)).trans (congrArg (fun k => BitVec.toNat _ / 2 ^ (8 * k) % 256) (show 0 = s.val % 4 by omega))
  split
  · exact (field_shrsi _ _ 8#32 8 (by decide) (by decide) (by norm_num)).trans (congrArg (fun k => BitVec.toNat _ / 2 ^ (8 * k) % 256) (show 1 = s.val % 4 by omega))
  split
  · exact (field_shrsi _ _ 16#32 8 (by decide) (by decide) (by norm_num)).trans (congrArg (fun k => BitVec.toNat _ / 2 ^ (8 * k) % 256) (show 2 = s.val % 4 by omega))
  · exact (field_shrsi _ _ 24#32 8 (by decide) (by decide) (by norm_num)).trans (congrArg (fun k => BitVec.toNat _ / 2 ^ (8 * k) % 256) (show 3 = s.val % 4 by omega))

section
variable (x1 : IVec S56x51200 32) (x2 : FVec Ideal S384x224 .bf16) (x3 : IVec S12800x128 32) (x4 : IVec S400x128 32) (x5 : FVec Ideal S400x128 .f32)
  (x6 : IVec S51200x128 32)

/-- Slot `s`: what the reference reads for it. -/
def slot (s : Fin 51200) : Slot where
  terms := fun r b => x2 (ix2 r b)
  words := fun w => x1 (ix2 w ⟨s.val / 512 * 512 + s.val % 4 * 128 + s.val / 4 % 128, by omega⟩)
  qparam := x4 (ix2 ⟨s.val % 4 * 100 + s.val / 512, by omega⟩ ⟨s.val / 4 % 128, by omega⟩)
  old := x5 (ix2 ⟨s.val % 4 * 100 + s.val / 512, by omega⟩ ⟨s.val / 4 % 128, by omega⟩)
  place := ⟨s.val % 4, by omega⟩
  codes := fun d => x3 (ix2 ⟨s.val / 4, by omega⟩ d)
  rand := fun d => x6 (ix2 s d)

theorem columns_at (w : Fin 56) (s : Fin 51200) : columns x1 (ix2 w s) = (slot x1 x2 x3 x4 x5 x6 s).words w := by
  pointwise [columns]; rfl

theorem bySlot_i32_at (s : Fin 51200) : bySlot (F := Ideal) (e := .i32) x4 (ix1 s) = (slot x1 x2 x3 x4 x5 x6 s).qparam := by
  pointwise [bySlot]; rfl

theorem bySlot_f32_at (s : Fin 51200) : bySlot (F := Ideal) (e := .f32) x5 (ix1 s) = (slot x1 x2 x3 x4 x5 x6 s).old := by
  pointwise [bySlot]; rfl

theorem grad_at (s : Fin 51200) (d : Fin 128) : gradOf x1 x2 (ix2 s d) = (slot x1 x2 x3 x4 x5 x6 s).grad d := by
  have e : ∀ b : Fin 224, (FloatOps.sitofp (F := Ideal) FTy.f32 (counts (columns x1) (ix2 b s)) : EReal) = (slot x1 x2 x3 x4 x5 x6 s).count b := fun b => by
    show (((counts (columns x1) (ix2 b s)).toInt : ℝ) : EReal) = _
    rw [counts_at, columns_at x1 x2 x3 x4 x5 x6]; rfl
  pointwise [gradOf, grad, terms]
  simp only [e]
  rfl

theorem state_at (s : Fin 51200) : stateOf x1 x2 x5 (ix1 s) = (slot x1 x2 x3 x4 x5 x6 s).state := by
  pointwise [stateOf, state]
  rw [div_128, bySlot_f32_at x1 x2 x3 x4 x5 x6]
  simp only [grad_at x1 x2 x3 x4 x5 x6]
  rfl

theorem new_at (s : Fin 51200) (d : Fin 128) : newOf x1 x2 x3 x4 x5 (ix2 s d) = (slot x1 x2 x3 x4 x5 x6 s).row d := by
  pointwise [newOf, newRow, rowOf, row]
  rw [half_at, half_at, upper_at, bySlot_i32_at x1 x2 x3 x4 x5 x6, state_at x1 x2 x3 x4 x5 x6, grad_at x1 x2 x3 x4 x5 x6,
    sitofp_toNat _ _ (by rw [code_at]; omega), code_at]
  rfl

theorem low_at (s : Fin 51200) : low (newOf x1 x2 x3 x4 x5) (ix1 s) = (slot x1 x2 x3 x4 x5 x6 s).low := by
  pointwise [low]
  simp only [new_at x1 x2 x3 x4 x5 x6]
  rfl

theorem high_at (s : Fin 51200) : high (newOf x1 x2 x3 x4 x5) (ix1 s) = (slot x1 x2 x3 x4 x5 x6 s).high := by
  pointwise [high]
  simp only [new_at x1 x2 x3 x4 x5 x6]
  rfl

theorem scale_apply (l h : FVec Ideal S51200 .f32) (s : Fin 51200) :
    scale l h (ix1 s) = Ideal.div (h (ix1 s) - l (ix1 s)) (Ideal.ofBits .f32 1132396544#32) := by
  pointwise [scale]

theorem scale_at (s : Fin 51200) : scaleOf x1 x2 x3 x4 x5 (ix1 s) = (slot x1 x2 x3 x4 x5 x6 s).scale := by
  unfold scaleOf
  rw [scale_apply, high_at x1 x2 x3 x4 x5 x6, low_at x1 x2 x3 x4 x5 x6]
  rfl

theorem newCode_apply (w : FVec Ideal S51200x128 .f32) (l a : FVec Ideal S51200 .f32) (s : Fin 51200) (d : Fin 128) :
    newCode w l a x6 (ix2 s d) = (Ideal.fptosi 32 (min ((255 : ℝ) : EReal) (max 0 (Ideal.liftRound Int.floor
      ((w (ix2 s d) - l (ix1 s)) * Ideal.div 1 (a (ix1 s) + Ideal.ofBits .f32 841731191#32)
        + (((x6 (ix2 s d) >>> 8).toInt : ℝ) : EReal) * Ideal.ofBits .f32 864026624#32))))).setWidth 8 := by
  pointwise [newCode]
  rw [shrui_of_lt _ _ _ (by decide), ofBits_255]
  rfl

theorem codeOf_at (s : Fin 51200) (d : Fin 128) : codeOf x1 x2 x3 x4 x5 x6 (ix2 s d) = ((slot x1 x2 x3 x4 x5 x6 s).code d).setWidth 8 := by
  unfold codeOf
  rw [newCode_apply, new_at x1 x2 x3 x4 x5 x6, low_at x1 x2 x3 x4 x5 x6, scale_at x1 x2 x3 x4 x5 x6]
  rfl

theorem packed_at (x : FVec Ideal S51200 .f32) (r : Fin 400) (l : Fin 128) :
    packed x (ix2 r l) = x (ix1 ⟨r.val % 100 * 512 + l.val * 4 + r.val / 100, by omega⟩) := by
  pointwise [packed]

end

end Cert.ReferenceIdeal.Hand

end
-- ==== Proof.Reads.lean ====
module

public import proofs.«01_k».proof.Proof.Value
public import proofs.«01_k».proof.Proof.KSlot
public import proofs.«01_k».proof.Proof.RSlot
public import proofs.«01_k».proof.Proof.Blocks

@[expose] public section

set_option maxRecDepth 16384

noncomputable section

namespace Cert.KernelIdeal.Hand

open Cert.KernelIdeal.Gen Cert.Proof
open Idealize.ShloMosaic Idealize.ShloMosaic.TcCoe

/-! # What a group loads, read off the arrays -/

section
variable {F : FTy → Type} [FloatOps F] (m : (ℓ : Loc nD τ sig) → Buf (Elt F) ℓ) (c : Dev nD)

/-- The arrays. -/
abbrev arr1 : Vec F S56x51200 .i32 := m ((c.tc : Thread nD τ).loc main_arg1)
abbrev arr2 : Vec F S384x224 .bf16 := m ((c.tc : Thread nD τ).loc main_arg2)
abbrev arr3 : Vec F S12800x128 .i32 := m ((c.tc : Thread nD τ).loc main_arg3)
abbrev arr4 : Vec F S400x128 .i32 := m ((c.tc : Thread nD τ).loc main_arg4)
abbrev arr5 : Vec F S400x128 .f32 := m ((c.tc : Thread nD τ).loc main_arg5)
abbrev arr6 : Vec F S51200x128 .i32 := m ((c.tc : Thread nD τ).loc main_arg6)

variable (t : Fin cfg0.N)

/-- A step's blocks of the words, of the codes and of the random words follow one another; of the others each step has the
    whole array. -/
theorem blk1 (y : S56x2560.Idx) (z : S56x51200.Idx) (h0 : (z 0).val = (y 0).val) (h1 : (z 1).val = 2560 * t.val + (y 1).val) :
    iblk m c 1 t y = arr1 m c z := by
  have e : win0_1.index t = ![0, t.val] := (by decide +kernel : ∀ t : Fin grid0.N, win0_1.index t = ![0, t.val]) t
  unfold iblk
  rw [View.read_apply, cast_eq]
  refine congrArg (arr1 m c) (funext fun a => Fin.ext ?_)
  match a with
  | ⟨0, _⟩ => blk_simp [e]; simp [h0]
  | ⟨1, _⟩ => blk_simp [e]; simp [h1]; omega

theorem blk2 (y z : S384x224.Idx) (h0 : (z 0).val = (y 0).val) (h1 : (z 1).val = (y 1).val) : iblk m c 2 t y = arr2 m c z := by
  have e : win0_2.index t = ![0, 0] := (by decide +kernel : ∀ t : Fin grid0.N, win0_2.index t = ![0, 0]) t
  unfold iblk
  rw [View.read_apply, cast_eq]
  refine congrArg (arr2 m c) (funext fun a => Fin.ext ?_)
  match a with
  | ⟨0, _⟩ => blk_simp [e]; simp [h0]
  | ⟨1, _⟩ => blk_simp [e]; simp [h1]

theorem blk3 (y : S640x128.Idx) (z : S12800x128.Idx) (h0 : (z 0).val = 640 * t.val + (y 0).val) (h1 : (z 1).val = (y 1).val) :
    iblk m c 3 t y = arr3 m c z := by
  have e : win0_3.index t = ![t.val, 0] := (by decide +kernel : ∀ t : Fin grid0.N, win0_3.index t = ![t.val, 0]) t
  unfold iblk
  rw [View.read_apply, cast_eq]
  refine congrArg (arr3 m c) (funext fun a => Fin.ext ?_)
  match a with
  | ⟨0, _⟩ => blk_simp [e]; simp [h0]; omega
  | ⟨1, _⟩ => blk_simp [e]; simp [h1]

theorem blk4 (y z : S400x128.Idx) (h0 : (z 0).val = (y 0).val) (h1 : (z 1).val = (y 1).val) : iblk m c 4 t y = arr4 m c z := by
  have e : win0_4.index t = ![0, 0] := (by decide +kernel : ∀ t : Fin grid0.N, win0_4.index t = ![0, 0]) t
  unfold iblk
  rw [View.read_apply, cast_eq]
  refine congrArg (arr4 m c) (funext fun a => Fin.ext ?_)
  match a with
  | ⟨0, _⟩ => blk_simp [e]; simp [h0]
  | ⟨1, _⟩ => blk_simp [e]; simp [h1]

theorem blk5 (y z : S400x128.Idx) (h0 : (z 0).val = (y 0).val) (h1 : (z 1).val = (y 1).val) : iblk m c 5 t y = arr5 m c z := by
  have e : win0_5.index t = ![0, 0] := (by decide +kernel : ∀ t : Fin grid0.N, win0_5.index t = ![0, 0]) t
  unfold iblk
  rw [View.read_apply, cast_eq]
  refine congrArg (arr5 m c) (funext fun a => Fin.ext ?_)
  match a with
  | ⟨0, _⟩ => blk_simp [e]; simp [h0]
  | ⟨1, _⟩ => blk_simp [e]; simp [h1]

theorem blk6 (y : S2560x128.Idx) (z : S51200x128.Idx) (h0 : (z 0).val = 2560 * t.val + (y 0).val) (h1 : (z 1).val = (y 1).val) :
    iblk m c 6 t y = arr6 m c z := by
  have e : win0_6.index t = ![t.val, 0] := (by decide +kernel : ∀ t : Fin grid0.N, win0_6.index t = ![t.val, 0]) t
  unfold iblk
  rw [View.read_apply, cast_eq]
  refine congrArg (arr6 m c) (funext fun a => Fin.ext ?_)
  match a with
  | ⟨0, _⟩ => blk_simp [e]; simp [h0]; omega
  | ⟨1, _⟩ => blk_simp [e]; simp [h1]

/-! ## Each load -/

variable (g : Fin 5)

theorem words_at (o : ℕ) (h : o ≤ 2304) (w : Fin 56) (l : Fin 256) (k : Fin 51200) (hk : k.val = 2560 * t.val + o + l.val) :
    iblk m c 1 t ((cntRect o h).toLoadRect.idx (ix2 w l)) = arr1 m c (ix2 w k) :=
  blk1 m c t _ _ (show w.val = 0 + 1 * w.val by omega) (show k.val = 2560 * t.val + (o + 1 * l.val) by omega)

theorem row4_at (j : Fin 4) (q : Fin 128) (r : Fin 400) (hr : r.val = 100 * j.val + 5 * t.val + g.val) :
    iblk m c 4 t ((rowRect (grid0.coords t) j g).toLoadRect.idx (ix2 0 q)) = arr4 m c (ix2 r q) :=
  blk4 m c t _ _ (hr.trans ((congrArg (fun n => 100 * j.val + 5 * n + g.val) (coords_val t)).symm.trans
    (rowRect_emb0 (grid0.coords t) j g (ix2 0 q)).symm)) (rowRect_emb1 (grid0.coords t) j g (ix2 0 q)).symm

theorem row5_at (j : Fin 4) (q : Fin 128) (r : Fin 400) (hr : r.val = 100 * j.val + 5 * t.val + g.val) :
    iblk m c 5 t ((rowRect (grid0.coords t) j g).toLoadRect.idx (ix2 0 q)) = arr5 m c (ix2 r q) :=
  blk5 m c t _ _ (hr.trans ((congrArg (fun n => 100 * j.val + 5 * n + g.val) (coords_val t)).symm.trans
    (rowRect_emb0 (grid0.coords t) j g (ix2 0 q)).symm)) (rowRect_emb1 (grid0.coords t) j g (ix2 0 q)).symm

theorem code_at (q d : Fin 128) (r : Fin 12800) (hr : r.val = 640 * t.val + 128 * g.val + q.val) :
    iblk m c 3 t ((codeRect g).toLoadRect.idx (ix2 q d)) = arr3 m c (ix2 r d) :=
  blk3 m c t _ _ (show r.val = 640 * t.val + (128 * g.val + 1 * q.val) by omega) (show d.val = 0 + 1 * d.val by omega)

theorem rand_at (j : Fin 4) (q d : Fin 128) (s : Fin 51200) (hs : s.val = 2560 * t.val + 512 * g.val + 4 * q.val + j.val) :
    iblk m c 6 t ((randRect g j).idx (ix2 q d)) = arr6 m c (ix2 s d) :=
  blk6 m c t _ _ (show s.val = 2560 * t.val + (512 * g.val + j.val + 4 * q.val) by omega) (show d.val = 0 + 1 * d.val by omega)

end

/-! ## Each slot -/

/-- The number of the slot in lane `q` of tile `j` of group `g` of step `t`. -/
def slotNo (t : Fin cfg0.N) (g : Fin 5) (j : Fin 4) (q : Fin 128) : Fin 51200 :=
  ⟨512 * (5 * t.val + g.val) + 4 * q.val + j.val, by have h : t.val < 20 := t.isLt; omega⟩

variable (m : (ℓ : Loc nD τ sig) → Buf (Elt Ideal) ℓ) (c : Dev nD)

/-- What the reference reads for slot `s`, of the kernel's arrays. -/
abbrev refSlot (s : Fin 51200) : Slot :=
  Cert.ReferenceIdeal.Hand.slot (arr1 m c) (arr2 m c) (arr3 m c) (arr4 m c) (arr5 m c) (arr6 m c) s

/-- The kernel loads for a slot what the reference reads for it. -/
theorem slot_eq (t : Fin cfg0.N) (g : Fin 5) (j : Fin 4) (q : Fin 128) : (ld m c t g).slot j q = refSlot m c (slotNo t g j q) := by
  have ht : t.val < 20 := t.isLt
  have hg := g.isLt
  have hj := j.isLt
  have hq := q.isLt
  have hn : (slotNo t g j q).val = 512 * (5 * t.val + g.val) + 4 * q.val + j.val := rfl
  refine Slot.ext ?_ ?_ ?_ ?_ ?_ ?_ ?_
  · funext r b
    show (if h : r.val < 128 then _ else if h : r.val - 128 < 128 then _ else _) = arr2 m c (ix2 r b)
    split
    · exact blk2 m c t _ _ (show r.val = 0 + 1 * r.val by omega) (show b.val = 0 + 1 * b.val by omega)
    split
    · exact blk2 m c t _ _ (show r.val = 128 + 1 * (r.val - 128) by omega) (show b.val = 0 + 1 * b.val by omega)
    · exact blk2 m c t _ _ (show r.val = 256 + 1 * (r.val - 256) by omega) (show b.val = 0 + 1 * b.val by omega)
  · funext w
    show _ = arr1 m c (ix2 w ⟨(slotNo t g j q).val / 512 * 512 + (slotNo t g j q).val % 4 * 128 + (slotNo t g j q).val / 4 % 128, _⟩)
    match j with
    | 0 => exact words_at m c t _ _ w _ _ (by dsimp only; simp at hn ⊢; omega)
    | 1 => exact words_at m c t _ _ w _ _ (by dsimp only; simp at hn ⊢; omega)
    | 2 => exact words_at m c t _ _ w _ _ (by dsimp only; simp at hn ⊢; omega)
    | 3 => exact words_at m c t _ _ w _ _ (by dsimp only; simp at hn ⊢; omega)
  · have hl : (slotNo t g j q).val / 4 % 128 = q.val := by omega
    have e := fun r hr => row4_at m c t g j q r hr
    show _ = arr4 m c (ix2 ⟨(slotNo t g j q).val % 4 * 100 + (slotNo t g j q).val / 512, _⟩ ⟨(slotNo t g j q).val / 4 % 128, _⟩)
    rw [show (⟨(slotNo t g j q).val / 4 % 128, by omega⟩ : Fin 128) = q from Fin.ext hl, ← e _ (by dsimp only; omega)]
    match j with | 0 => rfl | 1 => rfl | 2 => rfl | 3 => rfl
  · have hl : (slotNo t g j q).val / 4 % 128 = q.val := by omega
    have e := fun r hr => row5_at m c t g j q r hr
    show _ = arr5 m c (ix2 ⟨(slotNo t g j q).val % 4 * 100 + (slotNo t g j q).val / 512, _⟩ ⟨(slotNo t g j q).val / 4 % 128, _⟩)
    rw [show (⟨(slotNo t g j q).val / 4 % 128, by omega⟩ : Fin 128) = q from Fin.ext hl, ← e _ (by dsimp only; omega)]
    match j with | 0 => rfl | 1 => rfl | 2 => rfl | 3 => rfl
  · exact Fin.ext (show j.val = (slotNo t g j q).val % 4 by omega)
  · funext d
    exact code_at m c t g q d _ (show (slotNo t g j q).val / 4 = _ by omega)
  · funext d
    show _ = arr6 m c (ix2 (slotNo t g j q) d)
    rw [← rand_at m c t g j q d (slotNo t g j q) (by omega)]
    match j with | 0 => rfl | 1 => rfl | 2 => rfl | 3 => rfl

end Cert.KernelIdeal.Hand

end
-- ==== Proof.Final.lean ====
module

public import proofs.«01_k».proof.Proof.Reads
public import proofs.«01_k».proof.Proof.Frames

@[expose] public section

set_option maxRecDepth 16384

noncomputable section

namespace Cert.KernelIdeal.Hand

open Cert.KernelIdeal.Gen Cert.Proof
open Idealize.ShloMosaic Idealize.ShloMosaic.TcCoe Idealize.SL.Sem

/-! # What the kernel leaves in the result arrays -/

variable (m : (ℓ : Loc nD τ sig) → Buf (Elt Ideal) ℓ) (c : Dev nD)

/-- Each slot's codes, in slot order. -/
def finalCodes : Vec Ideal S51200x128 .i8 := fun y => ((refSlot m c ⟨(y 0).val, (y 0).isLt⟩).code ⟨(y 1).val, (y 1).isLt⟩).setWidth 8

/-- A number of each slot, in the packed order: slot `512 G + 4 l + j` at row `100 j + G`, lane `l`. -/
def finalRows (f : Slot → EReal) : Vec Ideal S400x128 .f32 := fun y =>
  f (refSlot m c ⟨(y 0).val % 100 * 512 + (y 1).val * 4 + (y 0).val / 100, by
    have h0 : (y 0).val < 400 := (y 0).isLt
    have h1 : (y 1).val < 128 := (y 1).isLt
    omega⟩)

theorem slotNo_row (y : S400x128.Idx) (j : Fin 4) (hj : j.val = (y 0).val / 100) :
    (slotNo (pointOf y) (groupOf y) j (y 1)).val = (y 0).val % 100 * 512 + (y 1).val * 4 + (y 0).val / 100 := by
  show 512 * (5 * ((y 0).val % 100 / 5) + (y 0).val % 5) + 4 * (y 1).val + j.val = _
  omega

theorem scalesAll_eq : scalesAll m c = finalRows m c Slot.scale := funext fun y =>
  (Loads.newScale_at _ _ _).trans ((congrArg Slot.scale (slot_eq m c _ _ _ _)).trans
    (congrArg (fun s => (refSlot m c s).scale) (Fin.ext (slotNo_row y _ rfl))))

theorem biasesAll_eq : biasesAll m c = finalRows m c Slot.low := funext fun y =>
  (Loads.newBias_at _ _ _).trans ((congrArg Slot.low (slot_eq m c _ _ _ _)).trans
    (congrArg (fun s => (refSlot m c s).low) (Fin.ext (slotNo_row y _ rfl))))

theorem statesAll_eq : statesAll m c = finalRows m c Slot.state := funext fun y =>
  (Loads.state_at _ _ _).trans ((congrArg Slot.state (slot_eq m c _ _ _ _)).trans
    (congrArg (fun s => (refSlot m c s).state) (Fin.ext (slotNo_row y _ rfl))))

/-- The codes a step makes are those of its slots. -/
theorem codesOf_at (t : Fin cfg0.N) (y : S2560x128.Idx) (z : S51200x128.Idx) (h0 : (z 0).val = 2560 * t.val + (y 0).val)
    (h1 : (z 1).val = (y 1).val) : codesOf (ld m c t) y = finalCodes m c z := by
  have hy : (y 0).val < 2560 := (y 0).isLt
  unfold codesOf
  rw [Loads.out_at _ ⟨(y 0).val % 512, by omega⟩ (y 1) ⟨(y 0).val % 512 % 4, by omega⟩ ⟨(y 0).val % 512 / 4, by omega⟩ (by dsimp only; omega), slot_eq]
  unfold finalCodes
  rw [show slotNo t ⟨(y 0).val / 512, by omega⟩ ⟨(y 0).val % 512 % 4, by omega⟩ ⟨(y 0).val % 512 / 4, by omega⟩ = ⟨(z 0).val, (z 0).isLt⟩ from
      Fin.ext (show 512 * (5 * t.val + (y 0).val / 512) + 4 * ((y 0).val % 512 / 4) + (y 0).val % 512 % 4 = (z 0).val by omega),
    show (⟨(z 1).val, (z 1).isLt⟩ : Fin 128) = y 1 from Fin.ext h1]

/-- What is left in the codes' window at a point is the step's codes, -/
theorem left_codes (t : Fin cfg0.N) (X) (h : (rdat m c).Leaves 7 t X) : X = codesOf (ld m c t) := by
  obtain ⟨_, _, hX⟩ := h
  rw [Pipeline.Dat.toRRel_after_of_eq_false _ rfl] at hX
  exact Eq.trans hX (after0_7 m c t)

/-- and goes to rows `2560 t` and on. -/
theorem placed_codes (t : Fin cfg0.N) (X : Vec Ideal S2560x128 .i8) (G : Vec Ideal S51200x128 .i8)
    (h : ∀ (y : S2560x128.Idx) (z : S51200x128.Idx), (z 0).val = 2560 * t.val + (y 0).val → (z 1).val = (y 1).val → X y = G z)
    (y : ((cfg0.win 7).xblock (cfg0.grid.coords t)).Idx) :
    _root_.cast (congrArg (Elt Ideal) ((cfg0.win 7).blk t).view.elt_eq.symm) (X ((cfg0.win 7).xinj (cfg0.grid.coords t) y))
      = G (((cfg0.win 7).blk t).view.emb y) := by
  have e : win0_7.index t = ![t.val, 0] := (by decide +kernel : ∀ t : Fin grid0.N, win0_7.index t = ![t.val, 0]) t
  refine h _ _ ?_ ?_
  · blk_simp [e]; simp; omega
  · blk_simp [e]

/-! ## The arrays after the run -/

variable (r : PUnit × MemSt nD τ sig (Elt Ideal)) (h : Pipeline.RDat.FramePost (cfgs 0) (rdat m) (V m) r)

include h

theorem final_codes : r.2.mem ((c.tc : Thread nD τ).loc main_v0_0) = finalCodes m c := by
  obtain ⟨after, hL, hA⟩ := h.exists_exact c
  refine (hA 7).trans (Pipeline.Dat.arrAt_eq_of_covers _ 7 _ (by decide +kernel) fun t hf y => ?_)
  rw [Pipeline.RDat.withAfter_after, left_codes m c t _ (hL 7 t hf)]
  exact placed_codes t _ _ (fun y z h0 h1 => codesOf_at m c t y z h0 h1) y

theorem final_scales : r.2.mem ((c.tc : Thread nD τ).loc main_v0_1) = finalRows m c Slot.scale := by
  obtain ⟨X, hX, hj⟩ := Pipeline.RDat.ArrAt.emb_eq_of_wholeAt ((h c).1 8) (t₀ := ⟨19, by decide⟩) (by decide +kernel)
  have hk := (dats m 0 c).toRRel_leaves (fgt := grows0) rfl hX
  funext y
  refine (hj y).trans ?_
  rw [← scalesAll_eq]
  exact hk y (by show _ < 5 * (19 + 1); omega)

theorem final_biases : r.2.mem ((c.tc : Thread nD τ).loc main_v0_2) = finalRows m c Slot.low := by
  obtain ⟨X, hX, hj⟩ := Pipeline.RDat.ArrAt.emb_eq_of_wholeAt ((h c).1 9) (t₀ := ⟨19, by decide⟩) (by decide +kernel)
  have hk := (dats m 0 c).toRRel_leaves (fgt := grows0) rfl hX
  funext y
  refine (hj y).trans ?_
  rw [← biasesAll_eq]
  exact hk y (by show _ < 5 * (19 + 1); omega)

theorem final_states : r.2.mem ((c.tc : Thread nD τ).loc main_v0_3) = finalRows m c Slot.state := by
  obtain ⟨X, hX, hj⟩ := Pipeline.RDat.ArrAt.emb_eq_of_wholeAt ((h c).1 10) (t₀ := ⟨19, by decide⟩) (by decide +kernel)
  have hk := (dats m 0 c).toRRel_leaves (fgt := grows0) rfl hX
  funext y
  refine (hj y).trans ?_
  rw [← statesAll_eq]
  exact hk y (by show _ < 5 * (19 + 1); omega)

omit h

/-! ## The reference's arrays -/

theorem ref_codes : Cert.ReferenceIdeal.Hand.codeOf (arr1 m c) (arr2 m c) (arr3 m c) (arr4 m c) (arr5 m c) (arr6 m c) = finalCodes m c := by
  funext y
  obtain ⟨s, d, rfl⟩ : ∃ (s : Fin 51200) (d : Fin 128), y = ix2 s d := ⟨_, _, eq_ix2 y⟩
  exact Cert.ReferenceIdeal.Hand.codeOf_at _ _ _ _ _ _ s d

/-- A number of each slot, packed by the reference. -/
theorem ref_rows (x : FVec Ideal Cert.ReferenceIdeal.S51200 .f32) (f : Slot → EReal) (hx : ∀ s : Fin 51200, x (ix1 s) = f (refSlot m c s)) :
    Cert.ReferenceIdeal.Hand.packed x = finalRows m c f := by
  funext y
  obtain ⟨a, l, rfl⟩ : ∃ (a : Fin 400) (l : Fin 128), y = ix2 a l := ⟨_, _, eq_ix2 y⟩
  exact (Cert.ReferenceIdeal.Hand.packed_at x a l).trans (hx _)

end Cert.KernelIdeal.Hand

namespace Cert.Proof

open Idealize.ShloMosaic Idealize.ShloMosaic.TcCoe Idealize.SL.Sem Idealize.ShloMosaic.StableHlo

/-- The reference's run: its results as the functions of its arguments that they are. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD, ∀ b, r.2.mem ((c.tc : Thread Cert.ReferenceIdeal.nD Cert.ReferenceIdeal.τ).loc b)
        = after Cert.ReferenceIdeal.Hand.ops (launchContents m c) (Proc.devRef .tc b)) := Cert.ReferenceIdeal.Hand.run_ops m g

/-- The kernel's results, given to the reference. -/
theorem algebraic : Cert.algebraic_KernelIdeal_ReferenceIdeal := by
  intro m g m' g' hpre hagree
  refine ⟨fun c => Cert.KernelIdeal.Hand.finalCodes m c, fun c => Cert.KernelIdeal.Hand.finalRows m c Slot.scale,
    fun c => Cert.KernelIdeal.Hand.finalRows m c Slot.low, fun c => Cert.KernelIdeal.Hand.finalRows m c Slot.state, ?_, ?_⟩
  · refine (θ_run Cert.KernelIdeal.defs _ _).mono (fun r h c => ?_)
      (θ_run_and (Cert.KernelIdeal.Hand.run_main m g (noCarry_ideal m hpre)) (Cert.KernelIdeal.Hand.unchanged m g (noCarry_ideal m hpre)))
    exact ⟨Cert.KernelIdeal.Hand.final_codes m c r h.1, Cert.KernelIdeal.Hand.final_scales m c r h.1,
      Cert.KernelIdeal.Hand.final_biases m c r h.1, Cert.KernelIdeal.Hand.final_states m c r h.1, h.2 c⟩
  · refine (θ_run Cert.ReferenceIdeal.defs _ _).mono (fun r h c => ?_)
      (θ_run_and (run_reference m' g') (unchanged_reference m' g'))
    obtain ⟨a0, a1, a2, a3, a4, a5, a6⟩ := hagree c
    obtain ⟨h0, h1, h2, h3⟩ := Cert.ReferenceIdeal.Hand.made (F := Ideal) (launchContents m' c)
    have e1 : launchContents m' c (Proc.devRef .tc Cert.ReferenceIdeal.main_arg1) = Cert.KernelIdeal.Hand.arr1 m c := a1
    have e2 : launchContents m' c (Proc.devRef .tc Cert.ReferenceIdeal.main_arg2) = Cert.KernelIdeal.Hand.arr2 m c := a2
    have e3 : launchContents m' c (Proc.devRef .tc Cert.ReferenceIdeal.main_arg3) = Cert.KernelIdeal.Hand.arr3 m c := a3
    have e4 : launchContents m' c (Proc.devRef .tc Cert.ReferenceIdeal.main_arg4) = Cert.KernelIdeal.Hand.arr4 m c := a4
    have e5 : launchContents m' c (Proc.devRef .tc Cert.ReferenceIdeal.main_arg5) = Cert.KernelIdeal.Hand.arr5 m c := a5
    have e6 : launchContents m' c (Proc.devRef .tc Cert.ReferenceIdeal.main_arg6) = Cert.KernelIdeal.Hand.arr6 m c := a6
    rw [e1, e2, e3, e4, e5, e6] at h0
    rw [e1, e2, e3, e4, e5] at h1 h2
    rw [e1, e2, e5] at h3
    refine ⟨(h.1 c _).trans (h0.trans (Cert.KernelIdeal.Hand.ref_codes m c)), (h.1 c _).trans (h1.trans (Cert.KernelIdeal.Hand.ref_rows m c _ _ ?_)),
      (h.1 c _).trans (h2.trans (Cert.KernelIdeal.Hand.ref_rows m c _ _ ?_)), (h.1 c _).trans (h3.trans (Cert.KernelIdeal.Hand.ref_rows m c _ _ ?_)), h.2 c⟩
    · exact fun s => Cert.ReferenceIdeal.Hand.scale_at _ _ _ _ _ (Cert.KernelIdeal.Hand.arr6 m c) s
    · exact fun s => Cert.ReferenceIdeal.Hand.low_at _ _ _ _ _ (Cert.KernelIdeal.Hand.arr6 m c) s
    · exact fun s => Cert.ReferenceIdeal.Hand.state_at _ _ (Cert.KernelIdeal.Hand.arr3 m c) (Cert.KernelIdeal.Hand.arr4 m c) _ (Cert.KernelIdeal.Hand.arr6 m c) s

end Cert.Proof

end
-- ==== Proof.Terms.lean ====
module

public import Idealize.ShloMosaic.Lib.Pointwise
public import Idealize.ShloMosaic.Lib.Pipeline.ValueKit

@[expose] public section

set_option maxRecDepth 16384

noncomputable section

/-! # The bags' gradients, turned and padded; three arrays one below another

What the kernel and the reference of the `split` call have in common, said of any arrays. -/

namespace Cert.Terms

open Idealize.ShloMosaic Idealize.ShloMosaic.TcCoe

variable {F : FTy → Type} [FloatOps F]

local notation "S200x128" => (⟨2, ![200, 128]⟩ : Shape)
local notation "S224x128" => (⟨2, ![224, 128]⟩ : Shape)
local notation "S128x200" => (⟨2, ![128, 200]⟩ : Shape)
local notation "S128x24" => (⟨2, ![128, 24]⟩ : Shape)
local notation "S128x224" => (⟨2, ![128, 224]⟩ : Shape)
local notation "S384x224" => (⟨2, ![384, 224]⟩ : Shape)

/-- The gradients with one column for each bag, and zeros in the columns from 200 on. -/
def columns (x : FVec F S200x128 .f32) : FVec F S128x224 .f32 := fun y =>
  if h : (y 1).val < 200 then x (ix2 ⟨(y 1).val, h⟩ (y 0)) else Scalar.ofBits .f32 0x00000000#32

/-- A transpose with 24 columns of zeros after it is `columns`. -/
theorem columns_concat (x : FVec F S200x128 .f32) (h₁ : Shape.Transposes S200x128 [1, 0] S128x200) (h₂ : Shape.BroadcastsInDim ⟨0, ![]⟩ S128x24 ![])
    (h₃ : Shape.Concatenates [S128x200, S128x24] S128x224 1) :
    concatenate S128x224 1 [⟨S128x200, transpose S128x200 [1, 0] x h₁⟩,
      ⟨S128x24, broadcastInDim S128x24 ![] h₂ (constant ⟨0, ![]⟩ .f32 0x00000000#32)⟩] h₃ = columns x := by
  funext y
  rw [eq_ix2 y]
  unfold columns
  by_cases h : (y 1).val < 200
  · pointwise
  · pointwise

/-- Three arrays stored one below another are their concatenation. -/
theorem canon_stack (a b c : FVec F S128x224 .bf16) (hc) (h₀) (h₁) (h₂) (y : Shape.Idx S384x224) :
    View.canon (Val := Elt F) (e := .bf16) [⟨Rect.unit (s := S384x224) ![256, 0] ![128, 224] h₂, c⟩, ⟨Rect.unit (s := S384x224) ![128, 0] ![128, 224] h₁, b⟩,
      ⟨Rect.unit (s := S384x224) ![0, 0] ![128, 224] h₀, a⟩] y
    = concatenate S384x224 0 [⟨S128x224, a⟩, ⟨S128x224, b⟩, ⟨S128x224, c⟩] hc y := by
  have hy0 : (y 0).val < 384 := (y 0).isLt
  have hy1 : (y 1).val < 224 := (y 1).isLt
  have cover : ∃ p ∈ ([⟨Rect.unit (s := S384x224) ![256, 0] ![128, 224] h₂, c⟩, ⟨Rect.unit (s := S384x224) ![128, 0] ![128, 224] h₁, b⟩,
      ⟨Rect.unit (s := S384x224) ![0, 0] ![128, 224] h₀, a⟩] : List (View.Piece (Elt F) S384x224 .bf16)), y ∈ p.1.set := by
    simp only [List.mem_cons, List.not_mem_nil, or_false, exists_eq_or_imp, exists_eq_left, Rect.mem_set_unit, Fin.forall_fin_two,
      Matrix.cons_val_zero, Matrix.cons_val_one]
    omega
  canon_tiles x h using cover
  all_goals
    obtain ⟨r, l, rfl⟩ : ∃ (r : Fin 128) (l : Fin 224), x = ix2 r l := ⟨x 0, x 1, eq_ix2 x⟩
    obtain ⟨r', l', rfl⟩ : ∃ (r' : Fin 384) (l' : Fin 224), y = ix2 r' l' := ⟨y 0, y 1, eq_ix2 y⟩
    obtain rfl : l' = l := Fin.ext h1
    have hr := r.isLt
  · rw [show r' = ⟨256 + r.val, by omega⟩ from Fin.ext h0]
    pointwise
    rw [dif_neg (by omega), dif_neg (by omega)]
    exact congrArg c (congrArg₂ ix2 (Fin.ext (show r.val = 256 + r.val - 128 - 128 by omega)) rfl)
  · rw [show r' = ⟨128 + r.val, by omega⟩ from Fin.ext h0]
    pointwise
  · rw [show r' = ⟨r.val, by omega⟩ from Fin.ext h0]
    pointwise

/-- What both programs make of the gradients: the rounded columns, what the rounding left, rounded, and what that left, one
    below another. -/
def terms (x : FVec F S200x128 .f32) (hb : FTy.bits .bf16 < FTy.bits .f32)
    (hc : Shape.Concatenates [S128x224, S128x224, S128x224] S384x224 0) : FVec F S384x224 .bf16 :=
  concatenate S384x224 0 [⟨S128x224, truncf .bf16 (columns x) hb⟩,
    ⟨S128x224, truncf .bf16 (subf (columns x) (extf .f32 (truncf .bf16 (columns x) hb) hb)) hb⟩,
    ⟨S128x224, truncf .bf16 (subf (subf (columns x) (extf .f32 (truncf .bf16 (columns x) hb) hb))
      (extf .f32 (truncf .bf16 (subf (columns x) (extf .f32 (truncf .bf16 (columns x) hb) hb)) hb) hb)) hb⟩] hc

/-- The scratch buffer, filled with zeros, then its first 200 rows with the gradients, read whole and turned: `columns`. -/
theorem columns_scratch (x : FVec F S200x128 .f32) {sig : RefSig} {κ : Kind} {sp : Space} (v : View sig κ sp S224x128 .f32)
    (z : FVec F S224x128 .f32) (hz : ∀ i, z i = Scalar.ofBits .f32 0x00000000#32) (h₀) (h₁) (h₂) (h₃ : Shape.Transposes S224x128 [1, 0] S128x224) :
    transpose S128x224 [1, 0] (v.readCov (Val := Elt F) [⟨Rect.unit (s := S224x128) ![0, 0] ![200, 128] h₁, x⟩,
      ⟨Rect.unit (s := S224x128) ![0, 0] ![224, 128] h₀, z⟩] (Rect.unit (s := S224x128) ![0, 0] ![224, 128] h₂).toLoadRect) h₃
    = columns x := by
  rw [View.readCov_eq_canon']
  funext y
  rw [eq_ix2 y]
  unfold columns
  have hy0 : (y 0).val < 128 := (y 0).isLt
  have hy1 : (y 1).val < 224 := (y 1).isLt
  pointwise
  by_cases h : (y 1).val < 200
  · rw [dif_pos h]
    have ey : (ix2 (y 1) (y 0) : Shape.Idx S224x128) = (Rect.unit (s := S224x128) ![0, 0] ![200, 128] h₁).emb (ix2 ⟨(y 1).val, h⟩ (y 0)) := by
      funext a
      match a with
      | ⟨0, _⟩ => exact Fin.ext (by rw [Rect.emb_apply]; simp)
      | ⟨1, _⟩ => exact Fin.ext (by rw [Rect.emb_apply]; simp)
    rw [ey]
    exact View.canon_cons_emb _ _ _ _
  · rw [dif_neg h, View.canon_cons_of_not_mem _ _ (by
      rw [Rect.mem_set_unit]
      intro hm
      exact h (by simpa using (hm 0).2)), View.canon_cons_unit_lit _ _ _ (by decide)]
    exact hz _

end Cert.Terms

end
-- ==== Proof.Split.lean ====
module

public import proofs.«01_k».proof.Defs
public import proofs.«01_k».proof.Proof.Gen.Split.Value
public import proofs.«01_k».proof.Proof.Gen.SplitReference.Run
public import proofs.«01_k».proof.Proof.Terms
public import Idealize.ShloMosaic.Lib.Pipeline.ReadBack
public import Idealize.ShloMosaic.Lib.Quiescent

@[expose] public section

set_option maxRecDepth 16384

noncomputable section

/-! # The `split` call at bits: the kernel's array and the reference's -/

namespace Cert.Split.Hand

open Cert.Split.Gen
open Idealize.ShloMosaic Idealize.ShloMosaic.TcCoe Idealize.SL.Sem

variable {F : FTy → Type} [FloatOps F] (m : (ℓ : Loc nD τ sig) → Buf (Elt F) ℓ) (c : Dev nD)

/-- Three arrays of 128 rows are one of 384. -/
theorem three_rows : Shape.Concatenates [S128x224, S128x224, S128x224] S384x224 0 := by decide

/-- The input window is the whole array. -/
theorem blk (t : Fin cfg0.N) : (iblk m c 0 t : Vec F S200x128 .f32) = m ((c.tc : Thread nD τ).loc main_arg0) := by
  funext y
  unfold iblk
  rw [View.read_apply, cast_eq]
  have e : win0_0.index t = ![0, 0] := (by decide +kernel : ∀ t : Fin grid0.N, win0_0.index t = ![0, 0]) t
  refine congrArg (m ((c.tc : Thread nD τ).loc main_arg0)) (funext fun a => Fin.ext ?_)
  match a with
  | ⟨0, _⟩ => blk_simp [e]
  | ⟨1, _⟩ => blk_simp [e]

/-- What the kernel stores at the gradients' rows of its scratch buffer: the input window. -/
theorem stored (x : Vec F S200x128 .f32) : (k0_pay2 x : Vec F S200x128 .f32) = x := by
  funext y
  rw [eq_ix2 y]
  pointwise [k0_pay2]

/-- What it stores there first: zeros. -/
theorem zeros (y : S224x128.Idx) : (k0_pay1 : FVec F S224x128 .f32) y = Scalar.ofBits .f32 0x00000000#32 := by
  rw [eq_ix2 y]
  pointwise [k0_pay1]

/-- The array that the kernel leaves. -/
theorem final : (dats m 0 c).arrAt 1 cfg0.N = (Cert.Terms.terms (m ((c.tc : Thread nD τ).loc main_arg0)) bitsLt_bf16_f32 three_rows : (⟨S384x224, .bf16⟩ : BufTy).Contents (Elt F)) := by
  refine (dats m 0 c).arrAt_eq_of_covers 1 _ (by decide +kernel) fun t hf y => ?_
  blk_simp
  rw [after0_1]
  unfold outsAt0
  frame_out
  have e : win0_1.index t = ![0, 0] := (by decide +kernel : ∀ t : Fin grid0.N, win0_1.index t = ![0, 0]) t
  have ey : ((View.whole main_v0).slice (win0_1.rect t)).emb y = y := funext fun a => Fin.ext (by
    match a with
    | ⟨0, _⟩ => blk_simp [e]
    | ⟨1, _⟩ => blk_simp [e])
  rw [ey]
  refine (Cert.Terms.canon_stack _ _ _ three_rows _ _ _ _).trans ?_
  rw [stored, read_unread_whole, blk]
  have hp := Cert.Terms.columns_scratch (m ((c.tc : Thread nD τ).loc main_arg0)) (View.whole cc0_scratch0) (k0_pay1 (F := F)) zeros
    inb_S224x128_S224x128_0_0 inb_S224x128_S200x128_0_0 inb_S224x128_S224x128_0_0 transposes_S224x128_p1_0_S128x224
  unfold Cert.Terms.terms
  rw [← hp]
  rfl

end Cert.Split.Hand

namespace Cert.SplitReference.Hand

open Idealize.ShloMosaic Idealize.ShloMosaic.TcCoe Idealize.SL.Sem

variable {F : FTy → Type} [FloatOps F] (m : (ℓ : Loc nD τ sig) → Buf (Elt F) ℓ) (ρ : Dev nD → PrngReg)

/-- The reference leaves the same array. -/
theorem run_terms : θ_run defs (onTc (τ := τ) (main (F := F))) ⟨m, fun _ => 0, ρ⟩ fun r => ∀ c : Dev nD,
    r.2.mem ((c.tc : Thread nD τ).loc main_v10) = (Cert.Terms.terms (m ((c.tc : Thread nD τ).loc main_arg0)) (by decide) (by decide) : (⟨S384x224, .bf16⟩ : BufTy).Contents (Elt F))
    ∧ r.2.mem ((c.tc : Thread nD τ).loc main_arg0) = m ((c.tc : Thread nD τ).loc main_arg0) :=
  (θ_run defs _ _).mono (fun r h c => ⟨(h c).1.trans (by rw [Cert.Terms.columns_concat]; rfl), (h c).2⟩) (Cert.SplitReference.Value.run m ρ)

end Cert.SplitReference.Hand

namespace Cert.Proof

open Idealize.ShloMosaic Idealize.ShloMosaic.TcCoe Idealize.SL.Sem

/-- The kernel terminates and leaves its argument unchanged. -/
theorem frame_split : Cert.quiescent_Split := fun m g _ => Cert.Split.Gen.frame m g

/-- The reference terminates and leaves its argument unchanged. -/
theorem frame_splitReference : Cert.quiescent_SplitReference := fun m g _ =>
  (θ_run Cert.SplitReference.defs _ _).mono (fun r h => ⟨fun c => (h c).2, Idealize.ShloMosaic.sem_eq_zero_of_no_sems (by decide) r.2⟩)
    (Cert.SplitReference.Hand.run_terms m g)

/-- The split terms are the reference's, bit for bit. -/
theorem bitexact_split : Cert.bitexact_Split_SplitReference := by
  intro m g m' g' _ hagree
  refine ⟨fun c => (Cert.Terms.terms (F := Bits) (m ((c.tc : Thread Cert.Split.nD Cert.Split.τ).loc Cert.Split.main_arg0)) Cert.Split.Gen.bitsLt_bf16_f32 Cert.Split.Hand.three_rows
      : (⟨Cert.Split.S384x224, .bf16⟩ : BufTy).Contents (Elt Bits)), ?_, ?_⟩
  · exact (θ_run Cert.Split.defs _ _).mono (fun r h c => ⟨(h c).1.trans (Cert.Split.Hand.final m c), (h c).2⟩) (Cert.Split.Value.run_blocks m g)
  · exact (θ_run Cert.SplitReference.defs _ _).mono (fun r h c => ⟨(h c).1.trans (by rw [hagree c]), (h c).2⟩) (Cert.SplitReference.Hand.run_terms m' g')

end Cert.Proof

end
-- ==== Proof.SplitIdeal.lean ====
module

public import proofs.«01_k».proof.Defs
public import proofs.«01_k».proof.Proof.Gen.SplitIdeal.Value
public import proofs.«01_k».proof.Proof.Gen.SplitReferenceIdeal.Run
public import proofs.«01_k».proof.Proof.Terms
public import Idealize.ShloMosaic.Lib.Pipeline.ReadBack
public import Idealize.ShloMosaic.Lib.Quiescent

@[expose] public section

set_option maxRecDepth 16384

noncomputable section

/-! # The `split` call over the extended reals: the kernel's array and the reference's -/

namespace Cert.SplitIdeal.Hand

open Cert.SplitIdeal.Gen
open Idealize.ShloMosaic Idealize.ShloMosaic.TcCoe Idealize.SL.Sem

variable {F : FTy → Type} [FloatOps F] (m : (ℓ : Loc nD τ sig) → Buf (Elt F) ℓ) (c : Dev nD)

/-- Three arrays of 128 rows are one of 384. -/
theorem three_rows : Shape.Concatenates [S128x224, S128x224, S128x224] S384x224 0 := by decide

/-- The input window is the whole array. -/
theorem blk (t : Fin cfg0.N) : (iblk m c 0 t : Vec F S200x128 .f32) = m ((c.tc : Thread nD τ).loc main_arg0) := by
  funext y
  unfold iblk
  rw [View.read_apply, cast_eq]
  have e : win0_0.index t = ![0, 0] := (by decide +kernel : ∀ t : Fin grid0.N, win0_0.index t = ![0, 0]) t
  refine congrArg (m ((c.tc : Thread nD τ).loc main_arg0)) (funext fun a => Fin.ext ?_)
  match a with
  | ⟨0, _⟩ => blk_simp [e]
  | ⟨1, _⟩ => blk_simp [e]

/-- What the kernel stores at the gradients' rows of its scratch buffer: the input window. -/
theorem stored (x : Vec F S200x128 .f32) : (k0_pay2 x : Vec F S200x128 .f32) = x := by
  funext y
  rw [eq_ix2 y]
  pointwise [k0_pay2]

/-- What it stores there first: zeros. -/
theorem zeros (y : S224x128.Idx) : (k0_pay1 : FVec F S224x128 .f32) y = Scalar.ofBits .f32 0x00000000#32 := by
  rw [eq_ix2 y]
  pointwise [k0_pay1]

/-- The array that the kernel leaves. -/
theorem final : (dats m 0 c).arrAt 1 cfg0.N = (Cert.Terms.terms (m ((c.tc : Thread nD τ).loc main_arg0)) bitsLt_bf16_f32 three_rows : (⟨S384x224, .bf16⟩ : BufTy).Contents (Elt F)) := by
  refine (dats m 0 c).arrAt_eq_of_covers 1 _ (by decide +kernel) fun t hf y => ?_
  blk_simp
  rw [after0_1]
  unfold outsAt0
  frame_out
  have e : win0_1.index t = ![0, 0] := (by decide +kernel : ∀ t : Fin grid0.N, win0_1.index t = ![0, 0]) t
  have ey : ((View.whole main_v0).slice (win0_1.rect t)).emb y = y := funext fun a => Fin.ext (by
    match a with
    | ⟨0, _⟩ => blk_simp [e]
    | ⟨1, _⟩ => blk_simp [e])
  rw [ey]
  refine (Cert.Terms.canon_stack _ _ _ three_rows _ _ _ _).trans ?_
  rw [stored, read_unread_whole, blk]
  have hp := Cert.Terms.columns_scratch (m ((c.tc : Thread nD τ).loc main_arg0)) (View.whole cc0_scratch0) (k0_pay1 (F := F)) zeros
    inb_S224x128_S224x128_0_0 inb_S224x128_S200x128_0_0 inb_S224x128_S224x128_0_0 transposes_S224x128_p1_0_S128x224
  unfold Cert.Terms.terms
  rw [← hp]
  rfl

end Cert.SplitIdeal.Hand

namespace Cert.SplitReferenceIdeal.Hand

open Idealize.ShloMosaic Idealize.ShloMosaic.TcCoe Idealize.SL.Sem

variable {F : FTy → Type} [FloatOps F] (m : (ℓ : Loc nD τ sig) → Buf (Elt F) ℓ) (ρ : Dev nD → PrngReg)

/-- The reference leaves the same array. -/
theorem run_terms : θ_run defs (onTc (τ := τ) (main (F := F))) ⟨m, fun _ => 0, ρ⟩ fun r => ∀ c : Dev nD,
    r.2.mem ((c.tc : Thread nD τ).loc main_v10) = (Cert.Terms.terms (m ((c.tc : Thread nD τ).loc main_arg0)) (by decide) (by decide) : (⟨S384x224, .bf16⟩ : BufTy).Contents (Elt F))
    ∧ r.2.mem ((c.tc : Thread nD τ).loc main_arg0) = m ((c.tc : Thread nD τ).loc main_arg0) :=
  (θ_run defs _ _).mono (fun r h c => ⟨(h c).1.trans (by rw [Cert.Terms.columns_concat]; rfl), (h c).2⟩) (Cert.SplitReferenceIdeal.Value.run m ρ)

end Cert.SplitReferenceIdeal.Hand

namespace Cert.Proof

open Idealize.ShloMosaic Idealize.ShloMosaic.TcCoe Idealize.SL.Sem

/-- The kernel terminates and leaves its argument unchanged. -/
theorem frame_splitIdeal : Cert.quiescent_SplitIdeal := fun m g _ => Cert.SplitIdeal.Gen.frame m g

/-- The reference terminates and leaves its argument unchanged. -/
theorem frame_splitReferenceIdeal : Cert.quiescent_SplitReferenceIdeal := fun m g _ =>
  (θ_run Cert.SplitReferenceIdeal.defs _ _).mono (fun r h => ⟨fun c => (h c).2, Idealize.ShloMosaic.sem_eq_zero_of_no_sems (by decide) r.2⟩)
    (Cert.SplitReferenceIdeal.Hand.run_terms m g)

/-- The split terms are the reference's, over the extended reals. -/
theorem algebraic_split : Cert.algebraic_SplitIdeal_SplitReferenceIdeal := by
  intro m g m' g' _ hagree
  refine ⟨fun c => (Cert.Terms.terms (F := Ideal) (m ((c.tc : Thread Cert.SplitIdeal.nD Cert.SplitIdeal.τ).loc Cert.SplitIdeal.main_arg0)) Cert.SplitIdeal.Gen.bitsLt_bf16_f32 Cert.SplitIdeal.Hand.three_rows
      : (⟨Cert.SplitIdeal.S384x224, .bf16⟩ : BufTy).Contents (Elt Ideal)), ?_, ?_⟩
  · exact (θ_run Cert.SplitIdeal.defs _ _).mono (fun r h c => ⟨(h c).1.trans (Cert.SplitIdeal.Hand.final m c), (h c).2⟩) (Cert.SplitIdeal.Value.run_blocks m g)
  · exact (θ_run Cert.SplitReferenceIdeal.defs _ _).mono (fun r h c => ⟨(h c).1.trans (by rw [hagree c]), (h c).2⟩) (Cert.SplitReferenceIdeal.Hand.run_terms m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_carry
public import proofs.«01_k».proof.Proof.Gen.SplitReferenceIdeal
public import proofs.«01_k».proof.Proof.Gen.SplitReferenceIdeal.Run
public import proofs.«01_k».proof.Proof.Gen.SplitReference
public import proofs.«01_k».proof.Proof.Gen.SplitReference.Run
public import proofs.«01_k».proof.Proof.Gen.SplitIdeal
public import proofs.«01_k».proof.Proof.Gen.SplitIdeal.Value
public import proofs.«01_k».proof.Proof.Gen.Split
public import proofs.«01_k».proof.Proof.Gen.Split.Value
public import proofs.«01_k».proof.Proof.Frames
public import proofs.«01_k».proof.Proof.Final
public import proofs.«01_k».proof.Proof.Split
public import proofs.«01_k».proof.Proof.SplitIdeal

@[expose] public section

noncomputable section

namespace Cert.Proof

theorem claim : Cert.Claim := ⟨Cert.Kernel.Gen.facts, Cert.KernelIdeal.Gen.facts, Cert.ReferenceIdeal.Gen.facts, Cert.Split.Gen.facts,
  Cert.SplitIdeal.Gen.facts, Cert.SplitReference.Gen.facts, Cert.SplitReferenceIdeal.Gen.facts, Cert.Pre_no_carry.Gen.facts,
  frame_kernel, frame_kernelIdeal, frame_referenceIdeal, fun m g _ => frame_referenceIdeal m g trivial,
  frame_split, frame_splitIdeal, frame_splitReference, frame_splitReferenceIdeal,
  trivial, algebraic, trivial, bitexact_split, algebraic_split⟩

end Cert.Proof

end
